-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelKV (m : (ℓ : Loc Cert.KernelKV.nD Cert.KernelKV.τ Cert.KernelKV.sig) → Buf (Elt Bits) ℓ) : Prop :=
  True

def Pre_KernelKVIdeal (m : (ℓ : Loc Cert.KernelKVIdeal.nD Cert.KernelKVIdeal.τ Cert.KernelKVIdeal.sig) → Buf (Elt Ideal) ℓ) : Prop :=
  True

def Pre_ReferenceKVIdeal (m : (ℓ : Loc Cert.ReferenceKVIdeal.nD Cert.ReferenceKVIdeal.τ Cert.ReferenceKVIdeal.sig) → Buf (Elt Ideal) ℓ) : Prop :=
  True

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_ReferenceQIdeal (m : (ℓ : Loc Cert.ReferenceQIdeal.nD Cert.ReferenceQIdeal.τ Cert.ReferenceQIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_KernelGateIdeal_sums_of [hPre_sums_of : Cert.Pre_sums_of.Facts] (m : (ℓ : Loc Cert.KernelGateIdeal.nD Cert.KernelGateIdeal.τ Cert.KernelGateIdeal.sig) → Buf (Elt Ideal) ℓ) : Prop :=
  ∀ c : Dev Cert.KernelGateIdeal.nD,
    (Cert.Pre_sums_of.fn (F := Ideal) (m ((c.tc : Thread Cert.KernelGateIdeal.nD Cert.KernelGateIdeal.τ).loc Cert.KernelGateIdeal.main_arg0)) (m ((c.tc : Thread Cert.KernelGateIdeal.nD Cert.KernelGateIdeal.τ).loc Cert.KernelGateIdeal.main_arg1)) (m ((c.tc : Thread Cert.KernelGateIdeal.nD Cert.KernelGateIdeal.τ).loc Cert.KernelGateIdeal.main_arg2)) (m ((c.tc : Thread Cert.KernelGateIdeal.nD Cert.KernelGateIdeal.τ).loc Cert.KernelGateIdeal.main_arg3)) (m ((c.tc : Thread Cert.KernelGateIdeal.nD Cert.KernelGateIdeal.τ).loc Cert.KernelGateIdeal.main_arg4)) (m ((c.tc : Thread Cert.KernelGateIdeal.nD Cert.KernelGateIdeal.τ).loc Cert.KernelGateIdeal.main_arg5))) = (fun _ => 1#1)

def Pre_ReferenceGateIdeal (m : (ℓ : Loc Cert.ReferenceGateIdeal.nD Cert.ReferenceGateIdeal.τ Cert.ReferenceGateIdeal.sig) → Buf (Elt Ideal) ℓ) : Prop :=
  True

def Pre_ReferenceGateIdeal_sums_of [hPre_sums_of : Cert.Pre_sums_of.Facts] (m : (ℓ : Loc Cert.ReferenceGateIdeal.nD Cert.ReferenceGateIdeal.τ Cert.ReferenceGateIdeal.sig) → Buf (Elt Ideal) ℓ) : Prop :=
  ∀ c : Dev Cert.ReferenceGateIdeal.nD,
    (Cert.Pre_sums_of.fn (F := Ideal) (m ((c.tc : Thread Cert.ReferenceGateIdeal.nD Cert.ReferenceGateIdeal.τ).loc Cert.ReferenceGateIdeal.main_arg0)) (m ((c.tc : Thread Cert.ReferenceGateIdeal.nD Cert.ReferenceGateIdeal.τ).loc Cert.ReferenceGateIdeal.main_arg1)) (m ((c.tc : Thread Cert.ReferenceGateIdeal.nD Cert.ReferenceGateIdeal.τ).loc Cert.ReferenceGateIdeal.main_arg2)) (m ((c.tc : Thread Cert.ReferenceGateIdeal.nD Cert.ReferenceGateIdeal.τ).loc Cert.ReferenceGateIdeal.main_arg3)) (m ((c.tc : Thread Cert.ReferenceGateIdeal.nD Cert.ReferenceGateIdeal.τ).loc Cert.ReferenceGateIdeal.main_arg4)) (m ((c.tc : Thread Cert.ReferenceGateIdeal.nD Cert.ReferenceGateIdeal.τ).loc Cert.ReferenceGateIdeal.main_arg5))) = (fun _ => 1#1)

def Pre_KernelRoute (m : (ℓ : Loc Cert.KernelRoute.nD Cert.KernelRoute.τ Cert.KernelRoute.sig) → Buf (Elt Bits) ℓ) : Prop :=
  True

def Pre_KernelRouteIdeal (m : (ℓ : Loc Cert.KernelRouteIdeal.nD Cert.KernelRouteIdeal.τ Cert.KernelRouteIdeal.sig) → Buf (Elt Ideal) ℓ) : Prop :=
  True

def Pre_KernelRouteIdeal_finite_sums [hPre_finite_sums : Cert.Pre_finite_sums.Facts] (m : (ℓ : Loc Cert.KernelRouteIdeal.nD Cert.KernelRouteIdeal.τ Cert.KernelRouteIdeal.sig) → Buf (Elt Ideal) ℓ) : Prop :=
  ∀ c : Dev Cert.KernelRouteIdeal.nD,
    (Cert.Pre_finite_sums.fn (F := Ideal) (m ((c.tc : Thread Cert.KernelRouteIdeal.nD Cert.KernelRouteIdeal.τ).loc Cert.KernelRouteIdeal.main_arg0)) (m ((c.tc : Thread Cert.KernelRouteIdeal.nD Cert.KernelRouteIdeal.τ).loc Cert.KernelRouteIdeal.main_arg1))) = (fun _ => 1#1)

def Pre_ReferenceRouteIdeal (m : (ℓ : Loc Cert.ReferenceRouteIdeal.nD Cert.ReferenceRouteIdeal.τ Cert.ReferenceRouteIdeal.sig) → Buf (Elt Ideal) ℓ) : Prop :=
  True

def Pre_ReferenceRouteIdeal_finite_sums [hPre_finite_sums : Cert.Pre_finite_sums.Facts] (m : (ℓ : Loc Cert.ReferenceRouteIdeal.nD Cert.ReferenceRouteIdeal.τ Cert.ReferenceRouteIdeal.sig) → Buf (Elt Ideal) ℓ) : Prop :=
  ∀ c : Dev Cert.ReferenceRouteIdeal.nD,
    (Cert.Pre_finite_sums.fn (F := Ideal) (m ((c.tc : Thread Cert.ReferenceRouteIdeal.nD Cert.ReferenceRouteIdeal.τ).loc Cert.ReferenceRouteIdeal.main_arg0)) (m ((c.tc : Thread Cert.ReferenceRouteIdeal.nD Cert.ReferenceRouteIdeal.τ).loc Cert.ReferenceRouteIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelKV [hKernelKV : Cert.KernelKV.Facts] : Prop :=
  ∀ (m : (ℓ : Loc Cert.KernelKV.nD Cert.KernelKV.τ Cert.KernelKV.sig) → Buf (Elt Bits) ℓ) (g : Dev Cert.KernelKV.nD → PrngReg), Pre_KernelKV m →
    θ_run (Cert.KernelKV.defs (F := Bits)) (onTc (τ := Cert.KernelKV.τ) (Cert.KernelKV.main (F := Bits))) ⟨m, fun _ => 0, g⟩ (fun r => (∀ c : Dev Cert.KernelKV.nD,
      r.2.mem ((c.tc : Thread Cert.KernelKV.nD Cert.KernelKV.τ).loc Cert.KernelKV.main_arg0) = m ((c.tc : Thread Cert.KernelKV.nD Cert.KernelKV.τ).loc Cert.KernelKV.main_arg0)
      ∧ r.2.mem ((c.tc : Thread Cert.KernelKV.nD Cert.KernelKV.τ).loc Cert.KernelKV.main_arg1) = m ((c.tc : Thread Cert.KernelKV.nD Cert.KernelKV.τ).loc Cert.KernelKV.main_arg1)
      ∧ r.2.mem ((c.tc : Thread Cert.KernelKV.nD Cert.KernelKV.τ).loc Cert.KernelKV.main_arg2) = m ((c.tc : Thread Cert.KernelKV.nD Cert.KernelKV.τ).loc Cert.KernelKV.main_arg2))
      ∧ r.2.sem = fun _ => 0)

def quiescent_KernelKVIdeal [hKernelKVIdeal : Cert.KernelKVIdeal.Facts] : Prop :=
  ∀ (m : (ℓ : Loc Cert.KernelKVIdeal.nD Cert.KernelKVIdeal.τ Cert.KernelKVIdeal.sig) → Buf (Elt Ideal) ℓ) (g : Dev Cert.KernelKVIdeal.nD → PrngReg), Pre_KernelKVIdeal m →
    θ_run (Cert.KernelKVIdeal.defs (F := Ideal)) (onTc (τ := Cert.KernelKVIdeal.τ) (Cert.KernelKVIdeal.main (F := Ideal))) ⟨m, fun _ => 0, g⟩ (fun r => (∀ c : Dev Cert.KernelKVIdeal.nD,
      r.2.mem ((c.tc : Thread Cert.KernelKVIdeal.nD Cert.KernelKVIdeal.τ).loc Cert.KernelKVIdeal.main_arg0) = m ((c.tc : Thread Cert.KernelKVIdeal.nD Cert.KernelKVIdeal.τ).loc Cert.KernelKVIdeal.main_arg0)
      ∧ r.2.mem ((c.tc : Thread Cert.KernelKVIdeal.nD Cert.KernelKVIdeal.τ).loc Cert.KernelKVIdeal.main_arg1) = m ((c.tc : Thread Cert.KernelKVIdeal.nD Cert.KernelKVIdeal.τ).loc Cert.KernelKVIdeal.main_arg1)
      ∧ r.2.mem ((c.tc : Thread Cert.KernelKVIdeal.nD Cert.KernelKVIdeal.τ).loc Cert.KernelKVIdeal.main_arg2) = m ((c.tc : Thread Cert.KernelKVIdeal.nD Cert.KernelKVIdeal.τ).loc Cert.KernelKVIdeal.main_arg2))
      ∧ r.2.sem = fun _ => 0)

def quiescent_ReferenceKVIdeal [hReferenceKVIdeal : Cert.ReferenceKVIdeal.Facts] : Prop :=
  ∀ (m : (ℓ : Loc Cert.ReferenceKVIdeal.nD Cert.ReferenceKVIdeal.τ Cert.ReferenceKVIdeal.sig) → Buf (Elt Ideal) ℓ) (g : Dev Cert.ReferenceKVIdeal.nD → PrngReg), Pre_ReferenceKVIdeal m →
    θ_run (Cert.ReferenceKVIdeal.defs (F := Ideal)) (onTc (τ := Cert.ReferenceKVIdeal.τ) (Cert.ReferenceKVIdeal.main (F := Ideal))) ⟨m, fun _ => 0, g⟩ (fun r => (∀ c : Dev Cert.ReferenceKVIdeal.nD,
      r.2.mem ((c.tc : Thread Cert.ReferenceKVIdeal.nD Cert.ReferenceKVIdeal.τ).loc Cert.ReferenceKVIdeal.main_arg0) = m ((c.tc : Thread Cert.ReferenceKVIdeal.nD Cert.ReferenceKVIdeal.τ).loc Cert.ReferenceKVIdeal.main_arg0)
      ∧ r.2.mem ((c.tc : Thread Cert.ReferenceKVIdeal.nD Cert.ReferenceKVIdeal.τ).loc Cert.ReferenceKVIdeal.main_arg1) = m ((c.tc : Thread Cert.ReferenceKVIdeal.nD Cert.ReferenceKVIdeal.τ).loc Cert.ReferenceKVIdeal.main_arg1)
      ∧ r.2.mem ((c.tc : Thread Cert.ReferenceKVIdeal.nD Cert.ReferenceKVIdeal.τ).loc Cert.ReferenceKVIdeal.main_arg2) = m ((c.tc : Thread Cert.ReferenceKVIdeal.nD Cert.ReferenceKVIdeal.τ).loc Cert.ReferenceKVIdeal.main_arg2))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0)
      ∧ r.2.mem ((c.tc : Thread Cert.KernelQ.nD Cert.KernelQ.τ).loc Cert.KernelQ.main_arg1) = m ((c.tc : Thread Cert.KernelQ.nD Cert.KernelQ.τ).loc Cert.KernelQ.main_arg1)
      ∧ r.2.mem ((c.tc : Thread Cert.KernelQ.nD Cert.KernelQ.τ).loc Cert.KernelQ.main_arg2) = m ((c.tc : Thread Cert.KernelQ.nD Cert.KernelQ.τ).loc Cert.KernelQ.main_arg2))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
      ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1)
      ∧ r.2.mem ((c.tc : Thread Cert.ReferenceQIdeal.nD Cert.ReferenceQIdeal.τ).loc Cert.ReferenceQIdeal.main_arg2) = m ((c.tc : Thread Cert.ReferenceQIdeal.nD Cert.ReferenceQIdeal.τ).loc Cert.ReferenceQIdeal.main_arg2))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2)
      ∧ r.2.mem ((c.tc : Thread Cert.KernelGate.nD Cert.KernelGate.τ).loc Cert.KernelGate.main_arg3) = m ((c.tc : Thread Cert.KernelGate.nD Cert.KernelGate.τ).loc Cert.KernelGate.main_arg3)
      ∧ r.2.mem ((c.tc : Thread Cert.KernelGate.nD Cert.KernelGate.τ).loc Cert.KernelGate.main_arg4) = m ((c.tc : Thread Cert.KernelGate.nD Cert.KernelGate.τ).loc Cert.KernelGate.main_arg4)
      ∧ r.2.mem ((c.tc : Thread Cert.KernelGate.nD Cert.KernelGate.τ).loc Cert.KernelGate.main_arg5) = m ((c.tc : Thread Cert.KernelGate.nD Cert.KernelGate.τ).loc Cert.KernelGate.main_arg5))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
      ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3)
      ∧ r.2.mem ((c.tc : Thread Cert.KernelGateIdeal.nD Cert.KernelGateIdeal.τ).loc Cert.KernelGateIdeal.main_arg4) = m ((c.tc : Thread Cert.KernelGateIdeal.nD Cert.KernelGateIdeal.τ).loc Cert.KernelGateIdeal.main_arg4)
      ∧ r.2.mem ((c.tc : Thread Cert.KernelGateIdeal.nD Cert.KernelGateIdeal.τ).loc Cert.KernelGateIdeal.main_arg5) = m ((c.tc : Thread Cert.KernelGateIdeal.nD Cert.KernelGateIdeal.τ).loc Cert.KernelGateIdeal.main_arg5))
      ∧ r.2.sem = fun _ => 0)

def quiescent_KernelGateIdeal_pre_sums_of [hKernelGateIdeal : Cert.KernelGateIdeal.Facts] [hPre_sums_of : Cert.Pre_sums_of.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal_sums_of m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
      ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3)
      ∧ r.2.mem ((c.tc : Thread Cert.KernelGateIdeal.nD Cert.KernelGateIdeal.τ).loc Cert.KernelGateIdeal.main_arg4) = m ((c.tc : Thread Cert.KernelGateIdeal.nD Cert.KernelGateIdeal.τ).loc Cert.KernelGateIdeal.main_arg4)
      ∧ r.2.mem ((c.tc : Thread Cert.KernelGateIdeal.nD Cert.KernelGateIdeal.τ).loc Cert.KernelGateIdeal.main_arg5) = m ((c.tc : Thread Cert.KernelGateIdeal.nD Cert.KernelGateIdeal.τ).loc Cert.KernelGateIdeal.main_arg5))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2)
      ∧ r.2.mem ((c.tc : Thread Cert.ReferenceGateIdeal.nD Cert.ReferenceGateIdeal.τ).loc Cert.ReferenceGateIdeal.main_arg3) = m ((c.tc : Thread Cert.ReferenceGateIdeal.nD Cert.ReferenceGateIdeal.τ).loc Cert.ReferenceGateIdeal.main_arg3)
      ∧ r.2.mem ((c.tc : Thread Cert.ReferenceGateIdeal.nD Cert.ReferenceGateIdeal.τ).loc Cert.ReferenceGateIdeal.main_arg4) = m ((c.tc : Thread Cert.ReferenceGateIdeal.nD Cert.ReferenceGateIdeal.τ).loc Cert.ReferenceGateIdeal.main_arg4)
      ∧ r.2.mem ((c.tc : Thread Cert.ReferenceGateIdeal.nD Cert.ReferenceGateIdeal.τ).loc Cert.ReferenceGateIdeal.main_arg5) = m ((c.tc : Thread Cert.ReferenceGateIdeal.nD Cert.ReferenceGateIdeal.τ).loc Cert.ReferenceGateIdeal.main_arg5))
      ∧ r.2.sem = fun _ => 0)

def quiescent_ReferenceGateIdeal_pre_sums_of [hReferenceGateIdeal : Cert.ReferenceGateIdeal.Facts] [hPre_sums_of : Cert.Pre_sums_of.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal_sums_of m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2)
      ∧ r.2.mem ((c.tc : Thread Cert.ReferenceGateIdeal.nD Cert.ReferenceGateIdeal.τ).loc Cert.ReferenceGateIdeal.main_arg3) = m ((c.tc : Thread Cert.ReferenceGateIdeal.nD Cert.ReferenceGateIdeal.τ).loc Cert.ReferenceGateIdeal.main_arg3)
      ∧ r.2.mem ((c.tc : Thread Cert.ReferenceGateIdeal.nD Cert.ReferenceGateIdeal.τ).loc Cert.ReferenceGateIdeal.main_arg4) = m ((c.tc : Thread Cert.ReferenceGateIdeal.nD Cert.ReferenceGateIdeal.τ).loc Cert.ReferenceGateIdeal.main_arg4)
      ∧ r.2.mem ((c.tc : Thread Cert.ReferenceGateIdeal.nD Cert.ReferenceGateIdeal.τ).loc Cert.ReferenceGateIdeal.main_arg5) = m ((c.tc : Thread Cert.ReferenceGateIdeal.nD Cert.ReferenceGateIdeal.τ).loc Cert.ReferenceGateIdeal.main_arg5))
      ∧ r.2.sem = fun _ => 0)

def quiescent_KernelRoute [hKernelRoute : Cert.KernelRoute.Facts] : Prop :=
  ∀ (m : (ℓ : Loc Cert.KernelRoute.nD Cert.KernelRoute.τ Cert.KernelRoute.sig) → Buf (Elt Bits) ℓ) (g : Dev Cert.KernelRoute.nD → PrngReg), Pre_KernelRoute m →
    θ_run (Cert.KernelRoute.defs (F := Bits)) (onTc (τ := Cert.KernelRoute.τ) (Cert.KernelRoute.main (F := Bits))) ⟨m, fun _ => 0, g⟩ (fun r => (∀ c : Dev Cert.KernelRoute.nD,
      r.2.mem ((c.tc : Thread Cert.KernelRoute.nD Cert.KernelRoute.τ).loc Cert.KernelRoute.main_arg0) = m ((c.tc : Thread Cert.KernelRoute.nD Cert.KernelRoute.τ).loc Cert.KernelRoute.main_arg0)
      ∧ r.2.mem ((c.tc : Thread Cert.KernelRoute.nD Cert.KernelRoute.τ).loc Cert.KernelRoute.main_arg1) = m ((c.tc : Thread Cert.KernelRoute.nD Cert.KernelRoute.τ).loc Cert.KernelRoute.main_arg1))
      ∧ r.2.sem = fun _ => 0)

def quiescent_KernelRouteIdeal [hKernelRouteIdeal : Cert.KernelRouteIdeal.Facts] : Prop :=
  ∀ (m : (ℓ : Loc Cert.KernelRouteIdeal.nD Cert.KernelRouteIdeal.τ Cert.KernelRouteIdeal.sig) → Buf (Elt Ideal) ℓ) (g : Dev Cert.KernelRouteIdeal.nD → PrngReg), Pre_KernelRouteIdeal m →
    θ_run (Cert.KernelRouteIdeal.defs (F := Ideal)) (onTc (τ := Cert.KernelRouteIdeal.τ) (Cert.KernelRouteIdeal.main (F := Ideal))) ⟨m, fun _ => 0, g⟩ (fun r => (∀ c : Dev Cert.KernelRouteIdeal.nD,
      r.2.mem ((c.tc : Thread Cert.KernelRouteIdeal.nD Cert.KernelRouteIdeal.τ).loc Cert.KernelRouteIdeal.main_arg0) = m ((c.tc : Thread Cert.KernelRouteIdeal.nD Cert.KernelRouteIdeal.τ).loc Cert.KernelRouteIdeal.main_arg0)
      ∧ r.2.mem ((c.tc : Thread Cert.KernelRouteIdeal.nD Cert.KernelRouteIdeal.τ).loc Cert.KernelRouteIdeal.main_arg1) = m ((c.tc : Thread Cert.KernelRouteIdeal.nD Cert.KernelRouteIdeal.τ).loc Cert.KernelRouteIdeal.main_arg1))
      ∧ r.2.sem = fun _ => 0)

def quiescent_KernelRouteIdeal_pre_finite_sums [hKernelRouteIdeal : Cert.KernelRouteIdeal.Facts] [hPre_finite_sums : Cert.Pre_finite_sums.Facts] : Prop :=
  ∀ (m : (ℓ : Loc Cert.KernelRouteIdeal.nD Cert.KernelRouteIdeal.τ Cert.KernelRouteIdeal.sig) → Buf (Elt Ideal) ℓ) (g : Dev Cert.KernelRouteIdeal.nD → PrngReg), Pre_KernelRouteIdeal_finite_sums m →
    θ_run (Cert.KernelRouteIdeal.defs (F := Ideal)) (onTc (τ := Cert.KernelRouteIdeal.τ) (Cert.KernelRouteIdeal.main (F := Ideal))) ⟨m, fun _ => 0, g⟩ (fun r => (∀ c : Dev Cert.KernelRouteIdeal.nD,
      r.2.mem ((c.tc : Thread Cert.KernelRouteIdeal.nD Cert.KernelRouteIdeal.τ).loc Cert.KernelRouteIdeal.main_arg0) = m ((c.tc : Thread Cert.KernelRouteIdeal.nD Cert.KernelRouteIdeal.τ).loc Cert.KernelRouteIdeal.main_arg0)
      ∧ r.2.mem ((c.tc : Thread Cert.KernelRouteIdeal.nD Cert.KernelRouteIdeal.τ).loc Cert.KernelRouteIdeal.main_arg1) = m ((c.tc : Thread Cert.KernelRouteIdeal.nD Cert.KernelRouteIdeal.τ).loc Cert.KernelRouteIdeal.main_arg1))
      ∧ r.2.sem = fun _ => 0)

def quiescent_ReferenceRouteIdeal [hReferenceRouteIdeal : Cert.ReferenceRouteIdeal.Facts] : Prop :=
  ∀ (m : (ℓ : Loc Cert.ReferenceRouteIdeal.nD Cert.ReferenceRouteIdeal.τ Cert.ReferenceRouteIdeal.sig) → Buf (Elt Ideal) ℓ) (g : Dev Cert.ReferenceRouteIdeal.nD → PrngReg), Pre_ReferenceRouteIdeal m →
    θ_run (Cert.ReferenceRouteIdeal.defs (F := Ideal)) (onTc (τ := Cert.ReferenceRouteIdeal.τ) (Cert.ReferenceRouteIdeal.main (F := Ideal))) ⟨m, fun _ => 0, g⟩ (fun r => (∀ c : Dev Cert.ReferenceRouteIdeal.nD,
      r.2.mem ((c.tc : Thread Cert.ReferenceRouteIdeal.nD Cert.ReferenceRouteIdeal.τ).loc Cert.ReferenceRouteIdeal.main_arg0) = m ((c.tc : Thread Cert.ReferenceRouteIdeal.nD Cert.ReferenceRouteIdeal.τ).loc Cert.ReferenceRouteIdeal.main_arg0)
      ∧ r.2.mem ((c.tc : Thread Cert.ReferenceRouteIdeal.nD Cert.ReferenceRouteIdeal.τ).loc Cert.ReferenceRouteIdeal.main_arg1) = m ((c.tc : Thread Cert.ReferenceRouteIdeal.nD Cert.ReferenceRouteIdeal.τ).loc Cert.ReferenceRouteIdeal.main_arg1))
      ∧ r.2.sem = fun _ => 0)

def quiescent_ReferenceRouteIdeal_pre_finite_sums [hReferenceRouteIdeal : Cert.ReferenceRouteIdeal.Facts] [hPre_finite_sums : Cert.Pre_finite_sums.Facts] : Prop :=
  ∀ (m : (ℓ : Loc Cert.ReferenceRouteIdeal.nD Cert.ReferenceRouteIdeal.τ Cert.ReferenceRouteIdeal.sig) → Buf (Elt Ideal) ℓ) (g : Dev Cert.ReferenceRouteIdeal.nD → PrngReg), Pre_ReferenceRouteIdeal_finite_sums m →
    θ_run (Cert.ReferenceRouteIdeal.defs (F := Ideal)) (onTc (τ := Cert.ReferenceRouteIdeal.τ) (Cert.ReferenceRouteIdeal.main (F := Ideal))) ⟨m, fun _ => 0, g⟩ (fun r => (∀ c : Dev Cert.ReferenceRouteIdeal.nD,
      r.2.mem ((c.tc : Thread Cert.ReferenceRouteIdeal.nD Cert.ReferenceRouteIdeal.τ).loc Cert.ReferenceRouteIdeal.main_arg0) = m ((c.tc : Thread Cert.ReferenceRouteIdeal.nD Cert.ReferenceRouteIdeal.τ).loc Cert.ReferenceRouteIdeal.main_arg0)
      ∧ r.2.mem ((c.tc : Thread Cert.ReferenceRouteIdeal.nD Cert.ReferenceRouteIdeal.τ).loc Cert.ReferenceRouteIdeal.main_arg1) = m ((c.tc : Thread Cert.ReferenceRouteIdeal.nD Cert.ReferenceRouteIdeal.τ).loc Cert.ReferenceRouteIdeal.main_arg1))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelKV_KernelKVIdeal : Prop :=
  True

def algebraic_KernelKVIdeal_ReferenceKVIdeal [hKernelKVIdeal : Cert.KernelKVIdeal.Facts] [hReferenceKVIdeal : Cert.ReferenceKVIdeal.Facts] : Prop :=
  ∀ (m : (ℓ : Loc Cert.KernelKVIdeal.nD Cert.KernelKVIdeal.τ Cert.KernelKVIdeal.sig) → Buf (Elt Ideal) ℓ) (g : Dev Cert.KernelKVIdeal.nD → PrngReg)
    (m' : (ℓ : Loc Cert.ReferenceKVIdeal.nD Cert.ReferenceKVIdeal.τ Cert.ReferenceKVIdeal.sig) → Buf (Elt Ideal) ℓ) (g' : Dev Cert.ReferenceKVIdeal.nD → PrngReg), Pre_KernelKVIdeal m →
    (∀ c : Dev Cert.KernelKVIdeal.nD,
      m' ((c.tc : Thread Cert.ReferenceKVIdeal.nD Cert.ReferenceKVIdeal.τ).loc Cert.ReferenceKVIdeal.main_arg0) = m ((c.tc : Thread Cert.KernelKVIdeal.nD Cert.KernelKVIdeal.τ).loc Cert.KernelKVIdeal.main_arg0)
      ∧ m' ((c.tc : Thread Cert.ReferenceKVIdeal.nD Cert.ReferenceKVIdeal.τ).loc Cert.ReferenceKVIdeal.main_arg1) = m ((c.tc : Thread Cert.KernelKVIdeal.nD Cert.KernelKVIdeal.τ).loc Cert.KernelKVIdeal.main_arg1)
      ∧ m' ((c.tc : Thread Cert.ReferenceKVIdeal.nD Cert.ReferenceKVIdeal.τ).loc Cert.ReferenceKVIdeal.main_arg2) = m ((c.tc : Thread Cert.KernelKVIdeal.nD Cert.KernelKVIdeal.τ).loc Cert.KernelKVIdeal.main_arg2)) →
    ∃ (v0 : (c : Dev Cert.KernelKVIdeal.nD) → Buf (Elt Ideal) ((c.tc : Thread Cert.KernelKVIdeal.nD Cert.KernelKVIdeal.τ).loc Cert.KernelKVIdeal.main_v7_0)) (v1 : (c : Dev Cert.KernelKVIdeal.nD) → Buf (Elt Ideal) ((c.tc : Thread Cert.KernelKVIdeal.nD Cert.KernelKVIdeal.τ).loc Cert.KernelKVIdeal.main_v7_1)),
      θ_run (Cert.KernelKVIdeal.defs (F := Ideal)) (onTc (τ := Cert.KernelKVIdeal.τ) (Cert.KernelKVIdeal.main (F := Ideal))) ⟨m, fun _ => 0, g⟩ (fun r => ∀ c : Dev Cert.KernelKVIdeal.nD,
          r.2.mem ((c.tc : Thread Cert.KernelKVIdeal.nD Cert.KernelKVIdeal.τ).loc Cert.KernelKVIdeal.main_v7_0) = v0 c
          ∧ r.2.mem ((c.tc : Thread Cert.KernelKVIdeal.nD Cert.KernelKVIdeal.τ).loc Cert.KernelKVIdeal.main_v7_1) = v1 c
          ∧ r.2.mem ((c.tc : Thread Cert.KernelKVIdeal.nD Cert.KernelKVIdeal.τ).loc Cert.KernelKVIdeal.main_arg0) = m ((c.tc : Thread Cert.KernelKVIdeal.nD Cert.KernelKVIdeal.τ).loc Cert.KernelKVIdeal.main_arg0)
          ∧ r.2.mem ((c.tc : Thread Cert.KernelKVIdeal.nD Cert.KernelKVIdeal.τ).loc Cert.KernelKVIdeal.main_arg1) = m ((c.tc : Thread Cert.KernelKVIdeal.nD Cert.KernelKVIdeal.τ).loc Cert.KernelKVIdeal.main_arg1)
          ∧ r.2.mem ((c.tc : Thread Cert.KernelKVIdeal.nD Cert.KernelKVIdeal.τ).loc Cert.KernelKVIdeal.main_arg2) = m ((c.tc : Thread Cert.KernelKVIdeal.nD Cert.KernelKVIdeal.τ).loc Cert.KernelKVIdeal.main_arg2))
      ∧ θ_run (Cert.ReferenceKVIdeal.defs (F := Ideal)) (onTc (τ := Cert.ReferenceKVIdeal.τ) (Cert.ReferenceKVIdeal.main (F := Ideal))) ⟨m', fun _ => 0, g'⟩ (fun r => ∀ c : Dev Cert.ReferenceKVIdeal.nD,
          r.2.mem ((c.tc : Thread Cert.ReferenceKVIdeal.nD Cert.ReferenceKVIdeal.τ).loc Cert.ReferenceKVIdeal.main_v7) = v0 c
          ∧ r.2.mem ((c.tc : Thread Cert.ReferenceKVIdeal.nD Cert.ReferenceKVIdeal.τ).loc Cert.ReferenceKVIdeal.main_v8) = v1 c
          ∧ r.2.mem ((c.tc : Thread Cert.ReferenceKVIdeal.nD Cert.ReferenceKVIdeal.τ).loc Cert.ReferenceKVIdeal.main_arg0) = m' ((c.tc : Thread Cert.ReferenceKVIdeal.nD Cert.ReferenceKVIdeal.τ).loc Cert.ReferenceKVIdeal.main_arg0)
          ∧ r.2.mem ((c.tc : Thread Cert.ReferenceKVIdeal.nD Cert.ReferenceKVIdeal.τ).loc Cert.ReferenceKVIdeal.main_arg1) = m' ((c.tc : Thread Cert.ReferenceKVIdeal.nD Cert.ReferenceKVIdeal.τ).loc Cert.ReferenceKVIdeal.main_arg1)
          ∧ r.2.mem ((c.tc : Thread Cert.ReferenceKVIdeal.nD Cert.ReferenceKVIdeal.τ).loc Cert.ReferenceKVIdeal.main_arg2) = m' ((c.tc : Thread Cert.ReferenceKVIdeal.nD Cert.ReferenceKVIdeal.τ).loc Cert.ReferenceKVIdeal.main_arg2))

def preserves_KernelQ_KernelQIdeal : Prop :=
  True

def algebraic_KernelQIdeal_ReferenceQIdeal [hKernelQIdeal : Cert.KernelQIdeal.Facts] [hReferenceQIdeal : Cert.ReferenceQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)
      ∧ m' ((c.tc : Thread Cert.ReferenceQIdeal.nD Cert.ReferenceQIdeal.τ).loc Cert.ReferenceQIdeal.main_arg1) = m ((c.tc : Thread Cert.KernelQIdeal.nD Cert.KernelQIdeal.τ).loc Cert.KernelQIdeal.main_arg1)
      ∧ m' ((c.tc : Thread Cert.ReferenceQIdeal.nD Cert.ReferenceQIdeal.τ).loc Cert.ReferenceQIdeal.main_arg2) = m ((c.tc : Thread Cert.KernelQIdeal.nD Cert.KernelQIdeal.τ).loc Cert.KernelQIdeal.main_arg2)) →
    ∃ (v0 : (c : Dev Cert.KernelQIdeal.nD) → Buf (Elt Ideal) ((c.tc : Thread Cert.KernelQIdeal.nD Cert.KernelQIdeal.τ).loc Cert.KernelQIdeal.main_v8_0)) (v1 : (c : Dev Cert.KernelQIdeal.nD) → Buf (Elt Ideal) ((c.tc : Thread Cert.KernelQIdeal.nD Cert.KernelQIdeal.τ).loc Cert.KernelQIdeal.main_v8_1)) (v2 : (c : Dev Cert.KernelQIdeal.nD) → Buf (Elt Ideal) ((c.tc : Thread Cert.KernelQIdeal.nD Cert.KernelQIdeal.τ).loc Cert.KernelQIdeal.main_v8_2)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v8_0) = v0 c
          ∧ r.2.mem ((c.tc : Thread Cert.KernelQIdeal.nD Cert.KernelQIdeal.τ).loc Cert.KernelQIdeal.main_v8_1) = v1 c
          ∧ r.2.mem ((c.tc : Thread Cert.KernelQIdeal.nD Cert.KernelQIdeal.τ).loc Cert.KernelQIdeal.main_v8_2) = v2 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
          ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
          ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v8) = v0 c
          ∧ r.2.mem ((c.tc : Thread Cert.ReferenceQIdeal.nD Cert.ReferenceQIdeal.τ).loc Cert.ReferenceQIdeal.main_v10) = v1 c
          ∧ r.2.mem ((c.tc : Thread Cert.ReferenceQIdeal.nD Cert.ReferenceQIdeal.τ).loc Cert.ReferenceQIdeal.main_v11) = v2 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0)
          ∧ r.2.mem ((c.tc : Thread Cert.ReferenceQIdeal.nD Cert.ReferenceQIdeal.τ).loc Cert.ReferenceQIdeal.main_arg1) = m' ((c.tc : Thread Cert.ReferenceQIdeal.nD Cert.ReferenceQIdeal.τ).loc Cert.ReferenceQIdeal.main_arg1)
          ∧ r.2.mem ((c.tc : Thread Cert.ReferenceQIdeal.nD Cert.ReferenceQIdeal.τ).loc Cert.ReferenceQIdeal.main_arg2) = m' ((c.tc : Thread Cert.ReferenceQIdeal.nD Cert.ReferenceQIdeal.τ).loc Cert.ReferenceQIdeal.main_arg2))

def preserves_KernelGate_KernelGateIdeal : Prop :=
  IdealRules.named_const.Statement Cert.KernelGateIdeal.κ "inv_n" .f32 0x37272F05#32 ((1 / 100352 : ℝ) : EReal)

def algebraic_KernelGateIdeal_ReferenceGateIdeal_pre_sums_of [hKernelGateIdeal : Cert.KernelGateIdeal.Facts] [hReferenceGateIdeal : Cert.ReferenceGateIdeal.Facts] [hPre_sums_of : Cert.Pre_sums_of.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal_sums_of m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)
      ∧ m' ((c.tc : Thread Cert.ReferenceGateIdeal.nD Cert.ReferenceGateIdeal.τ).loc Cert.ReferenceGateIdeal.main_arg3) = m ((c.tc : Thread Cert.KernelGateIdeal.nD Cert.KernelGateIdeal.τ).loc Cert.KernelGateIdeal.main_arg3)
      ∧ m' ((c.tc : Thread Cert.ReferenceGateIdeal.nD Cert.ReferenceGateIdeal.τ).loc Cert.ReferenceGateIdeal.main_arg4) = m ((c.tc : Thread Cert.KernelGateIdeal.nD Cert.KernelGateIdeal.τ).loc Cert.KernelGateIdeal.main_arg4)
      ∧ m' ((c.tc : Thread Cert.ReferenceGateIdeal.nD Cert.ReferenceGateIdeal.τ).loc Cert.ReferenceGateIdeal.main_arg5) = m ((c.tc : Thread Cert.KernelGateIdeal.nD Cert.KernelGateIdeal.τ).loc Cert.KernelGateIdeal.main_arg5)) →
    ∃ (v0 : (c : Dev Cert.KernelGateIdeal.nD) → Buf (Elt Ideal) ((c.tc : Thread Cert.KernelGateIdeal.nD Cert.KernelGateIdeal.τ).loc Cert.KernelGateIdeal.main_v5)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v5) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
          ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3)
          ∧ r.2.mem ((c.tc : Thread Cert.KernelGateIdeal.nD Cert.KernelGateIdeal.τ).loc Cert.KernelGateIdeal.main_arg4) = m ((c.tc : Thread Cert.KernelGateIdeal.nD Cert.KernelGateIdeal.τ).loc Cert.KernelGateIdeal.main_arg4)
          ∧ r.2.mem ((c.tc : Thread Cert.KernelGateIdeal.nD Cert.KernelGateIdeal.τ).loc Cert.KernelGateIdeal.main_arg5) = m ((c.tc : Thread Cert.KernelGateIdeal.nD Cert.KernelGateIdeal.τ).loc Cert.KernelGateIdeal.main_arg5))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v33) = v0 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2)
          ∧ r.2.mem ((c.tc : Thread Cert.ReferenceGateIdeal.nD Cert.ReferenceGateIdeal.τ).loc Cert.ReferenceGateIdeal.main_arg3) = m' ((c.tc : Thread Cert.ReferenceGateIdeal.nD Cert.ReferenceGateIdeal.τ).loc Cert.ReferenceGateIdeal.main_arg3)
          ∧ r.2.mem ((c.tc : Thread Cert.ReferenceGateIdeal.nD Cert.ReferenceGateIdeal.τ).loc Cert.ReferenceGateIdeal.main_arg4) = m' ((c.tc : Thread Cert.ReferenceGateIdeal.nD Cert.ReferenceGateIdeal.τ).loc Cert.ReferenceGateIdeal.main_arg4)
          ∧ r.2.mem ((c.tc : Thread Cert.ReferenceGateIdeal.nD Cert.ReferenceGateIdeal.τ).loc Cert.ReferenceGateIdeal.main_arg5) = m' ((c.tc : Thread Cert.ReferenceGateIdeal.nD Cert.ReferenceGateIdeal.τ).loc Cert.ReferenceGateIdeal.main_arg5))

def preserves_KernelRoute_KernelRouteIdeal : Prop :=
  IdealRules.named_const.Statement Cert.KernelRouteIdeal.κ "taken" .f32 0xFF61B1E6#32 ⊥

def algebraic_KernelRouteIdeal_ReferenceRouteIdeal_pre_finite_sums [hKernelRouteIdeal : Cert.KernelRouteIdeal.Facts] [hReferenceRouteIdeal : Cert.ReferenceRouteIdeal.Facts] [hPre_finite_sums : Cert.Pre_finite_sums.Facts] : Prop :=
  ∀ (m : (ℓ : Loc Cert.KernelRouteIdeal.nD Cert.KernelRouteIdeal.τ Cert.KernelRouteIdeal.sig) → Buf (Elt Ideal) ℓ) (g : Dev Cert.KernelRouteIdeal.nD → PrngReg)
    (m' : (ℓ : Loc Cert.ReferenceRouteIdeal.nD Cert.ReferenceRouteIdeal.τ Cert.ReferenceRouteIdeal.sig) → Buf (Elt Ideal) ℓ) (g' : Dev Cert.ReferenceRouteIdeal.nD → PrngReg), Pre_KernelRouteIdeal_finite_sums m →
    (∀ c : Dev Cert.KernelRouteIdeal.nD,
      m' ((c.tc : Thread Cert.ReferenceRouteIdeal.nD Cert.ReferenceRouteIdeal.τ).loc Cert.ReferenceRouteIdeal.main_arg0) = m ((c.tc : Thread Cert.KernelRouteIdeal.nD Cert.KernelRouteIdeal.τ).loc Cert.KernelRouteIdeal.main_arg0)
      ∧ m' ((c.tc : Thread Cert.ReferenceRouteIdeal.nD Cert.ReferenceRouteIdeal.τ).loc Cert.ReferenceRouteIdeal.main_arg1) = m ((c.tc : Thread Cert.KernelRouteIdeal.nD Cert.KernelRouteIdeal.τ).loc Cert.KernelRouteIdeal.main_arg1)) →
    ∃ (v0 : (c : Dev Cert.KernelRouteIdeal.nD) → Buf (Elt Ideal) ((c.tc : Thread Cert.KernelRouteIdeal.nD Cert.KernelRouteIdeal.τ).loc Cert.KernelRouteIdeal.main_v2)),
      θ_run (Cert.KernelRouteIdeal.defs (F := Ideal)) (onTc (τ := Cert.KernelRouteIdeal.τ) (Cert.KernelRouteIdeal.main (F := Ideal))) ⟨m, fun _ => 0, g⟩ (fun r => ∀ c : Dev Cert.KernelRouteIdeal.nD,
          r.2.mem ((c.tc : Thread Cert.KernelRouteIdeal.nD Cert.KernelRouteIdeal.τ).loc Cert.KernelRouteIdeal.main_v2) = v0 c
          ∧ r.2.mem ((c.tc : Thread Cert.KernelRouteIdeal.nD Cert.KernelRouteIdeal.τ).loc Cert.KernelRouteIdeal.main_arg0) = m ((c.tc : Thread Cert.KernelRouteIdeal.nD Cert.KernelRouteIdeal.τ).loc Cert.KernelRouteIdeal.main_arg0)
          ∧ r.2.mem ((c.tc : Thread Cert.KernelRouteIdeal.nD Cert.KernelRouteIdeal.τ).loc Cert.KernelRouteIdeal.main_arg1) = m ((c.tc : Thread Cert.KernelRouteIdeal.nD Cert.KernelRouteIdeal.τ).loc Cert.KernelRouteIdeal.main_arg1))
      ∧ θ_run (Cert.ReferenceRouteIdeal.defs (F := Ideal)) (onTc (τ := Cert.ReferenceRouteIdeal.τ) (Cert.ReferenceRouteIdeal.main (F := Ideal))) ⟨m', fun _ => 0, g'⟩ (fun r => ∀ c : Dev Cert.ReferenceRouteIdeal.nD,
          r.2.mem ((c.tc : Thread Cert.ReferenceRouteIdeal.nD Cert.ReferenceRouteIdeal.τ).loc Cert.ReferenceRouteIdeal.main_indices) = v0 c
          ∧ r.2.mem ((c.tc : Thread Cert.ReferenceRouteIdeal.nD Cert.ReferenceRouteIdeal.τ).loc Cert.ReferenceRouteIdeal.main_arg0) = m' ((c.tc : Thread Cert.ReferenceRouteIdeal.nD Cert.ReferenceRouteIdeal.τ).loc Cert.ReferenceRouteIdeal.main_arg0)
          ∧ r.2.mem ((c.tc : Thread Cert.ReferenceRouteIdeal.nD Cert.ReferenceRouteIdeal.τ).loc Cert.ReferenceRouteIdeal.main_arg1) = m' ((c.tc : Thread Cert.ReferenceRouteIdeal.nD Cert.ReferenceRouteIdeal.τ).loc Cert.ReferenceRouteIdeal.main_arg1))

def Claim : Prop :=
  ∃ (hKernel : Cert.Kernel.Facts) (hKernelIdeal : Cert.KernelIdeal.Facts) (hReferenceIdeal : Cert.ReferenceIdeal.Facts) (hKernelKV : Cert.KernelKV.Facts) (hKernelKVIdeal : Cert.KernelKVIdeal.Facts) (hReferenceKVIdeal : Cert.ReferenceKVIdeal.Facts) (hKernelQ : Cert.KernelQ.Facts) (hKernelQIdeal : Cert.KernelQIdeal.Facts) (hReferenceQIdeal : Cert.ReferenceQIdeal.Facts) (hKernelGate : Cert.KernelGate.Facts) (hKernelGateIdeal : Cert.KernelGateIdeal.Facts) (hReferenceGateIdeal : Cert.ReferenceGateIdeal.Facts) (hKernelRoute : Cert.KernelRoute.Facts) (hKernelRouteIdeal : Cert.KernelRouteIdeal.Facts) (hReferenceRouteIdeal : Cert.ReferenceRouteIdeal.Facts) (hPre_in_range : Cert.Pre_in_range.Facts) (hPre_in_range_finite : Cert.Pre_in_range_finite.Facts) (hPre_sums_of : Cert.Pre_sums_of.Facts) (hPre_finite_sums : Cert.Pre_finite_sums.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ quiescent_KernelKV (hKernelKV := hKernelKV)
    ∧ quiescent_KernelKVIdeal (hKernelKVIdeal := hKernelKVIdeal)
    ∧ quiescent_ReferenceKVIdeal (hReferenceKVIdeal := hReferenceKVIdeal)
    ∧ quiescent_KernelQ (hKernelQ := hKernelQ)
    ∧ quiescent_KernelQIdeal (hKernelQIdeal := hKernelQIdeal)
    ∧ quiescent_ReferenceQIdeal (hReferenceQIdeal := hReferenceQIdeal)
    ∧ quiescent_KernelGate (hKernelGate := hKernelGate)
    ∧ quiescent_KernelGateIdeal (hKernelGateIdeal := hKernelGateIdeal)
    ∧ quiescent_KernelGateIdeal_pre_sums_of (hKernelGateIdeal := hKernelGateIdeal) (hPre_sums_of := hPre_sums_of)
    ∧ quiescent_ReferenceGateIdeal (hReferenceGateIdeal := hReferenceGateIdeal)
    ∧ quiescent_ReferenceGateIdeal_pre_sums_of (hReferenceGateIdeal := hReferenceGateIdeal) (hPre_sums_of := hPre_sums_of)
    ∧ quiescent_KernelRoute (hKernelRoute := hKernelRoute)
    ∧ quiescent_KernelRouteIdeal (hKernelRouteIdeal := hKernelRouteIdeal)
    ∧ quiescent_KernelRouteIdeal_pre_finite_sums (hKernelRouteIdeal := hKernelRouteIdeal) (hPre_finite_sums := hPre_finite_sums)
    ∧ quiescent_ReferenceRouteIdeal (hReferenceRouteIdeal := hReferenceRouteIdeal)
    ∧ quiescent_ReferenceRouteIdeal_pre_finite_sums (hReferenceRouteIdeal := hReferenceRouteIdeal) (hPre_finite_sums := hPre_finite_sums)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
    ∧ preserves_KernelKV_KernelKVIdeal
    ∧ algebraic_KernelKVIdeal_ReferenceKVIdeal (hKernelKVIdeal := hKernelKVIdeal) (hReferenceKVIdeal := hReferenceKVIdeal)
    ∧ preserves_KernelQ_KernelQIdeal
    ∧ algebraic_KernelQIdeal_ReferenceQIdeal (hKernelQIdeal := hKernelQIdeal) (hReferenceQIdeal := hReferenceQIdeal)
    ∧ preserves_KernelGate_KernelGateIdeal
    ∧ algebraic_KernelGateIdeal_ReferenceGateIdeal_pre_sums_of (hKernelGateIdeal := hKernelGateIdeal) (hReferenceGateIdeal := hReferenceGateIdeal) (hPre_sums_of := hPre_sums_of)
    ∧ preserves_KernelRoute_KernelRouteIdeal
    ∧ algebraic_KernelRouteIdeal_ReferenceRouteIdeal_pre_finite_sums (hKernelRouteIdeal := hKernelRouteIdeal) (hReferenceRouteIdeal := hReferenceRouteIdeal) (hPre_finite_sums := hPre_finite_sums)
-- ==== Pre_finite_sums.lean ====
abbrev S2x56x14x192 : Shape := ⟨4, ![2, 56, 14, 192]⟩
abbrev S_ : Shape := ⟨0, ![]⟩

class Facts : Prop where
  bcast_S_S2x56x14x192 : S_.BroadcastsInDim S2x56x14x192 (![] : Fin 0 → Fin S2x56x14x192.rank)
  reducesTo_S2x56x14x192_S_d0_1_2_3 : S2x56x14x192.ReducesTo [0, 1, 2, 3] S_
  h_S_ : 0 < S_.numel

variable [Facts]

def fn {F : FTy → Type} [FloatOps F] (main_arg0 : FVec F S2x56x14x192 .f32) (main_arg1 : FVec F S2x56x14x192 .f32) : IVec S_ 1 :=
  let main_v0 : FVec F S2x56x14x192 .f32 := Host.absf main_arg0
  let main_cst : FVec F S_ .f32 := constant S_ .f32 0x7F800000#32
  let main_v1 : FVec F S2x56x14x192 .f32 := broadcastInDim S2x56x14x192 ![] bcast_S_S2x56x14x192 main_cst
  let main_v2 : IVec S2x56x14x192 1 := cmpf .olt main_v0 main_v1
  let main_c : IVec S_ 1 := constantI S_ 1 1#1
  let main_v3 : IVec S_ 1 := (fun x v => Host.reduce IntOp.andi x v reducesTo_S2x56x14x192_S_d0_1_2_3 h_S_) main_v2 main_c
  let main_v4 : FVec F S2x56x14x192 .f32 := Host.absf main_arg1
  let main_cst_0 : FVec F S_ .f32 := constant S_ .f32 0x7F800000#32
  let main_v5 : FVec F S2x56x14x192 .f32 := broadcastInDim S2x56x14x192 ![] bcast_S_S2x56x14x192 main_cst_0
  let main_v6 : IVec S2x56x14x192 1 := cmpf .olt main_v4 main_v5
  let main_c_1 : IVec S_ 1 := constantI S_ 1 1#1
  let main_v7 : IVec S_ 1 := (fun x v => Host.reduce IntOp.andi x v reducesTo_S2x56x14x192_S_d0_1_2_3 h_S_) main_v6 main_c_1
  let main_v8 : IVec S_ 1 := andi main_v3 main_v7
  main_v8
-- ==== Pre_in_range.lean ====
abbrev S2x784x4 : Shape := ⟨3, ![2, 784, 4]⟩
abbrev S2x56x896x192 : Shape := ⟨4, ![2, 56, 896, 192]⟩
abbrev S2x784x128x192 : Shape := ⟨4, ![2, 784, 128, 192]⟩
abbrev S192x192 : Shape := ⟨2, ![192, 192]⟩
abbrev S_ : Shape := ⟨0, ![]⟩

class Facts : Prop where
  bcast_S_S2x784x4 : S_.BroadcastsInDim S2x784x4 (![] : Fin 0 → Fin S2x784x4.rank)
  reducesTo_S2x784x4_S_d0_1_2 : S2x784x4.ReducesTo [0, 1, 2] S_
  h_S_ : 0 < S_.numel

variable [Facts]

def fn {F : FTy → Type} [FloatOps F] (main_arg0 : IVec S2x784x4 32) (main_arg1 : FVec F S2x56x896x192 .bf16) (main_arg2 : FVec F S2x56x896x192 .bf16) (main_arg3 : FVec F S2x784x128x192 .bf16) (main_arg4 : FVec F S192x192 .bf16) (main_arg5 : FVec F S192x192 .bf16) : IVec S_ 1 :=
  let main_c : IVec S_ 32 := constantI S_ 32 0#32
  let main_v0 : IVec S2x784x4 32 := broadcastInDim S2x784x4 ![] bcast_S_S2x784x4 main_c
  let main_v1 : IVec S2x784x4 1 := cmpi .sge main_arg0 main_v0
  let main_c_0 : IVec S_ 32 := constantI S_ 32 784#32
  let main_v2 : IVec S2x784x4 32 := broadcastInDim S2x784x4 ![] bcast_S_S2x784x4 main_c_0
  let main_v3 : IVec S2x784x4 1 := cmpi .slt main_arg0 main_v2
  let main_v4 : IVec S2x784x4 1 := andi main_v1 main_v3
  let main_c_1 : IVec S_ 1 := constantI S_ 1 1#1
  let main_v5 : IVec S_ 1 := (fun x v => Host.reduce IntOp.andi x v reducesTo_S2x784x4_S_d0_1_2 h_S_) main_v4 main_c_1
  main_v5
-- ==== Pre_in_range_finite.lean ====
abbrev S2x784x4 : Shape := ⟨3, ![2, 784, 4]⟩
abbrev S2x56x896x192 : Shape := ⟨4, ![2, 56, 896, 192]⟩
abbrev S2x784x128x192 : Shape := ⟨4, ![2, 784, 128, 192]⟩
abbrev S192x192 : Shape := ⟨2, ![192, 192]⟩
abbrev S_ : Shape := ⟨0, ![]⟩
abbrev S2x784x64x192 : Shape := ⟨4, ![2, 784, 64, 192]⟩

class Facts : Prop where
  bcast_S_S2x784x4 : S_.BroadcastsInDim S2x784x4 (![] : Fin 0 → Fin S2x784x4.rank)
  reducesTo_S2x784x4_S_d0_1_2 : S2x784x4.ReducesTo [0, 1, 2] S_
  h_S_ : 0 < S_.numel
  bitsLt_bf16_f32 : FTy.bits .bf16 < FTy.bits .f32
  bcast_S_S2x56x896x192 : S_.BroadcastsInDim S2x56x896x192 (![] : Fin 0 → Fin S2x56x896x192.rank)
  reducesTo_S2x56x896x192_S_d0_1_2_3 : S2x56x896x192.ReducesTo [0, 1, 2, 3] S_
  slices_S2x784x128x192_S2x784x64x192_0_0_0_0 : S2x784x128x192.Slices ![0, 0, 0, 0] S2x784x64x192
  bcast_S_S2x784x64x192 : S_.BroadcastsInDim S2x784x64x192 (![] : Fin 0 → Fin S2x784x64x192.rank)
  reducesTo_S2x784x64x192_S_d0_1_2_3 : S2x784x64x192.ReducesTo [0, 1, 2, 3] S_

variable [Facts]

def fn_part1 {F : FTy → Type} [FloatOps F] (main_v5 : IVec S_ 1) (main_v10 : IVec S_ 1) (main_v16 : IVec S_ 1) : IVec S_ 1 :=
  let main_v17 : IVec S_ 1 := andi main_v5 main_v10
  let main_v18 : IVec S_ 1 := andi main_v17 main_v16
  main_v18

def fn {F : FTy → Type} [FloatOps F] (main_arg0 : IVec S2x784x4 32) (main_arg1 : FVec F S2x56x896x192 .bf16) (main_arg2 : FVec F S2x56x896x192 .bf16) (main_arg3 : FVec F S2x784x128x192 .bf16) (main_arg4 : FVec F S192x192 .bf16) (main_arg5 : FVec F S192x192 .bf16) : IVec S_ 1 :=
  let main_c : IVec S_ 32 := constantI S_ 32 0#32
  let main_v0 : IVec S2x784x4 32 := broadcastInDim S2x784x4 ![] bcast_S_S2x784x4 main_c
  let main_v1 : IVec S2x784x4 1 := cmpi .sge main_arg0 main_v0
  let main_c_0 : IVec S_ 32 := constantI S_ 32 784#32
  let main_v2 : IVec S2x784x4 32 := broadcastInDim S2x784x4 ![] bcast_S_S2x784x4 main_c_0
  let main_v3 : IVec S2x784x4 1 := cmpi .slt main_arg0 main_v2
  let main_v4 : IVec S2x784x4 1 := andi main_v1 main_v3
  let main_c_1 : IVec S_ 1 := constantI S_ 1 1#1
  let main_v5 : IVec S_ 1 := (fun x v => Host.reduce IntOp.andi x v reducesTo_S2x784x4_S_d0_1_2 h_S_) main_v4 main_c_1
  let main_v6 : FVec F S2x56x896x192 .f32 := (extf .f32 · bitsLt_bf16_f32) main_arg1
  let main_v7 : FVec F S2x56x896x192 .f32 := Host.absf main_v6
  let main_cst : FVec F S_ .f32 := constant S_ .f32 0x7F800000#32
  let main_v8 : FVec F S2x56x896x192 .f32 := broadcastInDim S2x56x896x192 ![] bcast_S_S2x56x896x192 main_cst
  let main_v9 : IVec S2x56x896x192 1 := cmpf .olt main_v7 main_v8
  let main_c_2 : IVec S_ 1 := constantI S_ 1 1#1
  let main_v10 : IVec S_ 1 := (fun x v => Host.reduce IntOp.andi x v reducesTo_S2x56x896x192_S_d0_1_2_3 h_S_) main_v9 main_c_2
  let main_v11 : FVec F S2x784x64x192 .bf16 := (extractStridedSlice S2x784x64x192 ![0, 0, 0, 0] · slices_S2x784x128x192_S2x784x64x192_0_0_0_0) main_arg3
  let main_v12 : FVec F S2x784x64x192 .f32 := (extf .f32 · bitsLt_bf16_f32) main_v11
  let main_v13 : FVec F S2x784x64x192 .f32 := Host.absf main_v12
  let main_cst_3 : FVec F S_ .f32 := constant S_ .f32 0x7F800000#32
  let main_v14 : FVec F S2x784x64x192 .f32 := broadcastInDim S2x784x64x192 ![] bcast_S_S2x784x64x192 main_cst_3
  let main_v15 : IVec S2x784x64x192 1 := cmpf .olt main_v13 main_v14
  let main_c_4 : IVec S_ 1 := constantI S_ 1 1#1
  let main_v16 : IVec S_ 1 := (fun x v => Host.reduce IntOp.andi x v reducesTo_S2x784x64x192_S_d0_1_2_3 h_S_) main_v15 main_c_4
  fn_part1 (F := F) main_v5 main_v10 main_v16
-- ==== Pre_sums_of.lean ====
abbrev S2x192x224x224 : Shape := ⟨4, ![2, 192, 224, 224]⟩
abbrev S2x56x896x192 : Shape := ⟨4, ![2, 56, 896, 192]⟩
abbrev S2x56x8x192 : Shape := ⟨4, ![2, 56, 8, 192]⟩
abbrev S192 : Shape := ⟨1, ![192]⟩
abbrev S_ : Shape := ⟨0, ![]⟩
abbrev S2x56x1x192 : Shape := ⟨4, ![2, 56, 1, 192]⟩
abbrev S2x56x192 : Shape := ⟨3, ![2, 56, 192]⟩

class Facts : Prop where
  bitsLt_bf16_f32 : FTy.bits .bf16 < FTy.bits .f32
  bcast_S_S2x56x896x192 : S_.BroadcastsInDim S2x56x896x192 (![] : Fin 0 → Fin S2x56x896x192.rank)
  reducesTo_S2x56x896x192_S_d0_1_2_3 : S2x56x896x192.ReducesTo [0, 1, 2, 3] S_
  h_S_ : 0 < S_.numel
  bcast_S_S192 : S_.BroadcastsInDim S192 (![] : Fin 0 → Fin S192.rank)
  reducesTo_S192_S_d0 : S192.ReducesTo [0] S_
  slices_S2x56x8x192_S2x56x1x192_0_0_0_0 : S2x56x8x192.Slices ![0, 0, 0, 0] S2x56x1x192
  shapeCasts_S2x56x1x192_S2x56x192 : S2x56x1x192.ShapeCasts S2x56x192
  reducesTo_S2x56x896x192_S2x56x192_d2 : S2x56x896x192.ReducesTo [2] S2x56x192
  reducesTo_S2x56x192_S_d0_1_2 : S2x56x192.ReducesTo [0, 1, 2] S_
  slices_S2x56x8x192_S2x56x1x192_0_0_1_0 : S2x56x8x192.Slices ![0, 0, 1, 0] S2x56x1x192

variable [Facts]

def fn_part1 {F : FTy → Type} [FloatOps F] (main_v9 : IVec S_ 1) (main_v14 : IVec S_ 1) (main_v16 : FVec F S2x56x192 .f32) (main_v17 : FVec F S2x56x896x192 .f32) : IVec S_ 1 :=
  let main_cst_4 : FVec F S_ .f32 := constant S_ .f32 0x00000000#32
  let main_v18 : FVec F S2x56x192 .f32 := (fun x v => Host.reduceAdd x v reducesTo_S2x56x896x192_S2x56x192_d2 h_S_) main_v17 main_cst_4
  let main_v19 : IVec S2x56x192 1 := cmpf .oeq main_v16 main_v18
  let main_c_5 : IVec S_ 1 := constantI S_ 1 1#1
  let main_v20 : IVec S_ 1 := (fun x v => Host.reduce IntOp.andi x v reducesTo_S2x56x192_S_d0_1_2 h_S_) main_v19 main_c_5
  let main_v21 : IVec S_ 1 := andi main_v9 main_v14
  let main_v22 : IVec S_ 1 := andi main_v21 main_v20
  main_v22

def fn {F : FTy → Type} [FloatOps F] (main_arg0 : FVec F S2x192x224x224 .f32) (main_arg1 : FVec F S2x56x896x192 .bf16) (main_arg2 : FVec F S2x56x896x192 .bf16) (main_arg3 : FVec F S2x56x8x192 .f32) (main_arg4 : FVec F S192 .f32) (main_arg5 : FVec F S192 .f32) : IVec S_ 1 :=
  let main_v0 : FVec F S2x56x896x192 .f32 := (extf .f32 · bitsLt_bf16_f32) main_arg2
  let main_v1 : FVec F S2x56x896x192 .f32 := Host.absf main_v0
  let main_cst : FVec F S_ .f32 := constant S_ .f32 0x7F800000#32
  let main_v2 : FVec F S2x56x896x192 .f32 := broadcastInDim S2x56x896x192 ![] bcast_S_S2x56x896x192 main_cst
  let main_v3 : IVec S2x56x896x192 1 := cmpf .olt main_v1 main_v2
  let main_c : IVec S_ 1 := constantI S_ 1 1#1
  let main_v4 : IVec S_ 1 := (fun x v => Host.reduce IntOp.andi x v reducesTo_S2x56x896x192_S_d0_1_2_3 h_S_) main_v3 main_c
  let main_v5 : FVec F S192 .f32 := Host.absf main_arg4
  let main_cst_0 : FVec F S_ .f32 := constant S_ .f32 0x7F800000#32
  let main_v6 : FVec F S192 .f32 := broadcastInDim S192 ![] bcast_S_S192 main_cst_0
  let main_v7 : IVec S192 1 := cmpf .olt main_v5 main_v6
  let main_c_1 : IVec S_ 1 := constantI S_ 1 1#1
  let main_v8 : IVec S_ 1 := (fun x v => Host.reduce IntOp.andi x v reducesTo_S192_S_d0 h_S_) main_v7 main_c_1
  let main_v9 : IVec S_ 1 := andi main_v4 main_v8
  let main_v10 : FVec F S2x56x1x192 .f32 := (extractStridedSlice S2x56x1x192 ![0, 0, 0, 0] · slices_S2x56x8x192_S2x56x1x192_0_0_0_0) main_arg3
  let main_v11 : FVec F S2x56x192 .f32 := shapeCast S2x56x192 main_v10 shapeCasts_S2x56x1x192_S2x56x192
  let main_cst_2 : FVec F S_ .f32 := constant S_ .f32 0x00000000#32
  let main_v12 : FVec F S2x56x192 .f32 := (fun x v => Host.reduceAdd x v reducesTo_S2x56x896x192_S2x56x192_d2 h_S_) main_v0 main_cst_2
  let main_v13 : IVec S2x56x192 1 := cmpf .oeq main_v11 main_v12
  let main_c_3 : IVec S_ 1 := constantI S_ 1 1#1
  let main_v14 : IVec S_ 1 := (fun x v => Host.reduce IntOp.andi x v reducesTo_S2x56x192_S_d0_1_2 h_S_) main_v13 main_c_3
  let main_v15 : FVec F S2x56x1x192 .f32 := (extractStridedSlice S2x56x1x192 ![0, 0, 1, 0] · slices_S2x56x8x192_S2x56x1x192_0_0_1_0) main_arg3
  let main_v16 : FVec F S2x56x192 .f32 := shapeCast S2x56x192 main_v15 shapeCasts_S2x56x1x192_S2x56x192
  let main_v17 : FVec F S2x56x896x192 .f32 := mulf main_v0 main_v0
  fn_part1 (F := F) main_v9 main_v14 main_v16 main_v17
-- ==== Kernel.lean ====
abbrev S2x784x4 : Shape := ⟨3, ![2, 784, 4]⟩
abbrev S2x56x896x192 : Shape := ⟨4, ![2, 56, 896, 192]⟩
abbrev S2x784x128x192 : Shape := ⟨4, ![2, 784, 128, 192]⟩
abbrev S192x192 : Shape := ⟨2, ![192, 192]⟩
abbrev S112x1x56 : Shape := ⟨3, ![112, 1, 56]⟩
abbrev S2x56x8x192 : Shape := ⟨4, ![2, 56, 8, 192]⟩
abbrev S1x1x56 : Shape := ⟨3, ![1, 1, 56]⟩
abbrev S1x1x896x192 : Shape := ⟨4, ![1, 1, 896, 192]⟩
abbrev S1x1x8x192 : Shape := ⟨4, ![1, 1, 8, 192]⟩
abbrev S784x128x192 : Shape := ⟨3, ![784, 128, 192]⟩
abbrev S896x192 : Shape := ⟨2, ![896, 192]⟩
abbrev S_ : Shape := ⟨0, ![]⟩
abbrev S1x784x128x192 : Shape := ⟨4, ![1, 784, 128, 192]⟩
abbrev S64x192 : Shape := ⟨2, ![64, 192]⟩
abbrev S1x1x64x192 : Shape := ⟨4, ![1, 1, 64, 192]⟩
abbrev S1x1x1 : Shape := ⟨3, ![1, 1, 1]⟩
abbrev S1x128x192 : Shape := ⟨3, ![1, 128, 192]⟩
abbrev S128x192 : Shape := ⟨2, ![128, 192]⟩
abbrev S256x192 : Shape := ⟨2, ![256, 192]⟩
abbrev S256x256 : Shape := ⟨2, ![256, 256]⟩
abbrev S256 : Shape := ⟨1, ![256]⟩
abbrev S256x1 : Shape := ⟨2, ![256, 1]⟩
abbrev S1x192 : Shape := ⟨2, ![1, 192]⟩
abbrev S448x192 : Shape := ⟨2, ![448, 192]⟩
abbrev S1x1x448x192 : Shape := ⟨4, ![1, 1, 448, 192]⟩
abbrev S192 : Shape := ⟨1, ![192]⟩
abbrev S6x192 : Shape := ⟨2, ![6, 192]⟩
abbrev S8x192 : Shape := ⟨2, ![8, 192]⟩

abbrev nBuf : Space → Nat
  | .hbm => 10
  | .vmem => 14
  | .smem => 2
  | _ => 0

abbrev bufTy : (tb : Table) → Fin (tcTables nBuf tb) → BufTy
  | .hbm, ⟨0, _⟩ => ⟨S2x784x4, .i32⟩
  | .hbm, ⟨1, _⟩ => ⟨S2x56x896x192, .bf16⟩
  | .hbm, ⟨2, _⟩ => ⟨S2x56x896x192, .bf16⟩
  | .hbm, ⟨3, _⟩ => ⟨S2x784x128x192, .bf16⟩
  | .hbm, ⟨4, _⟩ => ⟨S192x192, .bf16⟩
  | .hbm, ⟨5, _⟩ => ⟨S192x192, .bf16⟩
  | .hbm, ⟨6, _⟩ => ⟨S112x1x56, .i32⟩
  | .hbm, ⟨7, _⟩ => ⟨S2x56x896x192, .bf16⟩
  | .hbm, ⟨8, _⟩ => ⟨S2x56x896x192, .bf16⟩
  | .hbm, ⟨9, _⟩ => ⟨S2x56x8x192, .f32⟩
  | .local _ .vmem, ⟨0, _⟩ => ⟨S1x1x896x192, .bf16⟩
  | .local _ .vmem, ⟨1, _⟩ => ⟨S1x1x896x192, .bf16⟩
  | .local _ .vmem, ⟨2, _⟩ => ⟨S1x1x896x192, .bf16⟩
  | .local _ .vmem, ⟨3, _⟩ => ⟨S1x1x896x192, .bf16⟩
  | .local _ .vmem, ⟨4, _⟩ => ⟨S192x192, .bf16⟩
  | .local _ .vmem, ⟨5, _⟩ => ⟨S192x192, .bf16⟩
  | .local _ .vmem, ⟨6, _⟩ => ⟨S1x1x896x192, .bf16⟩
  | .local _ .vmem, ⟨7, _⟩ => ⟨S1x1x896x192, .bf16⟩
  | .local _ .vmem, ⟨8, _⟩ => ⟨S1x1x896x192, .bf16⟩
  | .local _ .vmem, ⟨9, _⟩ => ⟨S1x1x896x192, .bf16⟩
  | .local _ .vmem, ⟨10, _⟩ => ⟨S1x1x8x192, .f32⟩
  | .local _ .vmem, ⟨11, _⟩ => ⟨S1x1x8x192, .f32⟩
  | .local _ .vmem, ⟨12, _⟩ => ⟨S784x128x192, .bf16⟩
  | .local _ .vmem, ⟨13, _⟩ => ⟨S896x192, .bf16⟩
  | .local _ .smem, ⟨0, _⟩ => ⟨S1x1x56, .i32⟩
  | .local _ .smem, ⟨1, _⟩ => ⟨S1x1x56, .i32⟩
  | _, _ => ⟨S2x784x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 56], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 4 → Nat :=
  let arg0 : BitVec 32 := BitVec.ofNat 32 (i 0).val
  let c0_i32_429 : BitVec 32 := 0#32
  let c0_i32_430 : BitVec 32 := 0#32
  let c0_i32_431 : BitVec 32 := 0#32
  ![arg0.toNat, 0, 0, 0]
def k0_off2 (v74 : BitVec 32) : Fin 3 → Nat :=
  let v78 : Index := Scalar.indexCast v74
  let c0_39 : Index := 0#32
  let c0_40 : Index := 0#32
  ![v78.toNat, 0, 0]

def k0_chk1 (v74 : BitVec 32) : Prop :=
  (∀ a, (k0_off2 v74) a + S1x128x192.size a ≤ S784x128x192.size a)
theorem k0_off2_inb : ∀ (v74 : BitVec 32) (k0_hw1 : k0_chk1 v74), ∀ a, (k0_off2 v74) a + S1x128x192.size a ≤ S784x128x192.size a := fun v74 k0_hw1 => k0_hw1

def k0_off3 (v75 : BitVec 32) : Fin 3 → Nat :=
  let v81 : Index := Scalar.indexCast v75
  let c0_41 : Index := 0#32
  let c0_42 : Index := 0#32
  ![v81.toNat, 0, 0]

def k0_chk2 (v75 : BitVec 32) : Prop :=
  (∀ a, (k0_off3 v75) a + S1x128x192.size a ≤ S784x128x192.size a)
theorem k0_off3_inb : ∀ (v75 : BitVec 32) (k0_hw2 : k0_chk2 v75), ∀ a, (k0_off3 v75) a + S1x128x192.size a ≤ S784x128x192.size a := fun v75 k0_hw2 => k0_hw2

def k0_off4 (v76 : BitVec 32) : Fin 3 → Nat :=
  let v84 : Index := Scalar.indexCast v76
  let c0_43 : Index := 0#32
  let c0_44 : Index := 0#32
  ![v84.toNat, 0, 0]

def k0_chk3 (v76 : BitVec 32) : Prop :=
  (∀ a, (k0_off4 v76) a + S1x128x192.size a ≤ S784x128x192.size a)
theorem k0_off4_inb : ∀ (v76 : BitVec 32) (k0_hw3 : k0_chk3 v76), ∀ a, (k0_off4 v76) a + S1x128x192.size a ≤ S784x128x192.size a := fun v76 k0_hw3 => k0_hw3

def k0_off5 (v77 : BitVec 32) : Fin 3 → Nat :=
  let v87 : Index := Scalar.indexCast v77
  let c0_45 : Index := 0#32
  let c0_46 : Index := 0#32
  ![v87.toNat, 0, 0]

def k0_chk4 (v77 : BitVec 32) : Prop :=
  (∀ a, (k0_off5 v77) a + S1x128x192.size a ≤ S784x128x192.size a)
theorem k0_off5_inb : ∀ (v77 : BitVec 32) (k0_hw4 : k0_chk4 v77), ∀ a, (k0_off5 v77) a + S1x128x192.size a ≤ S784x128x192.size a := fun v77 k0_hw4 => k0_hw4

def k0_off6 (v132 : BitVec 32) : Fin 3 → Nat :=
  let v136 : Index := Scalar.indexCast v132
  let c0_64 : Index := 0#32
  let c0_65 : Index := 0#32
  ![v136.toNat, 0, 0]

def k0_chk5 (v132 : BitVec 32) : Prop :=
  (∀ a, (k0_off6 v132) a + S1x128x192.size a ≤ S784x128x192.size a)
theorem k0_off6_inb : ∀ (v132 : BitVec 32) (k0_hw5 : k0_chk5 v132), ∀ a, (k0_off6 v132) a + S1x128x192.size a ≤ S784x128x192.size a := fun v132 k0_hw5 => k0_hw5

def k0_off7 (v133 : BitVec 32) : Fin 3 → Nat :=
  let v139 : Index := Scalar.indexCast v133
  let c0_66 : Index := 0#32
  let c0_67 : Index := 0#32
  ![v139.toNat, 0, 0]

def k0_chk6 (v133 : BitVec 32) : Prop :=
  (∀ a, (k0_off7 v133) a + S1x128x192.size a ≤ S784x128x192.size a)
theorem k0_off7_inb : ∀ (v133 : BitVec 32) (k0_hw6 : k0_chk6 v133), ∀ a, (k0_off7 v133) a + S1x128x192.size a ≤ S784x128x192.size a := fun v133 k0_hw6 => k0_hw6

def k0_off8 (v134 : BitVec 32) : Fin 3 → Nat :=
  let v142 : Index := Scalar.indexCast v134
  let c0_68 : Index := 0#32
  let c0_69 : Index := 0#32
  ![v142.toNat, 0, 0]

def k0_chk7 (v134 : BitVec 32) : Prop :=
  (∀ a, (k0_off8 v134) a + S1x128x192.size a ≤ S784x128x192.size a)
theorem k0_off8_inb : ∀ (v134 : BitVec 32) (k0_hw7 : k0_chk7 v134), ∀ a, (k0_off8 v134) a + S1x128x192.size a ≤ S784x128x192.size a := fun v134 k0_hw7 => k0_hw7

def k0_off9 (v135 : BitVec 32) : Fin 3 → Nat :=
  let v145 : Index := Scalar.indexCast v135
  let c0_70 : Index := 0#32
  let c0_71 : Index := 0#32
  ![v145.toNat, 0, 0]

def k0_chk8 (v135 : BitVec 32) : Prop :=
  (∀ a, (k0_off9 v135) a + S1x128x192.size a ≤ S784x128x192.size a)
theorem k0_off9_inb : ∀ (v135 : BitVec 32) (k0_hw8 : k0_chk8 v135), ∀ a, (k0_off9 v135) a + S1x128x192.size a ≤ S784x128x192.size a := fun v135 k0_hw8 => k0_hw8

def k0_off10 (v190 : BitVec 32) : Fin 3 → Nat :=
  let v194 : Index := Scalar.indexCast v190
  let c0_89 : Index := 0#32
  let c0_90 : Index := 0#32
  ![v194.toNat, 0, 0]

def k0_chk9 (v190 : BitVec 32) : Prop :=
  (∀ a, (k0_off10 v190) a + S1x128x192.size a ≤ S784x128x192.size a)
theorem k0_off10_inb : ∀ (v190 : BitVec 32) (k0_hw9 : k0_chk9 v190), ∀ a, (k0_off10 v190) a + S1x128x192.size a ≤ S784x128x192.size a := fun v190 k0_hw9 => k0_hw9

def k0_off11 (v191 : BitVec 32) : Fin 3 → Nat :=
  let v197 : Index := Scalar.indexCast v191
  let c0_91 : Index := 0#32
  let c0_92 : Index := 0#32
  ![v197.toNat, 0, 0]

def k0_chk10 (v191 : BitVec 32) : Prop :=
  (∀ a, (k0_off11 v191) a + S1x128x192.size a ≤ S784x128x192.size a)
theorem k0_off11_inb : ∀ (v191 : BitVec 32) (k0_hw10 : k0_chk10 v191), ∀ a, (k0_off11 v191) a + S1x128x192.size a ≤ S784x128x192.size a := fun v191 k0_hw10 => k0_hw10

def k0_off12 (v192 : BitVec 32) : Fin 3 → Nat :=
  let v200 : Index := Scalar.indexCast v192
  let c0_93 : Index := 0#32
  let c0_94 : Index := 0#32
  ![v200.toNat, 0, 0]

def k0_chk11 (v192 : BitVec 32) : Prop :=
  (∀ a, (k0_off12 v192) a + S1x128x192.size a ≤ S784x128x192.size a)
theorem k0_off12_inb : ∀ (v192 : BitVec 32) (k0_hw11 : k0_chk11 v192), ∀ a, (k0_off12 v192) a + S1x128x192.size a ≤ S784x128x192.size a := fun v192 k0_hw11 => k0_hw11

def k0_off13 (v193 : BitVec 32) : Fin 3 → Nat :=
  let v203 : Index := Scalar.indexCast v193
  let c0_95 : Index := 0#32
  let c0_96 : Index := 0#32
  ![v203.toNat, 0, 0]

def k0_chk12 (v193 : BitVec 32) : Prop :=
  (∀ a, (k0_off13 v193) a + S1x128x192.size a ≤ S784x128x192.size a)
theorem k0_off13_inb : ∀ (v193 : BitVec 32) (k0_hw12 : k0_chk12 v193), ∀ a, (k0_off13 v193) a + S1x128x192.size a ≤ S784x128x192.size a := fun v193 k0_hw12 => k0_hw12

def k0_off14 (v248 : BitVec 32) : Fin 3 → Nat :=
  let v252 : Index := Scalar.indexCast v248
  let c0_114 : Index := 0#32
  let c0_115 : Index := 0#32
  ![v252.toNat, 0, 0]

def k0_chk13 (v248 : BitVec 32) : Prop :=
  (∀ a, (k0_off14 v248) a + S1x128x192.size a ≤ S784x128x192.size a)
theorem k0_off14_inb : ∀ (v248 : BitVec 32) (k0_hw13 : k0_chk13 v248), ∀ a, (k0_off14 v248) a + S1x128x192.size a ≤ S784x128x192.size a := fun v248 k0_hw13 => k0_hw13

def k0_off15 (v249 : BitVec 32) : Fin 3 → Nat :=
  let v255 : Index := Scalar.indexCast v249
  let c0_116 : Index := 0#32
  let c0_117 : Index := 0#32
  ![v255.toNat, 0, 0]

def k0_chk14 (v249 : BitVec 32) : Prop :=
  (∀ a, (k0_off15 v249) a + S1x128x192.size a ≤ S784x128x192.size a)
theorem k0_off15_inb : ∀ (v249 : BitVec 32) (k0_hw14 : k0_chk14 v249), ∀ a, (k0_off15 v249) a + S1x128x192.size a ≤ S784x128x192.size a := fun v249 k0_hw14 => k0_hw14

def k0_off16 (v250 : BitVec 32) : Fin 3 → Nat :=
  let v258 : Index := Scalar.indexCast v250
  let c0_118 : Index := 0#32
  let c0_119 : Index := 0#32
  ![v258.toNat, 0, 0]

def k0_chk15 (v250 : BitVec 32) : Prop :=
  (∀ a, (k0_off16 v250) a + S1x128x192.size a ≤ S784x128x192.size a)
theorem k0_off16_inb : ∀ (v250 : BitVec 32) (k0_hw15 : k0_chk15 v250), ∀ a, (k0_off16 v250) a + S1x128x192.size a ≤ S784x128x192.size a := fun v250 k0_hw15 => k0_hw15

def k0_off17 (v251 : BitVec 32) : Fin 3 → Nat :=
  let v261 : Index := Scalar.indexCast v251
  let c0_120 : Index := 0#32
  let c0_121 : Index := 0#32
  ![v261.toNat, 0, 0]

def k0_chk16 (v251 : BitVec 32) : Prop :=
  (∀ a, (k0_off17 v251) a + S1x128x192.size a ≤ S784x128x192.size a)
theorem k0_off17_inb : ∀ (v251 : BitVec 32) (k0_hw16 : k0_chk16 v251), ∀ a, (k0_off17 v251) a + S1x128x192.size a ≤ S784x128x192.size a := fun v251 k0_hw16 => k0_hw16

def k0_off18 (v306 : BitVec 32) : Fin 3 → Nat :=
  let v310 : Index := Scalar.indexCast v306
  let c0_139 : Index := 0#32
  let c0_140 : Index := 0#32
  ![v310.toNat, 0, 0]

def k0_chk17 (v306 : BitVec 32) : Prop :=
  (∀ a, (k0_off18 v306) a + S1x128x192.size a ≤ S784x128x192.size a)
theorem k0_off18_inb : ∀ (v306 : BitVec 32) (k0_hw17 : k0_chk17 v306), ∀ a, (k0_off18 v306) a + S1x128x192.size a ≤ S784x128x192.size a := fun v306 k0_hw17 => k0_hw17

def k0_off19 (v307 : BitVec 32) : Fin 3 → Nat :=
  let v313 : Index := Scalar.indexCast v307
  let c0_141 : Index := 0#32
  let c0_142 : Index := 0#32
  ![v313.toNat, 0, 0]

def k0_chk18 (v307 : BitVec 32) : Prop :=
  (∀ a, (k0_off19 v307) a + S1x128x192.size a ≤ S784x128x192.size a)
theorem k0_off19_inb : ∀ (v307 : BitVec 32) (k0_hw18 : k0_chk18 v307), ∀ a, (k0_off19 v307) a + S1x128x192.size a ≤ S784x128x192.size a := fun v307 k0_hw18 => k0_hw18

def k0_off20 (v308 : BitVec 32) : Fin 3 → Nat :=
  let v316 : Index := Scalar.indexCast v308
  let c0_143 : Index := 0#32
  let c0_144 : Index := 0#32
  ![v316.toNat, 0, 0]

def k0_chk19 (v308 : BitVec 32) : Prop :=
  (∀ a, (k0_off20 v308) a + S1x128x192.size a ≤ S784x128x192.size a)
theorem k0_off20_inb : ∀ (v308 : BitVec 32) (k0_hw19 : k0_chk19 v308), ∀ a, (k0_off20 v308) a + S1x128x192.size a ≤ S784x128x192.size a := fun v308 k0_hw19 => k0_hw19

def k0_off21 (v309 : BitVec 32) : Fin 3 → Nat :=
  let v319 : Index := Scalar.indexCast v309
  let c0_145 : Index := 0#32
  let c0_146 : Index := 0#32
  ![v319.toNat, 0, 0]

def k0_chk20 (v309 : BitVec 32) : Prop :=
  (∀ a, (k0_off21 v309) a + S1x128x192.size a ≤ S784x128x192.size a)
theorem k0_off21_inb : ∀ (v309 : BitVec 32) (k0_hw20 : k0_chk20 v309), ∀ a, (k0_off21 v309) a + S1x128x192.size a ≤ S784x128x192.size a := fun v309 k0_hw20 => k0_hw20

def k0_off22 (v364 : BitVec 32) : Fin 3 → Nat :=
  let v368 : Index := Scalar.indexCast v364
  let c0_164 : Index := 0#32
  let c0_165 : Index := 0#32
  ![v368.toNat, 0, 0]

def k0_chk21 (v364 : BitVec 32) : Prop :=
  (∀ a, (k0_off22 v364) a + S1x128x192.size a ≤ S784x128x192.size a)
theorem k0_off22_inb : ∀ (v364 : BitVec 32) (k0_hw21 : k0_chk21 v364), ∀ a, (k0_off22 v364) a + S1x128x192.size a ≤ S784x128x192.size a := fun v364 k0_hw21 => k0_hw21

def k0_off23 (v365 : BitVec 32) : Fin 3 → Nat :=
  let v371 : Index := Scalar.indexCast v365
  let c0_166 : Index := 0#32
  let c0_167 : Index := 0#32
  ![v371.toNat, 0, 0]

def k0_chk22 (v365 : BitVec 32) : Prop :=
  (∀ a, (k0_off23 v365) a + S1x128x192.size a ≤ S784x128x192.size a)
theorem k0_off23_inb : ∀ (v365 : BitVec 32) (k0_hw22 : k0_chk22 v365), ∀ a, (k0_off23 v365) a + S1x128x192.size a ≤ S784x128x192.size a := fun v365 k0_hw22 => k0_hw22

def k0_off24 (v366 : BitVec 32) : Fin 3 → Nat :=
  let v374 : Index := Scalar.indexCast v366
  let c0_168 : Index := 0#32
  let c0_169 : Index := 0#32
  ![v374.toNat, 0, 0]

def k0_chk23 (v366 : BitVec 32) : Prop :=
  (∀ a, (k0_off24 v366) a + S1x128x192.size a ≤ S784x128x192.size a)
theorem k0_off24_inb : ∀ (v366 : BitVec 32) (k0_hw23 : k0_chk23 v366), ∀ a, (k0_off24 v366) a + S1x128x192.size a ≤ S784x128x192.size a := fun v366 k0_hw23 => k0_hw23

def k0_off25 (v367 : BitVec 32) : Fin 3 → Nat :=
  let v377 : Index := Scalar.indexCast v367
  let c0_170 : Index := 0#32
  let c0_171 : Index := 0#32
  ![v377.toNat, 0, 0]

def k0_chk24 (v367 : BitVec 32) : Prop :=
  (∀ a, (k0_off25 v367) a + S1x128x192.size a ≤ S784x128x192.size a)
theorem k0_off25_inb : ∀ (v367 : BitVec 32) (k0_hw24 : k0_chk24 v367), ∀ a, (k0_off25 v367) a + S1x128x192.size a ≤ S784x128x192.size a := fun v367 k0_hw24 => k0_hw24

def k0_off26 (v422 : BitVec 32) : Fin 3 → Nat :=
  let v426 : Index := Scalar.indexCast v422
  let c0_189 : Index := 0#32
  let c0_190 : Index := 0#32
  ![v426.toNat, 0, 0]

def k0_chk25 (v422 : BitVec 32) : Prop :=
  (∀ a, (k0_off26 v422) a + S1x128x192.size a ≤ S784x128x192.size a)
theorem k0_off26_inb : ∀ (v422 : BitVec 32) (k0_hw25 : k0_chk25 v422), ∀ a, (k0_off26 v422) a + S1x128x192.size a ≤ S784x128x192.size a := fun v422 k0_hw25 => k0_hw25

def k0_off27 (v423 : BitVec 32) : Fin 3 → Nat :=
  let v429 : Index := Scalar.indexCast v423
  let c0_191 : Index := 0#32
  let c0_192 : Index := 0#32
  ![v429.toNat, 0, 0]

def k0_chk26 (v423 : BitVec 32) : Prop :=
  (∀ a, (k0_off27 v423) a + S1x128x192.size a ≤ S784x128x192.size a)
theorem k0_off27_inb : ∀ (v423 : BitVec 32) (k0_hw26 : k0_chk26 v423), ∀ a, (k0_off27 v423) a + S1x128x192.size a ≤ S784x128x192.size a := fun v423 k0_hw26 => k0_hw26

def k0_off28 (v424 : BitVec 32) : Fin 3 → Nat :=
  let v432 : Index := Scalar.indexCast v424
  let c0_193 : Index := 0#32
  let c0_194 : Index := 0#32
  ![v432.toNat, 0, 0]

def k0_chk27 (v424 : BitVec 32) : Prop :=
  (∀ a, (k0_off28 v424) a + S1x128x192.size a ≤ S784x128x192.size a)
theorem k0_off28_inb : ∀ (v424 : BitVec 32) (k0_hw27 : k0_chk27 v424), ∀ a, (k0_off28 v424) a + S1x128x192.size a ≤ S784x128x192.size a := fun v424 k0_hw27 => k0_hw27

def k0_off29 (v425 : BitVec 32) : Fin 3 → Nat :=
  let v435 : Index := Scalar.indexCast v425
  let c0_195 : Index := 0#32
  let c0_196 : Index := 0#32
  ![v435.toNat, 0, 0]

def k0_chk28 (v425 : BitVec 32) : Prop :=
  (∀ a, (k0_off29 v425) a + S1x128x192.size a ≤ S784x128x192.size a)
theorem k0_off29_inb : ∀ (v425 : BitVec 32) (k0_hw28 : k0_chk28 v425), ∀ a, (k0_off29 v425) a + S1x128x192.size a ≤ S784x128x192.size a := fun v425 k0_hw28 => k0_hw28

def k0_off30 (v480 : BitVec 32) : Fin 3 → Nat :=
  let v484 : Index := Scalar.indexCast v480
  let c0_214 : Index := 0#32
  let c0_215 : Index := 0#32
  ![v484.toNat, 0, 0]

def k0_chk29 (v480 : BitVec 32) : Prop :=
  (∀ a, (k0_off30 v480) a + S1x128x192.size a ≤ S784x128x192.size a)
theorem k0_off30_inb : ∀ (v480 : BitVec 32) (k0_hw29 : k0_chk29 v480), ∀ a, (k0_off30 v480) a + S1x128x192.size a ≤ S784x128x192.size a := fun v480 k0_hw29 => k0_hw29

def k0_off31 (v481 : BitVec 32) : Fin 3 → Nat :=
  let v487 : Index := Scalar.indexCast v481
  let c0_216 : Index := 0#32
  let c0_217 : Index := 0#32
  ![v487.toNat, 0, 0]

def k0_chk30 (v481 : BitVec 32) : Prop :=
  (∀ a, (k0_off31 v481) a + S1x128x192.size a ≤ S784x128x192.size a)
theorem k0_off31_inb : ∀ (v481 : BitVec 32) (k0_hw30 : k0_chk30 v481), ∀ a, (k0_off31 v481) a + S1x128x192.size a ≤ S784x128x192.size a := fun v481 k0_hw30 => k0_hw30

def k0_off32 (v482 : BitVec 32) : Fin 3 → Nat :=
  let v490 : Index := Scalar.indexCast v482
  let c0_218 : Index := 0#32
  let c0_219 : Index := 0#32
  ![v490.toNat, 0, 0]

def k0_chk31 (v482 : BitVec 32) : Prop :=
  (∀ a, (k0_off32 v482) a + S1x128x192.size a ≤ S784x128x192.size a)
theorem k0_off32_inb : ∀ (v482 : BitVec 32) (k0_hw31 : k0_chk31 v482), ∀ a, (k0_off32 v482) a + S1x128x192.size a ≤ S784x128x192.size a := fun v482 k0_hw31 => k0_hw31

def k0_off33 (v483 : BitVec 32) : Fin 3 → Nat :=
  let v493 : Index := Scalar.indexCast v483
  let c0_220 : Index := 0#32
  let c0_221 : Index := 0#32
  ![v493.toNat, 0, 0]

def k0_chk32 (v483 : BitVec 32) : Prop :=
  (∀ a, (k0_off33 v483) a + S1x128x192.size a ≤ S784x128x192.size a)
theorem k0_off33_inb : ∀ (v483 : BitVec 32) (k0_hw32 : k0_chk32 v483), ∀ a, (k0_off33 v483) a + S1x128x192.size a ≤ S784x128x192.size a := fun v483 k0_hw32 => k0_hw32

def k0_off34 (v538 : BitVec 32) : Fin 3 → Nat :=
  let v542 : Index := Scalar.indexCast v538
  let c0_239 : Index := 0#32
  let c0_240 : Index := 0#32
  ![v542.toNat, 0, 0]

def k0_chk33 (v538 : BitVec 32) : Prop :=
  (∀ a, (k0_off34 v538) a + S1x128x192.size a ≤ S784x128x192.size a)
theorem k0_off34_inb : ∀ (v538 : BitVec 32) (k0_hw33 : k0_chk33 v538), ∀ a, (k0_off34 v538) a + S1x128x192.size a ≤ S784x128x192.size a := fun v538 k0_hw33 => k0_hw33

def k0_off35 (v539 : BitVec 32) : Fin 3 → Nat :=
  let v545 : Index := Scalar.indexCast v539
  let c0_241 : Index := 0#32
  let c0_242 : Index := 0#32
  ![v545.toNat, 0, 0]

def k0_chk34 (v539 : BitVec 32) : Prop :=
  (∀ a, (k0_off35 v539) a + S1x128x192.size a ≤ S784x128x192.size a)
theorem k0_off35_inb : ∀ (v539 : BitVec 32) (k0_hw34 : k0_chk34 v539), ∀ a, (k0_off35 v539) a + S1x128x192.size a ≤ S784x128x192.size a := fun v539 k0_hw34 => k0_hw34

def k0_off36 (v540 : BitVec 32) : Fin 3 → Nat :=
  let v548 : Index := Scalar.indexCast v540
  let c0_243 : Index := 0#32
  let c0_244 : Index := 0#32
  ![v548.toNat, 0, 0]

def k0_chk35 (v540 : BitVec 32) : Prop :=
  (∀ a, (k0_off36 v540) a + S1x128x192.size a ≤ S784x128x192.size a)
theorem k0_off36_inb : ∀ (v540 : BitVec 32) (k0_hw35 : k0_chk35 v540), ∀ a, (k0_off36 v540) a + S1x128x192.size a ≤ S784x128x192.size a := fun v540 k0_hw35 => k0_hw35

def k0_off37 (v541 : BitVec 32) : Fin 3 → Nat :=
  let v551 : Index := Scalar.indexCast v541
  let c0_245 : Index := 0#32
  let c0_246 : Index := 0#32
  ![v551.toNat, 0, 0]

def k0_chk36 (v541 : BitVec 32) : Prop :=
  (∀ a, (k0_off37 v541) a + S1x128x192.size a ≤ S784x128x192.size a)
theorem k0_off37_inb : ∀ (v541 : BitVec 32) (k0_hw36 : k0_chk36 v541), ∀ a, (k0_off37 v541) a + S1x128x192.size a ≤ S784x128x192.size a := fun v541 k0_hw36 => k0_hw36

def k0_off38 (v596 : BitVec 32) : Fin 3 → Nat :=
  let v600 : Index := Scalar.indexCast v596
  let c0_264 : Index := 0#32
  let c0_265 : Index := 0#32
  ![v600.toNat, 0, 0]

def k0_chk37 (v596 : BitVec 32) : Prop :=
  (∀ a, (k0_off38 v596) a + S1x128x192.size a ≤ S784x128x192.size a)
theorem k0_off38_inb : ∀ (v596 : BitVec 32) (k0_hw37 : k0_chk37 v596), ∀ a, (k0_off38 v596) a + S1x128x192.size a ≤ S784x128x192.size a := fun v596 k0_hw37 => k0_hw37

def k0_off39 (v597 : BitVec 32) : Fin 3 → Nat :=
  let v603 : Index := Scalar.indexCast v597
  let c0_266 : Index := 0#32
  let c0_267 : Index := 0#32
  ![v603.toNat, 0, 0]

def k0_chk38 (v597 : BitVec 32) : Prop :=
  (∀ a, (k0_off39 v597) a + S1x128x192.size a ≤ S784x128x192.size a)
theorem k0_off39_inb : ∀ (v597 : BitVec 32) (k0_hw38 : k0_chk38 v597), ∀ a, (k0_off39 v597) a + S1x128x192.size a ≤ S784x128x192.size a := fun v597 k0_hw38 => k0_hw38

def k0_off40 (v598 : BitVec 32) : Fin 3 → Nat :=
  let v606 : Index := Scalar.indexCast v598
  let c0_268 : Index := 0#32
  let c0_269 : Index := 0#32
  ![v606.toNat, 0, 0]

def k0_chk39 (v598 : BitVec 32) : Prop :=
  (∀ a, (k0_off40 v598) a + S1x128x192.size a ≤ S784x128x192.size a)
theorem k0_off40_inb : ∀ (v598 : BitVec 32) (k0_hw39 : k0_chk39 v598), ∀ a, (k0_off40 v598) a + S1x128x192.size a ≤ S784x128x192.size a := fun v598 k0_hw39 => k0_hw39

def k0_off41 (v599 : BitVec 32) : Fin 3 → Nat :=
  let v609 : Index := Scalar.indexCast v599
  let c0_270 : Index := 0#32
  let c0_271 : Index := 0#32
  ![v609.toNat, 0, 0]

def k0_chk40 (v599 : BitVec 32) : Prop :=
  (∀ a, (k0_off41 v599) a + S1x128x192.size a ≤ S784x128x192.size a)
theorem k0_off41_inb : ∀ (v599 : BitVec 32) (k0_hw40 : k0_chk40 v599), ∀ a, (k0_off41 v599) a + S1x128x192.size a ≤ S784x128x192.size a := fun v599 k0_hw40 => k0_hw40

def k0_off42 (v654 : BitVec 32) : Fin 3 → Nat :=
  let v658 : Index := Scalar.indexCast v654
  let c0_289 : Index := 0#32
  let c0_290 : Index := 0#32
  ![v658.toNat, 0, 0]

def k0_chk41 (v654 : BitVec 32) : Prop :=
  (∀ a, (k0_off42 v654) a + S1x128x192.size a ≤ S784x128x192.size a)
theorem k0_off42_inb : ∀ (v654 : BitVec 32) (k0_hw41 : k0_chk41 v654), ∀ a, (k0_off42 v654) a + S1x128x192.size a ≤ S784x128x192.size a := fun v654 k0_hw41 => k0_hw41

def k0_off43 (v655 : BitVec 32) : Fin 3 → Nat :=
  let v661 : Index := Scalar.indexCast v655
  let c0_291 : Index := 0#32
  let c0_292 : Index := 0#32
  ![v661.toNat, 0, 0]

def k0_chk42 (v655 : BitVec 32) : Prop :=
  (∀ a, (k0_off43 v655) a + S1x128x192.size a ≤ S784x128x192.size a)
theorem k0_off43_inb : ∀ (v655 : BitVec 32) (k0_hw42 : k0_chk42 v655), ∀ a, (k0_off43 v655) a + S1x128x192.size a ≤ S784x128x192.size a := fun v655 k0_hw42 => k0_hw42

def k0_off44 (v656 : BitVec 32) : Fin 3 → Nat :=
  let v664 : Index := Scalar.indexCast v656
  let c0_293 : Index := 0#32
  let c0_294 : Index := 0#32
  ![v664.toNat, 0, 0]

def k0_chk43 (v656 : BitVec 32) : Prop :=
  (∀ a, (k0_off44 v656) a + S1x128x192.size a ≤ S784x128x192.size a)
theorem k0_off44_inb : ∀ (v656 : BitVec 32) (k0_hw43 : k0_chk43 v656), ∀ a, (k0_off44 v656) a + S1x128x192.size a ≤ S784x128x192.size a := fun v656 k0_hw43 => k0_hw43

def k0_off45 (v657 : BitVec 32) : Fin 3 → Nat :=
  let v667 : Index := Scalar.indexCast v657
  let c0_295 : Index := 0#32
  let c0_296 : Index := 0#32
  ![v667.toNat, 0, 0]

def k0_chk44 (v657 : BitVec 32) : Prop :=
  (∀ a, (k0_off45 v657) a + S1x128x192.size a ≤ S784x128x192.size a)
theorem k0_off45_inb : ∀ (v657 : BitVec 32) (k0_hw44 : k0_chk44 v657), ∀ a, (k0_off45 v657) a + S1x128x192.size a ≤ S784x128x192.size a := fun v657 k0_hw44 => k0_hw44

def k0_off46 (v712 : BitVec 32) : Fin 3 → Nat :=
  let v716 : Index := Scalar.indexCast v712
  let c0_314 : Index := 0#32
  let c0_315 : Index := 0#32
  ![v716.toNat, 0, 0]

def k0_chk45 (v712 : BitVec 32) : Prop :=
  (∀ a, (k0_off46 v712) a + S1x128x192.size a ≤ S784x128x192.size a)
theorem k0_off46_inb : ∀ (v712 : BitVec 32) (k0_hw45 : k0_chk45 v712), ∀ a, (k0_off46 v712) a + S1x128x192.size a ≤ S784x128x192.size a := fun v712 k0_hw45 => k0_hw45

def k0_off47 (v713 : BitVec 32) : Fin 3 → Nat :=
  let v719 : Index := Scalar.indexCast v713
  let c0_316 : Index := 0#32
  let c0_317 : Index := 0#32
  ![v719.toNat, 0, 0]

def k0_chk46 (v713 : BitVec 32) : Prop :=
  (∀ a, (k0_off47 v713) a + S1x128x192.size a ≤ S784x128x192.size a)
theorem k0_off47_inb : ∀ (v713 : BitVec 32) (k0_hw46 : k0_chk46 v713), ∀ a, (k0_off47 v713) a + S1x128x192.size a ≤ S784x128x192.size a := fun v713 k0_hw46 => k0_hw46

def k0_off48 (v714 : BitVec 32) : Fin 3 → Nat :=
  let v722 : Index := Scalar.indexCast v714
  let c0_318 : Index := 0#32
  let c0_319 : Index := 0#32
  ![v722.toNat, 0, 0]

def k0_chk47 (v714 : BitVec 32) : Prop :=
  (∀ a, (k0_off48 v714) a + S1x128x192.size a ≤ S784x128x192.size a)
theorem k0_off48_inb : ∀ (v714 : BitVec 32) (k0_hw47 : k0_chk47 v714), ∀ a, (k0_off48 v714) a + S1x128x192.size a ≤ S784x128x192.size a := fun v714 k0_hw47 => k0_hw47

def k0_off49 (v715 : BitVec 32) : Fin 3 → Nat :=
  let v725 : Index := Scalar.indexCast v715
  let c0_320 : Index := 0#32
  let c0_321 : Index := 0#32
  ![v725.toNat, 0, 0]

def k0_chk48 (v715 : BitVec 32) : Prop :=
  (∀ a, (k0_off49 v715) a + S1x128x192.size a ≤ S784x128x192.size a)
theorem k0_off49_inb : ∀ (v715 : BitVec 32) (k0_hw48 : k0_chk48 v715), ∀ a, (k0_off49 v715) a + S1x128x192.size a ≤ S784x128x192.size a := fun v715 k0_hw48 => k0_hw48

def k0_off50 (v770 : BitVec 32) : Fin 3 → Nat :=
  let v774 : Index := Scalar.indexCast v770
  let c0_339 : Index := 0#32
  let c0_340 : Index := 0#32
  ![v774.toNat, 0, 0]

def k0_chk49 (v770 : BitVec 32) : Prop :=
  (∀ a, (k0_off50 v770) a + S1x128x192.size a ≤ S784x128x192.size a)
theorem k0_off50_inb : ∀ (v770 : BitVec 32) (k0_hw49 : k0_chk49 v770), ∀ a, (k0_off50 v770) a + S1x128x192.size a ≤ S784x128x192.size a := fun v770 k0_hw49 => k0_hw49

def k0_off51 (v771 : BitVec 32) : Fin 3 → Nat :=
  let v777 : Index := Scalar.indexCast v771
  let c0_341 : Index := 0#32
  let c0_342 : Index := 0#32
  ![v777.toNat, 0, 0]

def k0_chk50 (v771 : BitVec 32) : Prop :=
  (∀ a, (k0_off51 v771) a + S1x128x192.size a ≤ S784x128x192.size a)
theorem k0_off51_inb : ∀ (v771 : BitVec 32) (k0_hw50 : k0_chk50 v771), ∀ a, (k0_off51 v771) a + S1x128x192.size a ≤ S784x128x192.size a := fun v771 k0_hw50 => k0_hw50

def k0_off52 (v772 : BitVec 32) : Fin 3 → Nat :=
  let v780 : Index := Scalar.indexCast v772
  let c0_343 : Index := 0#32
  let c0_344 : Index := 0#32
  ![v780.toNat, 0, 0]

def k0_chk51 (v772 : BitVec 32) : Prop :=
  (∀ a, (k0_off52 v772) a + S1x128x192.size a ≤ S784x128x192.size a)
theorem k0_off52_inb : ∀ (v772 : BitVec 32) (k0_hw51 : k0_chk51 v772), ∀ a, (k0_off52 v772) a + S1x128x192.size a ≤ S784x128x192.size a := fun v772 k0_hw51 => k0_hw51

def k0_off53 (v773 : BitVec 32) : Fin 3 → Nat :=
  let v783 : Index := Scalar.indexCast v773
  let c0_345 : Index := 0#32
  let c0_346 : Index := 0#32
  ![v783.toNat, 0, 0]

def k0_chk52 (v773 : BitVec 32) : Prop :=
  (∀ a, (k0_off53 v773) a + S1x128x192.size a ≤ S784x128x192.size a)
theorem k0_off53_inb : ∀ (v773 : BitVec 32) (k0_hw52 : k0_chk52 v773), ∀ a, (k0_off53 v773) a + S1x128x192.size a ≤ S784x128x192.size a := fun v773 k0_hw52 => k0_hw52

def k0_off54 (v828 : BitVec 32) : Fin 3 → Nat :=
  let v832 : Index := Scalar.indexCast v828
  let c0_364 : Index := 0#32
  let c0_365 : Index := 0#32
  ![v832.toNat, 0, 0]

def k0_chk53 (v828 : BitVec 32) : Prop :=
  (∀ a, (k0_off54 v828) a + S1x128x192.size a ≤ S784x128x192.size a)
theorem k0_off54_inb : ∀ (v828 : BitVec 32) (k0_hw53 : k0_chk53 v828), ∀ a, (k0_off54 v828) a + S1x128x192.size a ≤ S784x128x192.size a := fun v828 k0_hw53 => k0_hw53

def k0_off55 (v829 : BitVec 32) : Fin 3 → Nat :=
  let v835 : Index := Scalar.indexCast v829
  let c0_366 : Index := 0#32
  let c0_367 : Index := 0#32
  ![v835.toNat, 0, 0]

def k0_chk54 (v829 : BitVec 32) : Prop :=
  (∀ a, (k0_off55 v829) a + S1x128x192.size a ≤ S784x128x192.size a)
theorem k0_off55_inb : ∀ (v829 : BitVec 32) (k0_hw54 : k0_chk54 v829), ∀ a, (k0_off55 v829) a + S1x128x192.size a ≤ S784x128x192.size a := fun v829 k0_hw54 => k0_hw54

def k0_off56 (v830 : BitVec 32) : Fin 3 → Nat :=
  let v838 : Index := Scalar.indexCast v830
  let c0_368 : Index := 0#32
  let c0_369 : Index := 0#32
  ![v838.toNat, 0, 0]

def k0_chk55 (v830 : BitVec 32) : Prop :=
  (∀ a, (k0_off56 v830) a + S1x128x192.size a ≤ S784x128x192.size a)
theorem k0_off56_inb : ∀ (v830 : BitVec 32) (k0_hw55 : k0_chk55 v830), ∀ a, (k0_off56 v830) a + S1x128x192.size a ≤ S784x128x192.size a := fun v830 k0_hw55 => k0_hw55

def k0_off57 (v831 : BitVec 32) : Fin 3 → Nat :=
  let v841 : Index := Scalar.indexCast v831
  let c0_370 : Index := 0#32
  let c0_371 : Index := 0#32
  ![v841.toNat, 0, 0]

def k0_chk56 (v831 : BitVec 32) : Prop :=
  (∀ a, (k0_off57 v831) a + S1x128x192.size a ≤ S784x128x192.size a)
theorem k0_off57_inb : ∀ (v831 : BitVec 32) (k0_hw56 : k0_chk56 v831), ∀ a, (k0_off57 v831) a + S1x128x192.size a ≤ S784x128x192.size a := fun v831 k0_hw56 => k0_hw56

def cc0_transform_0 (i : grid0.Coords) : Fin 3 → Nat :=
  let arg0 : BitVec 32 := BitVec.ofNat 32 (i 0).val
  let arg1 : BitVec 32 := BitVec.ofNat 32 (i 1).val
  let c56_i32 : BitVec 32 := 56#32
  let v0 : BitVec 32 := Scalar.muli arg0 c56_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .smem S1x1x56 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x896x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x896x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S192x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S192x192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x896x192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x896x192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x8x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S2x784x4 : Shape := ⟨3, ![2, 784, 4]⟩
abbrev S2x56x896x192 : Shape := ⟨4, ![2, 56, 896, 192]⟩
abbrev S2x784x128x192 : Shape := ⟨4, ![2, 784, 128, 192]⟩
abbrev S192x192 : Shape := ⟨2, ![192, 192]⟩
abbrev S2x784x64x4x48 : Shape := ⟨5, ![2, 784, 64, 4, 48]⟩
abbrev S_ : Shape := ⟨0, ![]⟩
abbrev S2x784x4x1 : Shape := ⟨4, ![2, 784, 4, 1]⟩
abbrev S1 : Shape := ⟨1, ![1]⟩
abbrev S1x1x1x1 : Shape := ⟨4, ![1, 1, 1, 1]⟩
abbrev S2x784x4x128x192 : Shape := ⟨5, ![2, 784, 4, 128, 192]⟩
abbrev S2x784x4x64x192 : Shape := ⟨5, ![2, 784, 4, 64, 192]⟩
abbrev S2x784x256x4x48 : Shape := ⟨5, ![2, 784, 256, 4, 48]⟩
abbrev S2x784x4x64x256 : Shape := ⟨5, ![2, 784, 4, 64, 256]⟩
abbrev S2x784x4x64 : Shape := ⟨4, ![2, 784, 4, 64]⟩
abbrev S2x784x4x64x1 : Shape := ⟨5, ![2, 784, 4, 64, 1]⟩
abbrev S2x784x4x48x64 : Shape := ⟨5, ![2, 784, 4, 48, 64]⟩
abbrev S2x784x64x192 : Shape := ⟨4, ![2, 784, 64, 192]⟩
abbrev S2x56x192 : Shape := ⟨3, ![2, 56, 192]⟩
abbrev S2x56x1x192 : Shape := ⟨4, ![2, 56, 1, 192]⟩
abbrev S2x56x6x192 : Shape := ⟨4, ![2, 56, 6, 192]⟩
abbrev S2x56x8x192 : Shape := ⟨4, ![2, 56, 8, 192]⟩

abbrev nBuf : Space → Nat
  | .hbm => 80
  | .vmem => 0
  | .smem => 0
  | _ => 0

abbrev bufTy : (tb : Table) → Fin (tcTables nBuf tb) → BufTy
  | .hbm, ⟨0, _⟩ => ⟨S2x784x4, .i32⟩
  | .hbm, ⟨1, _⟩ => ⟨S2x56x896x192, .bf16⟩
  | .hbm, ⟨2, _⟩ => ⟨S2x56x896x192, .bf16⟩
  | .hbm, ⟨3, _⟩ => ⟨S2x784x128x192, .bf16⟩
  | .hbm, ⟨4, _⟩ => ⟨S192x192, .bf16⟩
  | .hbm, ⟨5, _⟩ => ⟨S192x192, .bf16⟩
  | .hbm, ⟨6, _⟩ => ⟨S2x56x896x192, .f32⟩
  | .hbm, ⟨7, _⟩ => ⟨S2x784x64x4x48, .f32⟩
  | .hbm, ⟨8, _⟩ => ⟨S2x784x128x192, .f32⟩
  | .hbm, ⟨9, _⟩ => ⟨S_, .i32⟩
  | .hbm, ⟨10, _⟩ => ⟨S2x784x4, .i32⟩
  | .hbm, ⟨11, _⟩ => ⟨S2x784x4, .i1⟩
  | .hbm, ⟨12, _⟩ => ⟨S_, .i32⟩
  | .hbm, ⟨13, _⟩ => ⟨S2x784x4, .i32⟩
  | .hbm, ⟨14, _⟩ => ⟨S2x784x4, .i32⟩
  | .hbm, ⟨15, _⟩ => ⟨S2x784x4, .i32⟩
  | .hbm, ⟨16, _⟩ => ⟨S2x784x4x1, .i32⟩
  | .hbm, ⟨17, _⟩ => ⟨S1, .i32⟩
  | .hbm, ⟨18, _⟩ => ⟨S_, .i32⟩
  | .hbm, ⟨19, _⟩ => ⟨S2x784x4x1, .i32⟩
  | .hbm, ⟨20, _⟩ => ⟨S2x784x4x1, .i1⟩
  | .hbm, ⟨21, _⟩ => ⟨S1x1x1x1, .i32⟩
  | .hbm, ⟨22, _⟩ => ⟨S2x784x4x1, .i32⟩
  | .hbm, ⟨23, _⟩ => ⟨S2x784x4x1, .i1⟩
  | .hbm, ⟨24, _⟩ => ⟨S2x784x4x1, .i1⟩
  | .hbm, ⟨25, _⟩ => ⟨S_, .i1⟩
  | .hbm, ⟨26, _⟩ => ⟨S2x784x4, .i1⟩
  | .hbm, ⟨27, _⟩ => ⟨S2x784x4x128x192, .f32⟩
  | .hbm, ⟨28, _⟩ => ⟨S2x784x4x128x192, .i1⟩
  | .hbm, ⟨29, _⟩ => ⟨S_, .f32⟩
  | .hbm, ⟨30, _⟩ => ⟨S2x784x4x128x192, .f32⟩
  | .hbm, ⟨31, _⟩ => ⟨S2x784x4x128x192, .f32⟩
  | .hbm, ⟨32, _⟩ => ⟨S2x784x4x64x192, .f32⟩
  | .hbm, ⟨33, _⟩ => ⟨S2x784x256x4x48, .f32⟩
  | .hbm, ⟨34, _⟩ => ⟨S2x784x4x64x192, .f32⟩
  | .hbm, ⟨35, _⟩ => ⟨S2x784x256x4x48, .f32⟩
  | .hbm, ⟨36, _⟩ => ⟨S2x784x4x64x256, .f32⟩
  | .hbm, ⟨37, _⟩ => ⟨S_, .f32⟩
  | .hbm, ⟨38, _⟩ => ⟨S2x784x4x64x256, .f32⟩
  | .hbm, ⟨39, _⟩ => ⟨S2x784x4x64x256, .f32⟩
  | .hbm, ⟨40, _⟩ => ⟨S_, .f32⟩
  | .hbm, ⟨41, _⟩ => ⟨S2x784x4x64, .f32⟩
  | .hbm, ⟨42, _⟩ => ⟨S_, .f32⟩
  | .hbm, ⟨43, _⟩ => ⟨S2x784x4x64, .f32⟩
  | .hbm, ⟨44, _⟩ => ⟨S2x784x4x64, .f32⟩
  | .hbm, ⟨45, _⟩ => ⟨S2x784x4x64x1, .f32⟩
  | .hbm, ⟨46, _⟩ => ⟨S2x784x4x64x256, .f32⟩
  | .hbm, ⟨47, _⟩ => ⟨S2x784x4x64x256, .f32⟩
  | .hbm, ⟨48, _⟩ => ⟨S2x784x4x64x256, .f32⟩
  | .hbm, ⟨49, _⟩ => ⟨S_, .f32⟩
  | .hbm, ⟨50, _⟩ => ⟨S2x784x4x64, .f32⟩
  | .hbm, ⟨51, _⟩ => ⟨S2x784x4x64x1, .f32⟩
  | .hbm, ⟨52, _⟩ => ⟨S2x784x4x64x256, .f32⟩
  | .hbm, ⟨53, _⟩ => ⟨S2x784x4x64x256, .f32⟩
  | .hbm, ⟨54, _⟩ => ⟨S2x784x4x48x64, .f32⟩
  | .hbm, ⟨55, _⟩ => ⟨S2x784x64x4x48, .f32⟩
  | .hbm, ⟨56, _⟩ => ⟨S2x784x64x192, .f32⟩
  | .hbm, ⟨57, _⟩ => ⟨S192x192, .f32⟩
  | .hbm, ⟨58, _⟩ => ⟨S2x784x64x192, .f32⟩
  | .hbm, ⟨59, _⟩ => ⟨S2x56x896x192, .f32⟩
  | .hbm, ⟨60, _⟩ => ⟨S2x784x64x192, .f32⟩
  | .hbm, ⟨61, _⟩ => ⟨S192x192, .f32⟩
  | .hbm, ⟨62, _⟩ => ⟨S2x784x64x192, .f32⟩
  | .hbm, ⟨63, _⟩ => ⟨S2x784x64x192, .f32⟩
  | .hbm, ⟨64, _⟩ => ⟨S2x56x896x192, .f32⟩
  | .hbm, ⟨65, _⟩ => ⟨S_, .f32⟩
  | .hbm, ⟨66, _⟩ => ⟨S2x56x192, .f32⟩
  | .hbm, ⟨67, _⟩ => ⟨S2x56x1x192, .f32⟩
  | .hbm, ⟨68, _⟩ => ⟨S2x784x64x192, .f32⟩
  | .hbm, ⟨69, _⟩ => ⟨S2x56x896x192, .f32⟩
  | .hbm, ⟨70, _⟩ => ⟨S_, .f32⟩
  | .hbm, ⟨71, _⟩ => ⟨S2x56x192, .f32⟩
  | .hbm, ⟨72, _⟩ => ⟨S2x56x1x192, .f32⟩
  | .hbm, ⟨73, _⟩ => ⟨S_, .f32⟩
  | .hbm, ⟨74, _⟩ => ⟨S2x56x6x192, .f32⟩
  | .hbm, ⟨75, _⟩ => ⟨S2x56x8x192, .f32⟩
  | .hbm, ⟨76, _⟩ => ⟨S2x56x896x192, .f32⟩
  | .hbm, ⟨77, _⟩ => ⟨S2x56x896x192, .bf16⟩
  | .hbm, ⟨78, _⟩ => ⟨S2x56x896x192, .f32⟩
  | .hbm, ⟨79, _⟩ => ⟨S2x56x896x192, .bf16⟩
  | _, _ => ⟨S2x784x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst : Ref sig .tc := ⟨.hbm, 37, rfl⟩
abbrev main_v9 : Ref sig .tc := ⟨.hbm, 38, rfl⟩
abbrev main_v10 : Ref sig .tc := ⟨.hbm, 39, rfl⟩
abbrev main_cst_0 : Ref sig .tc := ⟨.hbm, 40, rfl⟩
abbrev main_v11 : Ref sig .tc := ⟨.hbm, 41, rfl⟩
abbrev main_cst_1 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst_2 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_3 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_4 : Ref sig .tc := ⟨.hbm, 70, rfl⟩
abbrev main_v37 : Ref sig .tc := ⟨.hbm, 71, rfl⟩
abbrev main_v38 : Ref sig .tc := ⟨.hbm, 72, rfl⟩
abbrev main_cst_5 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩

abbrev nD : Nat := 1
abbrev τ : Topo := Topo.v7x

variable {F : FTy → Type} [FloatOps F]
-- ==== KernelKV.lean ====
abbrev S2x192x224x224 : Shape := ⟨4, ![2, 192, 224, 224]⟩
abbrev S192x192 : Shape := ⟨2, ![192, 192]⟩
abbrev S2x192x28x8x28x8 : Shape := ⟨6, ![2, 192, 28, 8, 28, 8]⟩
abbrev S2x28x28x8x8x192 : Shape := ⟨6, ![2, 28, 28, 8, 8, 192]⟩
abbrev S2x50176x192 : Shape := ⟨3, ![2, 50176, 192]⟩
abbrev S192x384 : Shape := ⟨2, ![192, 384]⟩
abbrev S2x784x128x192 : Shape := ⟨4, ![2, 784, 128, 192]⟩
abbrev S2x56x14x192 : Shape := ⟨4, ![2, 56, 14, 192]⟩
abbrev S1x896x192 : Shape := ⟨3, ![1, 896, 192]⟩
abbrev S1x14x128x192 : Shape := ⟨4, ![1, 14, 128, 192]⟩
abbrev S1x1x14x192 : Shape := ⟨4, ![1, 1, 14, 192]⟩
abbrev S896x192 : Shape := ⟨2, ![896, 192]⟩
abbrev S896x384 : Shape := ⟨2, ![896, 384]⟩
abbrev S14x64x192 : Shape := ⟨3, ![14, 64, 192]⟩
abbrev S1x14x64x192 : Shape := ⟨4, ![1, 14, 64, 192]⟩
abbrev S14x192 : Shape := ⟨2, ![14, 192]⟩

abbrev nBuf : Space → Nat
  | .hbm => 12
  | .vmem => 7
  | .smem => 0
  | _ => 0

abbrev bufTy : (tb : Table) → Fin (tcTables nBuf tb) → BufTy
  | .hbm, ⟨0, _⟩ => ⟨S2x192x224x224, .f32⟩
  | .hbm, ⟨1, _⟩ => ⟨S192x192, .f32⟩
  | .hbm, ⟨2, _⟩ => ⟨S192x192, .f32⟩
  | .hbm, ⟨3, _⟩ => ⟨S2x192x28x8x28x8, .f32⟩
  | .hbm, ⟨4, _⟩ => ⟨S2x28x28x8x8x192, .f32⟩
  | .hbm, ⟨5, _⟩ => ⟨S2x50176x192, .f32⟩
  | .hbm, ⟨6, _⟩ => ⟨S192x192, .f32⟩
  | .hbm, ⟨7, _⟩ => ⟨S192x192, .f32⟩
  | .hbm, ⟨8, _⟩ => ⟨S192x384, .f32⟩
  | .hbm, ⟨9, _⟩ => ⟨S192x384, .bf16⟩
  | .hbm, ⟨10, _⟩ => ⟨S2x784x128x192, .bf16⟩
  | .hbm, ⟨11, _⟩ => ⟨S2x56x14x192, .f32⟩
  | .local _ .vmem, ⟨0, _⟩ => ⟨S1x896x192, .f32⟩
  | .local _ .vmem, ⟨1, _⟩ => ⟨S1x896x192, .f32⟩
  | .local _ .vmem, ⟨2, _⟩ => ⟨S192x384, .bf16⟩
  | .local _ .vmem, ⟨3, _⟩ => ⟨S1x14x128x192, .bf16⟩
  | .local _ .vmem, ⟨4, _⟩ => ⟨S1x14x128x192, .bf16⟩
  | .local _ .vmem, ⟨5, _⟩ => ⟨S1x1x14x192, .f32⟩
  | .local _ .vmem, ⟨6, _⟩ => ⟨S1x1x14x192, .f32⟩
  | _, _ => ⟨S2x192x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 56], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x896x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S192x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x14x128x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x14x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceKVIdeal.lean ====
abbrev S2x192x224x224 : Shape := ⟨4, ![2, 192, 224, 224]⟩
abbrev S192x192 : Shape := ⟨2, ![192, 192]⟩
abbrev S2x192x28x8x28x8 : Shape := ⟨6, ![2, 192, 28, 8, 28, 8]⟩
abbrev S2x28x28x8x8x192 : Shape := ⟨6, ![2, 28, 28, 8, 8, 192]⟩
abbrev S2x784x64x192 : Shape := ⟨4, ![2, 784, 64, 192]⟩
abbrev S_ : Shape := ⟨0, ![]⟩
abbrev S2x784x192 : Shape := ⟨3, ![2, 784, 192]⟩
abbrev S2x784x128x192 : Shape := ⟨4, ![2, 784, 128, 192]⟩
abbrev S2x56x14x192 : Shape := ⟨4, ![2, 56, 14, 192]⟩

abbrev nBuf : Space → Nat
  | .hbm => 13
  | .vmem => 0
  | .smem => 0
  | _ => 0

abbrev bufTy : (tb : Table) → Fin (tcTables nBuf tb) → BufTy
  | .hbm, ⟨0, _⟩ => ⟨S2x192x224x224, .f32⟩
  | .hbm, ⟨1, _⟩ => ⟨S192x192, .f32⟩
  | .hbm, ⟨2, _⟩ => ⟨S192x192, .f32⟩
  | .hbm, ⟨3, _⟩ => ⟨S2x192x28x8x28x8, .f32⟩
  | .hbm, ⟨4, _⟩ => ⟨S2x28x28x8x8x192, .f32⟩
  | .hbm, ⟨5, _⟩ => ⟨S2x784x64x192, .f32⟩
  | .hbm, ⟨6, _⟩ => ⟨S2x784x64x192, .f32⟩
  | .hbm, ⟨7, _⟩ => ⟨S2x784x64x192, .f32⟩
  | .hbm, ⟨8, _⟩ => ⟨S_, .f32⟩
  | .hbm, ⟨9, _⟩ => ⟨S2x784x192, .f32⟩
  | .hbm, ⟨10, _⟩ => ⟨S2x784x128x192, .f32⟩
  | .hbm, ⟨11, _⟩ => ⟨S2x784x128x192, .bf16⟩
  | .hbm, ⟨12, _⟩ => ⟨S2x56x14x192, .f32⟩
  | _, _ => ⟨S2x192x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== KernelQ.lean ====
abbrev S2x192x224x224 : Shape := ⟨4, ![2, 192, 224, 224]⟩
abbrev S192x192 : Shape := ⟨2, ![192, 192]⟩
abbrev S192x384 : Shape := ⟨2, ![192, 384]⟩
abbrev S2x192x28x8x28x8 : Shape := ⟨6, ![2, 192, 28, 8, 28, 8]⟩
abbrev S2x28x28x8x8x192 : Shape := ⟨6, ![2, 28, 28, 8, 8, 192]⟩
abbrev S2x50176x192 : Shape := ⟨3, ![2, 50176, 192]⟩
abbrev S2x56x896x192 : Shape := ⟨4, ![2, 56, 896, 192]⟩
abbrev S2x56x14x192 : Shape := ⟨4, ![2, 56, 14, 192]⟩
abbrev S1x896x192 : Shape := ⟨3, ![1, 896, 192]⟩
abbrev S1x1x896x192 : Shape := ⟨4, ![1, 1, 896, 192]⟩
abbrev S1x1x14x192 : Shape := ⟨4, ![1, 1, 14, 192]⟩
abbrev S896x192 : Shape := ⟨2, ![896, 192]⟩
abbrev S896x384 : Shape := ⟨2, ![896, 384]⟩
abbrev S14x64x192 : Shape := ⟨3, ![14, 64, 192]⟩
abbrev S14x192 : Shape := ⟨2, ![14, 192]⟩

abbrev nBuf : Space → Nat
  | .hbm => 14
  | .vmem => 9
  | .smem => 0
  | _ => 0

abbrev bufTy : (tb : Table) → Fin (tcTables nBuf tb) → BufTy
  | .hbm, ⟨0, _⟩ => ⟨S2x192x224x224, .f32⟩
  | .hbm, ⟨1, _⟩ => ⟨S192x192, .f32⟩
  | .hbm, ⟨2, _⟩ => ⟨S192x384, .f32⟩
  | .hbm, ⟨3, _⟩ => ⟨S2x192x28x8x28x8, .f32⟩
  | .hbm, ⟨4, _⟩ => ⟨S2x28x28x8x8x192, .f32⟩
  | .hbm, ⟨5, _⟩ => ⟨S2x50176x192, .f32⟩
  | .hbm, ⟨6, _⟩ => ⟨S192x192, .f32⟩
  | .hbm, ⟨7, _⟩ => ⟨S192x192, .f32⟩
  | .hbm, ⟨8, _⟩ => ⟨S192x192, .f32⟩
  | .hbm, ⟨9, _⟩ => ⟨S192x384, .f32⟩
  | .hbm, ⟨10, _⟩ => ⟨S192x384, .bf16⟩
  | .hbm, ⟨11, _⟩ => ⟨S2x56x896x192, .bf16⟩
  | .hbm, ⟨12, _⟩ => ⟨S2x56x896x192, .bf16⟩
  | .hbm, ⟨13, _⟩ => ⟨S2x56x14x192, .f32⟩
  | .local _ .vmem, ⟨0, _⟩ => ⟨S1x896x192, .f32⟩
  | .local _ .vmem, ⟨1, _⟩ => ⟨S1x896x192, .f32⟩
  | .local _ .vmem, ⟨2, _⟩ => ⟨S192x384, .bf16⟩
  | .local _ .vmem, ⟨3, _⟩ => ⟨S1x1x896x192, .bf16⟩
  | .local _ .vmem, ⟨4, _⟩ => ⟨S1x1x896x192, .bf16⟩
  | .local _ .vmem, ⟨5, _⟩ => ⟨S1x1x896x192, .bf16⟩
  | .local _ .vmem, ⟨6, _⟩ => ⟨S1x1x896x192, .bf16⟩
  | .local _ .vmem, ⟨7, _⟩ => ⟨S1x1x14x192, .f32⟩
  | .local _ .vmem, ⟨8, _⟩ => ⟨S1x1x14x192, .f32⟩
  | _, _ => ⟨S2x192x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 56], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x896x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S192x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x896x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x896x192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x14x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceQIdeal.lean ====
abbrev S2x192x224x224 : Shape := ⟨4, ![2, 192, 224, 224]⟩
abbrev S192x192 : Shape := ⟨2, ![192, 192]⟩
abbrev S192x384 : Shape := ⟨2, ![192, 384]⟩
abbrev S2x192x28x8x28x8 : Shape := ⟨6, ![2, 192, 28, 8, 28, 8]⟩
abbrev S2x28x28x8x8x192 : Shape := ⟨6, ![2, 28, 28, 8, 8, 192]⟩
abbrev S2x784x64x192 : Shape := ⟨4, ![2, 784, 64, 192]⟩
abbrev S_ : Shape := ⟨0, ![]⟩
abbrev S2x784x192 : Shape := ⟨3, ![2, 784, 192]⟩
abbrev S2x56x896x192 : Shape := ⟨4, ![2, 56, 896, 192]⟩
abbrev S2x56x14x192 : Shape := ⟨4, ![2, 56, 14, 192]⟩

abbrev nBuf : Space → Nat
  | .hbm => 16
  | .vmem => 0
  | .smem => 0
  | _ => 0

abbrev bufTy : (tb : Table) → Fin (tcTables nBuf tb) → BufTy
  | .hbm, ⟨0, _⟩ => ⟨S2x192x224x224, .f32⟩
  | .hbm, ⟨1, _⟩ => ⟨S192x192, .f32⟩
  | .hbm, ⟨2, _⟩ => ⟨S192x384, .f32⟩
  | .hbm, ⟨3, _⟩ => ⟨S2x192x28x8x28x8, .f32⟩
  | .hbm, ⟨4, _⟩ => ⟨S2x28x28x8x8x192, .f32⟩
  | .hbm, ⟨5, _⟩ => ⟨S2x784x64x192, .f32⟩
  | .hbm, ⟨6, _⟩ => ⟨S2x784x64x192, .f32⟩
  | .hbm, ⟨7, _⟩ => ⟨S192x192, .f32⟩
  | .hbm, ⟨8, _⟩ => ⟨S2x784x64x192, .f32⟩
  | .hbm, ⟨9, _⟩ => ⟨S_, .f32⟩
  | .hbm, ⟨10, _⟩ => ⟨S2x784x192, .f32⟩
  | .hbm, ⟨11, _⟩ => ⟨S2x56x896x192, .f32⟩
  | .hbm, ⟨12, _⟩ => ⟨S2x56x896x192, .bf16⟩
  | .hbm, ⟨13, _⟩ => ⟨S2x56x896x192, .f32⟩
  | .hbm, ⟨14, _⟩ => ⟨S2x56x896x192, .bf16⟩
  | .hbm, ⟨15, _⟩ => ⟨S2x56x14x192, .f32⟩
  | _, _ => ⟨S2x192x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== KernelGate.lean ====
abbrev S2x192x224x224 : Shape := ⟨4, ![2, 192, 224, 224]⟩
abbrev S2x56x896x192 : Shape := ⟨4, ![2, 56, 896, 192]⟩
abbrev S2x56x8x192 : Shape := ⟨4, ![2, 56, 8, 192]⟩
abbrev S192 : Shape := ⟨1, ![192]⟩
abbrev S2x192x28x8x28x8 : Shape := ⟨6, ![2, 192, 28, 8, 28, 8]⟩
abbrev S2x28x28x8x8x192 : Shape := ⟨6, ![2, 28, 28, 8, 8, 192]⟩
abbrev S2x50176x192 : Shape := ⟨3, ![2, 50176, 192]⟩
abbrev S1x192 : Shape := ⟨2, ![1, 192]⟩
abbrev S1x896x192 : Shape := ⟨3, ![1, 896, 192]⟩
abbrev S1x1x896x192 : Shape := ⟨4, ![1, 1, 896, 192]⟩
abbrev S8x192 : Shape := ⟨2, ![8, 192]⟩
abbrev S896x192 : Shape := ⟨2, ![896, 192]⟩

abbrev nBuf : Space → Nat
  | .hbm => 12
  | .vmem => 11
  | .smem => 0
  | _ => 0

abbrev bufTy : (tb : Table) → Fin (tcTables nBuf tb) → BufTy
  | .hbm, ⟨0, _⟩ => ⟨S2x192x224x224, .f32⟩
  | .hbm, ⟨1, _⟩ => ⟨S2x56x896x192, .bf16⟩
  | .hbm, ⟨2, _⟩ => ⟨S2x56x896x192, .bf16⟩
  | .hbm, ⟨3, _⟩ => ⟨S2x56x8x192, .f32⟩
  | .hbm, ⟨4, _⟩ => ⟨S192, .f32⟩
  | .hbm, ⟨5, _⟩ => ⟨S192, .f32⟩
  | .hbm, ⟨6, _⟩ => ⟨S2x192x28x8x28x8, .f32⟩
  | .hbm, ⟨7, _⟩ => ⟨S2x28x28x8x8x192, .f32⟩
  | .hbm, ⟨8, _⟩ => ⟨S2x50176x192, .f32⟩
  | .hbm, ⟨9, _⟩ => ⟨S1x192, .f32⟩
  | .hbm, ⟨10, _⟩ => ⟨S1x192, .f32⟩
  | .hbm, ⟨11, _⟩ => ⟨S2x50176x192, .f32⟩
  | .local _ .vmem, ⟨0, _⟩ => ⟨S1x896x192, .f32⟩
  | .local _ .vmem, ⟨1, _⟩ => ⟨S1x896x192, .f32⟩
  | .local _ .vmem, ⟨2, _⟩ => ⟨S1x1x896x192, .bf16⟩
  | .local _ .vmem, ⟨3, _⟩ => ⟨S1x1x896x192, .bf16⟩
  | .local _ .vmem, ⟨4, _⟩ => ⟨S1x1x896x192, .bf16⟩
  | .local _ .vmem, ⟨5, _⟩ => ⟨S1x1x896x192, .bf16⟩
  | .local _ .vmem, ⟨6, _⟩ => ⟨S2x56x8x192, .f32⟩
  | .local _ .vmem, ⟨7, _⟩ => ⟨S1x192, .f32⟩
  | .local _ .vmem, ⟨8, _⟩ => ⟨S1x192, .f32⟩
  | .local _ .vmem, ⟨9, _⟩ => ⟨S1x896x192, .f32⟩
  | .local _ .vmem, ⟨10, _⟩ => ⟨S1x896x192, .f32⟩
  | _, _ => ⟨S2x192x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 56], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x896x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x896x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x896x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x56x8x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x896x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelGateIdeal.lean ====
variable {F : FTy → Type} [FloatOps F] [Named F]
def κ : String → Option EReal := fun
  | "inv_n" => some ((1 / 100352 : ℝ) : EReal)
  | _ => none
-- ==== ReferenceGateIdeal.lean ====
abbrev S2x192x224x224 : Shape := ⟨4, ![2, 192, 224, 224]⟩
abbrev S2x56x896x192 : Shape := ⟨4, ![2, 56, 896, 192]⟩
abbrev S2x56x8x192 : Shape := ⟨4, ![2, 56, 8, 192]⟩
abbrev S192 : Shape := ⟨1, ![192]⟩
abbrev S2x192x28x8x28x8 : Shape := ⟨6, ![2, 192, 28, 8, 28, 8]⟩
abbrev S2x28x28x8x8x192 : Shape := ⟨6, ![2, 28, 28, 8, 8, 192]⟩
abbrev S2x50176x192 : Shape := ⟨3, ![2, 50176, 192]⟩
abbrev S100352x192 : Shape := ⟨2, ![100352, 192]⟩
abbrev S_ : Shape := ⟨0, ![]⟩
abbrev S1x192 : Shape := ⟨2, ![1, 192]⟩

abbrev nBuf : Space → Nat
  | .hbm => 68
  | .vmem => 0
  | .smem => 0
  | _ => 0

abbrev bufTy : (tb : Table) → Fin (tcTables nBuf tb) → BufTy
  | .hbm, ⟨0, _⟩ => ⟨S2x192x224x224, .f32⟩
  | .hbm, ⟨1, _⟩ => ⟨S2x56x896x192, .bf16⟩
  | .hbm, ⟨2, _⟩ => ⟨S2x56x896x192, .bf16⟩
  | .hbm, ⟨3, _⟩ => ⟨S2x56x8x192, .f32⟩
  | .hbm, ⟨4, _⟩ => ⟨S192, .f32⟩
  | .hbm, ⟨5, _⟩ => ⟨S192, .f32⟩
  | .hbm, ⟨6, _⟩ => ⟨S2x192x28x8x28x8, .f32⟩
  | .hbm, ⟨7, _⟩ => ⟨S2x28x28x8x8x192, .f32⟩
  | .hbm, ⟨8, _⟩ => ⟨S2x50176x192, .f32⟩
  | .hbm, ⟨9, _⟩ => ⟨S2x56x896x192, .f32⟩
  | .hbm, ⟨10, _⟩ => ⟨S2x50176x192, .f32⟩
  | .hbm, ⟨11, _⟩ => ⟨S2x56x896x192, .f32⟩
  | .hbm, ⟨12, _⟩ => ⟨S100352x192, .f32⟩
  | .hbm, ⟨13, _⟩ => ⟨S_, .f32⟩
  | .hbm, ⟨14, _⟩ => ⟨S192, .f32⟩
  | .hbm, ⟨15, _⟩ => ⟨S1x192, .f32⟩
  | .hbm, ⟨16, _⟩ => ⟨S_, .f32⟩
  | .hbm, ⟨17, _⟩ => ⟨S1x192, .f32⟩
  | .hbm, ⟨18, _⟩ => ⟨S1x192, .f32⟩
  | .hbm, ⟨19, _⟩ => ⟨S_, .i32⟩
  | .hbm, ⟨20, _⟩ => ⟨S_, .f32⟩
  | .hbm, ⟨21, _⟩ => ⟨S192, .f32⟩
  | .hbm, ⟨22, _⟩ => ⟨S1x192, .f32⟩
  | .hbm, ⟨23, _⟩ => ⟨S_, .f32⟩
  | .hbm, ⟨24, _⟩ => ⟨S1x192, .f32⟩
  | .hbm, ⟨25, _⟩ => ⟨S1x192, .f32⟩
  | .hbm, ⟨26, _⟩ => ⟨S100352x192, .f32⟩
  | .hbm, ⟨27, _⟩ => ⟨S100352x192, .f32⟩
  | .hbm, ⟨28, _⟩ => ⟨S100352x192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S192, .f32⟩
  | .hbm, ⟨34, _⟩ => ⟨S1x192, .f32⟩
  | .hbm, ⟨35, _⟩ => ⟨S1x192, .f32⟩
  | .hbm, ⟨36, _⟩ => ⟨S1x192, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S1x192, .f32⟩
  | .hbm, ⟨42, _⟩ => ⟨S1x192, .f32⟩
  | .hbm, ⟨43, _⟩ => ⟨S100352x192, .f32⟩
  | .hbm, ⟨44, _⟩ => ⟨S100352x192, .f32⟩
  | .hbm, ⟨45, _⟩ => ⟨S_, .f32⟩
  | .hbm, ⟨46, _⟩ => ⟨S1x192, .f32⟩
  | .hbm, ⟨47, _⟩ => ⟨S1x192, .f32⟩
  | .hbm, ⟨48, _⟩ => ⟨S1x192, .f32⟩
  | .hbm, ⟨49, _⟩ => ⟨S100352x192, .f32⟩
  | .hbm, ⟨50, _⟩ => ⟨S100352x192, .f32⟩
  | .hbm, ⟨51, _⟩ => ⟨S1x192, .f32⟩
  | .hbm, ⟨52, _⟩ => ⟨S100352x192, .f32⟩
  | .hbm, ⟨53, _⟩ => ⟨S100352x192, .f32⟩
  | .hbm, ⟨54, _⟩ => ⟨S1x192, .f32⟩
  | .hbm, ⟨55, _⟩ => ⟨S100352x192, .f32⟩
  | .hbm, ⟨56, _⟩ => ⟨S100352x192, .f32⟩
  | .hbm, ⟨57, _⟩ => ⟨S100352x192, .f32⟩
  | .hbm, ⟨58, _⟩ => ⟨S100352x192, .f32⟩
  | .hbm, ⟨59, _⟩ => ⟨S_, .f32⟩
  | .hbm, ⟨60, _⟩ => ⟨S100352x192, .f32⟩
  | .hbm, ⟨61, _⟩ => ⟨S100352x192, .f32⟩
  | .hbm, ⟨62, _⟩ => ⟨S_, .f32⟩
  | .hbm, ⟨63, _⟩ => ⟨S100352x192, .f32⟩
  | .hbm, ⟨64, _⟩ => ⟨S100352x192, .f32⟩
  | .hbm, ⟨65, _⟩ => ⟨S2x50176x192, .f32⟩
  | .hbm, ⟨66, _⟩ => ⟨S2x50176x192, .f32⟩
  | .hbm, ⟨67, _⟩ => ⟨S2x50176x192, .f32⟩
  | _, _ => ⟨S2x192x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_cst_2 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_cst_3 : Ref sig .tc := ⟨.hbm, 37, rfl⟩
abbrev main_call0_v13 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_1 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_2 : Ref sig .tc := ⟨.hbm, 59, rfl⟩
abbrev main_v27 : Ref sig .tc := ⟨.hbm, 60, rfl⟩
abbrev main_v28 : Ref sig .tc := ⟨.hbm, 61, rfl⟩
abbrev main_cst_3 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩

abbrev nD : Nat := 1
abbrev τ : Topo := Topo.v7x

variable {F : FTy → Type} [FloatOps F]
-- ==== KernelRoute.lean ====
abbrev S2x56x14x192 : Shape := ⟨4, ![2, 56, 14, 192]⟩
abbrev S2x784x192 : Shape := ⟨3, ![2, 784, 192]⟩
abbrev S2x784x4 : Shape := ⟨3, ![2, 784, 4]⟩
abbrev S1x784x192 : Shape := ⟨3, ![1, 784, 192]⟩
abbrev S1x784x4 : Shape := ⟨3, ![1, 784, 4]⟩
abbrev S784x192 : Shape := ⟨2, ![784, 192]⟩
abbrev S784x784 : Shape := ⟨2, ![784, 784]⟩
abbrev S784 : Shape := ⟨1, ![784]⟩
abbrev S784x1 : Shape := ⟨2, ![784, 1]⟩
abbrev S784x4 : Shape := ⟨2, ![784, 4]⟩

abbrev nBuf : Space → Nat
  | .hbm => 5
  | .vmem => 6
  | .smem => 0
  | _ => 0

abbrev bufTy : (tb : Table) → Fin (tcTables nBuf tb) → BufTy
  | .hbm, ⟨0, _⟩ => ⟨S2x56x14x192, .f32⟩
  | .hbm, ⟨1, _⟩ => ⟨S2x56x14x192, .f32⟩
  | .hbm, ⟨2, _⟩ => ⟨S2x784x192, .f32⟩
  | .hbm, ⟨3, _⟩ => ⟨S2x784x192, .f32⟩
  | .hbm, ⟨4, _⟩ => ⟨S2x784x4, .i32⟩
  | .local _ .vmem, ⟨0, _⟩ => ⟨S1x784x192, .f32⟩
  | .local _ .vmem, ⟨1, _⟩ => ⟨S1x784x192, .f32⟩
  | .local _ .vmem, ⟨2, _⟩ => ⟨S1x784x192, .f32⟩
  | .local _ .vmem, ⟨3, _⟩ => ⟨S1x784x192, .f32⟩
  | .local _ .vmem, ⟨4, _⟩ => ⟨S1x784x4, .i32⟩
  | .local _ .vmem, ⟨5, _⟩ => ⟨S1x784x4, .i32⟩
  | _, _ => ⟨S2x56x14x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x784x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x784x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x784x4 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelRouteIdeal.lean ====
variable {F : FTy → Type} [FloatOps F] [Named F]
def κ : String → Option EReal := fun
  | "taken" => some ⊥
  | _ => none
-- ==== ReferenceRouteIdeal.lean ====
abbrev S2x56x14x192 : Shape := ⟨4, ![2, 56, 14, 192]⟩
abbrev S2x784x192 : Shape := ⟨3, ![2, 784, 192]⟩
abbrev S_ : Shape := ⟨0, ![]⟩
abbrev S2x784x784 : Shape := ⟨3, ![2, 784, 784]⟩
abbrev S2x784x4 : Shape := ⟨3, ![2, 784, 4]⟩

abbrev nBuf : Space → Nat
  | .hbm => 16
  | .vmem => 0
  | .smem => 0
  | _ => 0

abbrev bufTy : (tb : Table) → Fin (tcTables nBuf tb) → BufTy
  | .hbm, ⟨0, _⟩ => ⟨S2x56x14x192, .f32⟩
  | .hbm, ⟨1, _⟩ => ⟨S2x56x14x192, .f32⟩
  | .hbm, ⟨2, _⟩ => ⟨S2x784x192, .f32⟩
  | .hbm, ⟨3, _⟩ => ⟨S_, .f32⟩
  | .hbm, ⟨4, _⟩ => ⟨S2x784x192, .f32⟩
  | .hbm, ⟨5, _⟩ => ⟨S2x784x192, .f32⟩
  | .hbm, ⟨6, _⟩ => ⟨S2x784x192, .f32⟩
  | .hbm, ⟨7, _⟩ => ⟨S_, .f32⟩
  | .hbm, ⟨8, _⟩ => ⟨S2x784x192, .f32⟩
  | .hbm, ⟨9, _⟩ => ⟨S2x784x192, .f32⟩
  | .hbm, ⟨10, _⟩ => ⟨S2x784x784, .f32⟩
  | .hbm, ⟨11, _⟩ => ⟨S_, .f32⟩
  | .hbm, ⟨12, _⟩ => ⟨S2x784x784, .f32⟩
  | .hbm, ⟨13, _⟩ => ⟨S2x784x784, .f32⟩
  | .hbm, ⟨14, _⟩ => ⟨S2x784x4, .f32⟩
  | .hbm, ⟨15, _⟩ => ⟨S2x784x4, .i32⟩
  | _, _ => ⟨S2x56x14x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_values : Ref sig .tc := ⟨.hbm, 14, rfl⟩
abbrev main_indices : Ref sig .tc := ⟨.hbm, 15, rfl⟩

abbrev nD : Nat := 1
abbrev τ : Topo := Topo.v7x

variable {F : FTy → Type} [FloatOps F]
-- ==== Proof.Range.lean ====
/- What the preconditions say element by element, and that routing words inside [0, 784) meet every side condition the
   attention kernel's gather assumes: the window a routing word names lies inside the 784 windows of the scratch. -/
module

public import proofs.«01_k».proof.Defs
public import proofs.«01_k».proof.Proof.Gen.Kernel.Frame
public import proofs.«01_k».proof.Proof.Gen.KernelIdeal.Frame
public import proofs.«01_k».proof.Proof.Gen.Pre_in_range
public import proofs.«01_k».proof.Proof.Gen.Pre_in_range_finite
public import Idealize.ShloMosaic.Lib.ReduceAll

@[expose] public section

namespace Cert.Attn

open Idealize.ShloMosaic Idealize.ShloMosaic.TcCoe

instance : Subsingleton (⟨0, ![]⟩ : Shape).Idx := ⟨fun _ _ => funext fun a => a.elim0⟩

/-- A 32-bit word that is at least 0 and below 784 as a signed number is below 784 as a natural number. -/
theorem toNat_lt_of_signed (v : BitVec 32) (h0 : IntOp.cmpi .sge v 0#32 = 1#1) (h1 : IntOp.cmpi .slt v 784#32 = 1#1) :
    v.toNat < 784 := by
  have key : ∀ p : Bool, BitVec.ofBool p = 1#1 → p = true := by decide
  have hge := key _ h0
  have hlt := key _ h1
  simp only [BitVec.sle, BitVec.slt, decide_eq_true_eq, BitVec.toInt, BitVec.toNat_ofNat] at hge hlt
  omega

/-- The precondition `in_range` at one routing word. -/
theorem lt_of_in_range {F : FTy → Type} [FloatOps F] (x0 : IVec Pre_in_range.S2x784x4 32) (x1 x2 x3 x4 x5)
    (h : Pre_in_range.fn (F := F) x0 x1 x2 x3 x4 x5 = fun _ => 1#1) (i : Pre_in_range.S2x784x4.Idx) : (x0 i).toNat < 784 := by
  have e := congrFun h (fun a => a.elim0)
  have e1 := Host.reduce_andi_all _ _ _ _ _ e i
  obtain ⟨ha, hb⟩ := IntOp.andi_eq_one.1 e1
  exact toNat_lt_of_signed _ ha hb

/-- The precondition `in_range_finite` element by element: its routing words are below 784, the query block's elements
    and the elements of the key rows (the first 64 rows of each window) are smaller than infinity in absolute value. -/
theorem of_in_range_finite {F : FTy → Type} [FloatOps F] (x0 : IVec Pre_in_range_finite.S2x784x4 32) (x1 x2 x3 x4 x5)
    (h : Pre_in_range_finite.fn (F := F) x0 x1 x2 x3 x4 x5 = fun _ => 1#1) :
    (∀ i, (x0 i).toNat < 784) ∧ (∀ i, FloatOps.cmpf .olt (Host.absf (extf .f32 x1 Pre_in_range_finite.Facts.bitsLt_bf16_f32) i) (FloatOps.ofBits .f32 0x7F800000#32) = 1#1)
      ∧ (∀ i, FloatOps.cmpf .olt (Host.absf (extf .f32 (extractStridedSlice Pre_in_range_finite.S2x784x64x192 ![0, 0, 0, 0] x3 Pre_in_range_finite.Facts.slices_S2x784x128x192_S2x784x64x192_0_0_0_0) Pre_in_range_finite.Facts.bitsLt_bf16_f32) i) (FloatOps.ofBits .f32 0x7F800000#32) = 1#1) := by
  have e := congrFun h (fun a => a.elim0)
  obtain ⟨e, ek⟩ := IntOp.andi_eq_one.1 e
  obtain ⟨er, eq⟩ := IntOp.andi_eq_one.1 e
  refine ⟨fun i => ?_, fun i => ?_, fun i => ?_⟩
  · obtain ⟨ha, hb⟩ := IntOp.andi_eq_one.1 (Host.reduce_andi_all _ _ _ _ _ er i)
    exact toNat_lt_of_signed _ ha hb
  · exact Host.reduce_andi_all _ _ _ _ _ eq i
  · exact Host.reduce_andi_all _ _ _ _ _ ek i

/-- A word below 784 names a window of 128 rows inside the 784. -/
theorem off_le (v : BitVec 32) (hv : v.toNat < 784) (a : Fin 3) :
    (![(Scalar.indexCast v).toNat, 0, 0] : Fin 3 → Nat) a + (⟨3, ![1, 128, 192]⟩ : Shape).size a ≤ (⟨3, ![784, 128, 192]⟩ : Shape).size a := by
  have e : (Scalar.indexCast v).toNat = v.toNat := rfl
  match a with
  | ⟨0, _⟩ => show (Scalar.indexCast v).toNat + 1 ≤ 784; omega
  | ⟨1, _⟩ => show 0 + 128 ≤ 128; omega
  | ⟨2, _⟩ => show 0 + 192 ≤ 192; omega

end Cert.Attn

namespace Cert.Kernel.Gen
open Cert.Kernel Idealize.ShloMosaic Idealize.ShloMosaic.TcCoe
variable {F : FTy → Type} [FloatOps F] (m : (ℓ : Loc nD τ sig) → Buf (Elt F) ℓ)

/-- The region finds the routing words as the launch left them, regrouped into one row of 56 words per grid point. -/
theorem V_main_v0 (c : Dev nD) :
    V m c main_v0 = shapeCast _ (m ((c : Thread nD τ).loc main_arg0)) shapeCasts_S2x784x4_S112x1x56 := by
  show StableHlo.after hostOps0 _ (Proc.devRef .tc main_v0) = _
  after_results
  rfl

/-- Routing words below 784 give every side condition of the kernel. -/
theorem hyps_of_lt (h : ∀ (c : Dev nD) (i), (m ((c : Thread nD τ).loc main_arg0) i).toNat < 784) : Hyps m := by
  intro c t
  have rd : ∀ i, (iblk m c 0 t i).toNat < 784 := fun i => by
    unfold iblk; rw [View.read_apply, cast_eq]
    show (V m c main_v0 _).toNat < 784
    rw [V_main_v0]; exact h c _
  repeat' apply And.intro
  all_goals simp only [View.readAt_apply, Memref.IsWhole.read_unread]; exact Cert.Attn.off_le _ (rd _)

end Cert.Kernel.Gen

namespace Cert.KernelIdeal.Gen
open Cert.KernelIdeal Idealize.ShloMosaic Idealize.ShloMosaic.TcCoe
variable {F : FTy → Type} [FloatOps F] (m : (ℓ : Loc nD τ sig) → Buf (Elt F) ℓ)

/-- The region finds the routing words as the launch left them, regrouped into one row of 56 words per grid point. -/
theorem V_main_v0 (c : Dev nD) :
    V m c main_v0 = shapeCast _ (m ((c : Thread nD τ).loc main_arg0)) shapeCasts_S2x784x4_S112x1x56 := by
  show StableHlo.after hostOps0 _ (Proc.devRef .tc main_v0) = _
  after_results
  rfl

/-- Routing words below 784 give every side condition of the kernel's idealization. -/
theorem hyps_of_lt (h : ∀ (c : Dev nD) (i), (m ((c : Thread nD τ).loc main_arg0) i).toNat < 784) : Hyps m := by
  intro c t
  have rd : ∀ i, (iblk m c 0 t i).toNat < 784 := fun i => by
    unfold iblk; rw [View.read_apply, cast_eq]
    show (V m c main_v0 _).toNat < 784
    rw [V_main_v0]; exact h c _
  repeat' apply And.intro
  all_goals simp only [View.readAt_apply, Memref.IsWhole.read_unread]; exact Cert.Attn.off_le _ (rd _)

end Cert.KernelIdeal.Gen

end
-- ==== Proof.Frames.lean ====
/- The frames: each program terminates without fault, leaves its arguments unchanged and every counter at zero. -/
module

public import proofs.«01_k».proof.Proof.Range
public import proofs.«01_k».proof.Proof.Gen.ReferenceIdeal.Run

@[expose] public section

namespace Cert.Attn

open Idealize.ShloMosaic Idealize.ShloMosaic.TcCoe Idealize.SL.Sem

/-- The attention kernel's frame, for routing words in range. -/
theorem frame_kernel : Cert.quiescent_Kernel := fun m ρ h =>
  Cert.Kernel.Gen.frame m ρ (Cert.Kernel.Gen.hyps_of_lt m fun c => lt_of_in_range _ _ _ _ _ _ (h c))

/-- The same of the kernel's idealization. -/
theorem frame_ideal : Cert.quiescent_KernelIdeal := fun m ρ h =>
  Cert.KernelIdeal.Gen.frame m ρ (Cert.KernelIdeal.Gen.hyps_of_lt m fun c => lt_of_in_range _ _ _ _ _ _ (h c))

/-- Under the precondition of the value claim the kernel's side conditions hold. -/
theorem hyps_finite (m : (ℓ : Loc Cert.KernelIdeal.nD Cert.KernelIdeal.τ Cert.KernelIdeal.sig) → Buf (Elt Ideal) ℓ)
    (h : Cert.Pre_KernelIdeal_in_range_finite m) : Cert.KernelIdeal.Gen.Hyps m :=
  Cert.KernelIdeal.Gen.hyps_of_lt m fun c => (of_in_range_finite _ _ _ _ _ _ (h c)).1

/-- The idealization's frame again, under the precondition of the value claim. -/
theorem frame_ideal_finite : Cert.quiescent_KernelIdeal_pre_in_range_finite := fun m ρ h =>
  Cert.KernelIdeal.Gen.frame m ρ (hyps_finite m h)

/-- The reference's frame: it has no semaphore, so no counter that could be other than zero. -/
theorem frame_reference : Cert.quiescent_ReferenceIdeal := fun m ρ _ =>
  (θ_run _ _ _).mono (fun r h => ⟨fun c => (h c).2.2.2, funext fun g => match g with
    | ⟨_, .reg s⟩ => s.elim0
    | ⟨_, .dma s⟩ => s.elim0⟩) (Cert.ReferenceIdeal.Value.run m ρ)

/-- The reference's frame under the precondition of the value claim. -/
theorem frame_reference_finite : Cert.quiescent_ReferenceIdeal_pre_in_range_finite := fun m ρ _ => frame_reference m ρ trivial

end Cert.Attn
-- ==== Proof.Blocks.lean ====
/- What the attention kernel's body leaves at one grid point, as terms over the blocks it reads: the queries and the
   routed windows of keys and values of each of its 14 windows, and the output of one window. -/
module

public import proofs.«01_k».proof.Proof.Range
public import proofs.«01_k».proof.Proof.Gen.KernelIdeal.Frame
public import Idealize.ShloMosaic.Lib.Pipeline.Value

@[expose] public section

set_option maxRecDepth 16384

noncomputable section

namespace Cert.KernelIdeal.Gen

open Cert.KernelIdeal Idealize.ShloMosaic Idealize.ShloMosaic.TcCoe

variable {F : FTy → Type} [FloatOps F]

/-- 64 rows of the queries of one grid point, from row `n`. -/
def qAt (Q : Vec F S1x1x896x192 .bf16) (n : Nat) : Vec F S1x1x64x192 .bf16 := fun j =>
  Q (Fin.cons (j 0) (Fin.cons (j 1) (Fin.cons (⟨(n + (j 2).val) % 896, Nat.mod_lt _ (by decide)⟩ : Fin 896) (Fin.cons (j 3) fun a => a.elim0))))

/-- Routing word `s` of the 56 one grid point reads. -/
def rAt (R : IVec S1x1x56 32) (s : Nat) : BitVec 32 :=
  R (Fin.cons (0 : Fin 1) (Fin.cons (0 : Fin 1) (Fin.cons (⟨s % 56, Nat.mod_lt _ (by decide)⟩ : Fin 56) fun a => a.elim0)))

/-- Window number `n` of the keys and values. -/
def kvAt (KV : Vec F S784x128x192 .bf16) (n : Nat) : Vec F S1x128x192 .bf16 := fun j =>
  KV (Fin.cons (⟨n % 784, Nat.mod_lt _ (by decide)⟩ : Fin 784) (Fin.cons (j 1) (Fin.cons (j 2) fun a => a.elim0)))

/-- A load of 64 query rows from row `n`. -/
theorem ld_q (Q : Vec F S1x1x896x192 .bf16) (n : Nat) (h) :
    View.ld Q (Rect.unit (s := S1x1x896x192) ![0, 0, n, 0] ![1, 1, 64, 192] h) = qAt Q n := by
  have hn : n + 64 ≤ 896 := h 2
  funext j
  refine congrArg Q (funext fun a => Fin.ext ?_)
  have h2 : (j 2).val < 64 := (j 2).isLt
  match a with
  | ⟨0, _⟩ => show 0 + 1 * (j 0).val = (j 0).val; omega
  | ⟨1, _⟩ => show 0 + 1 * (j 1).val = (j 1).val; omega
  | ⟨2, _⟩ => show n + 1 * (j 2).val = (n + (j 2).val) % 896; omega
  | ⟨3, _⟩ => show 0 + 1 * (j 3).val = (j 3).val; omega

/-- A load of one routing word. -/
theorem ld_r (R : Vec F S1x1x56 .i32) (s : Nat) (h j) :
    View.ld R (Rect.unit (s := S1x1x56) ![0, 0, s] ![1, 1, 1] h) j = rAt R s := by
  have hs : s + 1 ≤ 56 := h 2
  refine congrArg R (funext fun a => Fin.ext ?_)
  have h0 : (j 0).val < 1 := (j 0).isLt
  have h1 : (j 1).val < 1 := (j 1).isLt
  have h2 : (j 2).val < 1 := (j 2).isLt
  match a with
  | ⟨0, _⟩ => show 0 + 1 * (j 0).val = 0; omega
  | ⟨1, _⟩ => show 0 + 1 * (j 1).val = 0; omega
  | ⟨2, _⟩ => show s + 1 * (j 2).val = s % 56; omega

/-- A load of one window of keys and values. -/
theorem ld_kv (KV : Vec F S784x128x192 .bf16) (off : Fin 3 → Nat) (h) :
    View.ld KV (Rect.unit (s := S784x128x192) off ![1, 128, 192] h) = kvAt KV (off 0) := by
  have hv : off 0 + 1 ≤ 784 := h 0
  have hv1 : off 1 + 128 ≤ 128 := h 1
  have hv2 : off 2 + 192 ≤ 192 := h 2
  funext j
  have h0 : (j 0).val < 1 := (j 0).isLt
  refine congrArg KV (funext fun a => Fin.ext ?_)
  match a with
  | ⟨0, _⟩ => show off 0 + 1 * (j 0).val = off 0 % 784; omega
  | ⟨1, _⟩ => show off 1 + 1 * (j 1).val = (j 1).val; omega
  | ⟨2, _⟩ => show off 2 + 1 * (j 2).val = (j 2).val; omega

/-- The same load through the scratch that holds them. -/
theorem readAt_kv (X : Vec F S784x128x192 .bf16) (hw : scM0_0.IsWhole) (off : Fin 3 → Nat) (h) :
    View.readAt (Elt F) scM0_0.view (Rect.unit (s := S784x128x192) off S1x128x192.size h).toLoadRect (hw.unread X)
      = kvAt X (off 0) := by
  rw [View.readAt_eq_ld, hw.read_unread]; exact ld_kv X off h

/-- A load of one routing word through the buffer it is staged in. -/
theorem readAt_r (t : Fin cfg0.N) (X : Vec F S1x1x56 .i32) (hw : (ms0_0 t).IsWhole) (s : Nat) (h j) :
    View.readAt (Elt F) (ms0_0 t).view (Rect.unit (s := S1x1x56) ![0, 0, s] S1x1x1.size h).toLoadRect (hw.unread X) j
      = rAt X s := by
  rw [View.readAt_eq_ld, hw.read_unread]; exact ld_r X s h j

/-- The attention output of one window from its queries and the four windows it is routed to. -/
def winT (q : Vec F S1x1x64x192 .bf16) (a b c d : Vec F S1x128x192 .bf16) : FVec F S64x192 .bf16 :=
  k0_pay20 (k0_pay9 k0_pay3) (k0_pay10 k0_pay3) (k0_pay11 k0_pay3) (k0_pay12 k0_pay3) (k0_pay18 a b c d)
    (k0_pay19 k0_pay4 k0_pay5 (k0_pay7 k0_pay3 k0_pay6) (k0_pay8 k0_pay3) (k0_pay13 q) a b c d)

/-- Window `w` of one grid point: its 64 queries against the four windows its routing words `4 w … 4 w + 3` name. -/
def winAt (Q : Vec F S1x1x896x192 .bf16) (K : Nat → Vec F S1x128x192 .bf16) (w : Nat) : FVec F S64x192 .bf16 :=
  winT (qAt Q (64 * w)) (K (4 * w)) (K (4 * w + 1)) (K (4 * w + 2)) (K (4 * w + 3))

/-- The attention output of all 14 windows of one grid point, row by row. -/
def OB (Q : Vec F S1x1x896x192 .bf16) (K : Nat → Vec F S1x128x192 .bf16) : Vec F S896x192 .bf16 := fun y =>
  winAt Q K ((y 0).val / 64) (Fin.cons (⟨(y 0).val % 64, Nat.mod_lt _ (by decide)⟩ : Fin 64) (Fin.cons (y 1) fun a => a.elim0))

/-- Row `64 w + r` of the grid point's attention output is row `r` of window `w`. -/
theorem OB_at (Q : Vec F S1x1x896x192 .bf16) (K : Nat → Vec F S1x128x192 .bf16) (w n : Nat) (hn : n = 64 * w) (inb) (x : S64x192.Idx) :
    OB Q K ((Rect.unit (s := S896x192) ![n, 0] S64x192.size inb).emb x) = winAt Q K w x := by
  subst hn
  have hx : (x 0).val < 64 := (x 0).isLt
  have e0 : ((Rect.unit (s := S896x192) ![64 * w, 0] S64x192.size inb).emb x 0).val = 64 * w + (x 0).val := by
    show 64 * w + 1 * (x 0).val = _; omega
  have e1 : ((Rect.unit (s := S896x192) ![64 * w, 0] S64x192.size inb).emb x 1).val = (x 1).val := by
    show 0 + 1 * (x 1).val = _; omega
  have ew : ((Rect.unit (s := S896x192) ![64 * w, 0] S64x192.size inb).emb x 0).val / 64 = w := by omega
  unfold OB
  rw [ew]
  refine congrArg (winAt Q K w) (funext fun a => Fin.ext ?_)
  match a with
  | ⟨0, _⟩ => show ((Rect.unit (s := S896x192) ![64 * w, 0] S64x192.size inb).emb x 0).val % 64 = (x 0).val; omega
  | ⟨1, _⟩ => exact e1

/-- What the body writes into its output scratch, newest window first: one piece of 64 rows for each window. -/
def oPieces (Q : Vec F S1x1x896x192 .bf16) (K : Nat → Vec F S1x128x192 .bf16) : List (View.Piece (Elt F) S896x192 .bf16) :=
  [⟨Rect.unit (s := S896x192) ![832, 0] S64x192.size inb_S896x192_S64x192_832_0, k0_pay103 (k0_pay9 k0_pay3) (k0_pay10 k0_pay3) (k0_pay11 k0_pay3) (k0_pay12 k0_pay3) (k0_pay101 (K 52) (K 53) (K 54) (K 55)) (k0_pay102 k0_pay4 k0_pay5 (k0_pay7 k0_pay3 k0_pay6) (k0_pay8 k0_pay3) (qAt Q 832) (K 52) (K 53) (K 54) (K 55))⟩,
   ⟨Rect.unit (s := S896x192) ![768, 0] S64x192.size inb_S896x192_S64x192_768_0, k0_pay96 k0_pay4 k0_pay5 (k0_pay7 k0_pay3 k0_pay6) (k0_pay8 k0_pay3) (k0_pay9 k0_pay3) (k0_pay10 k0_pay3) (k0_pay11 k0_pay3) (k0_pay12 k0_pay3) (k0_pay93 (qAt Q 768)) (k0_pay94 (K 48)) (k0_pay95 (K 49)) (K 50) (K 51)⟩,
   ⟨Rect.unit (s := S896x192) ![704, 0] S64x192.size inb_S896x192_S64x192_704_0, k0_pay92 (k0_pay9 k0_pay3) (k0_pay10 k0_pay3) (k0_pay11 k0_pay3) (k0_pay12 k0_pay3) (k0_pay88 (K 44) (K 45) (K 46) (K 47)) (k0_pay89 k0_pay4 k0_pay5 (k0_pay7 k0_pay3 k0_pay6) (k0_pay8 k0_pay3) (k0_pay83 (qAt Q 704)) (K 44) (K 45) (K 46) (K 47)) (k0_pay90 k0_pay4 k0_pay5 (k0_pay7 k0_pay3 k0_pay6) (k0_pay8 k0_pay3) (k0_pay83 (qAt Q 704)) (K 44) (K 45) (K 46) (K 47)) k0_pay91⟩,
   ⟨Rect.unit (s := S896x192) ![640, 0] S64x192.size inb_S896x192_S64x192_640_0, k0_pay82 k0_pay4 k0_pay5 (k0_pay7 k0_pay3 k0_pay6) (k0_pay8 k0_pay3) (k0_pay9 k0_pay3) (k0_pay10 k0_pay3) (k0_pay11 k0_pay3) (k0_pay12 k0_pay3) (k0_pay78 (qAt Q 640)) (k0_pay79 (K 40)) (k0_pay80 (K 41)) (k0_pay81 (K 42)) (K 43)⟩,
   ⟨Rect.unit (s := S896x192) ![576, 0] S64x192.size inb_S896x192_S64x192_576_0, k0_pay77 (k0_pay9 k0_pay3) (k0_pay10 k0_pay3) (k0_pay11 k0_pay3) (k0_pay12 k0_pay3) (k0_pay76 k0_pay4 k0_pay5 (k0_pay7 k0_pay3 k0_pay6) (k0_pay8 k0_pay3) (k0_pay75 (qAt Q 576)) (K 36) (K 37) (K 38) (K 39))⟩,
   ⟨Rect.unit (s := S896x192) ![512, 0] S64x192.size inb_S896x192_S64x192_512_0, k0_pay74 k0_pay4 k0_pay5 (k0_pay7 k0_pay3 k0_pay6) (k0_pay8 k0_pay3) (k0_pay9 k0_pay3) (k0_pay10 k0_pay3) (k0_pay11 k0_pay3) (k0_pay12 k0_pay3) (k0_pay67 (qAt Q 512)) (k0_pay68 (K 32)) (k0_pay69 (K 33)) (k0_pay70 (K 34)) (k0_pay71 (K 35)) (k0_pay72 (K 32)) (k0_pay73 (K 33))⟩,
   ⟨Rect.unit (s := S896x192) ![448, 0] S64x192.size inb_S896x192_S64x192_448_0, k0_pay66 (k0_pay11 k0_pay3) (k0_pay12 k0_pay3) (k0_pay63 k0_pay4 k0_pay5 (k0_pay7 k0_pay3 k0_pay6) (k0_pay8 k0_pay3) (k0_pay62 (qAt Q 448)) (K 28) (K 29) (K 30) (K 31)) (k0_pay64 k0_pay4 k0_pay5 (k0_pay7 k0_pay3 k0_pay6) (k0_pay8 k0_pay3) (k0_pay9 k0_pay3) (k0_pay10 k0_pay3) (k0_pay62 (qAt Q 448)) (K 28) (K 29) (K 30) (K 31)) (k0_pay65 k0_pay4 k0_pay5 (k0_pay7 k0_pay3 k0_pay6) (k0_pay8 k0_pay3) (k0_pay62 (qAt Q 448)) (K 28) (K 29) (K 30) (K 31))⟩,
   ⟨Rect.unit (s := S896x192) ![384, 0] S64x192.size inb_S896x192_S64x192_384_0, k0_pay61 k0_pay4 k0_pay5 (k0_pay7 k0_pay3 k0_pay6) (k0_pay8 k0_pay3) (k0_pay9 k0_pay3) (k0_pay10 k0_pay3) (k0_pay11 k0_pay3) (k0_pay12 k0_pay3) (k0_pay52 (qAt Q 384)) (k0_pay56 (K 27)) (k0_pay57 (K 24) (K 25) (K 26) (K 27)) (k0_pay58 (K 24)) (k0_pay59 (K 25)) (k0_pay60 (K 26))⟩,
   ⟨Rect.unit (s := S896x192) ![320, 0] S64x192.size inb_S896x192_S64x192_320_0, k0_pay51 (k0_pay50 k0_pay4 k0_pay5 (k0_pay7 k0_pay3 k0_pay6) (k0_pay8 k0_pay3) (k0_pay9 k0_pay3) (k0_pay10 k0_pay3) (k0_pay11 k0_pay3) (k0_pay12 k0_pay3) (k0_pay49 (qAt Q 320)) (K 20) (K 21) (K 22) (K 23))⟩,
   ⟨Rect.unit (s := S896x192) ![256, 0] S64x192.size inb_S896x192_S64x192_256_0, k0_pay48 (k0_pay9 k0_pay3) (k0_pay10 k0_pay3) (k0_pay11 k0_pay3) (k0_pay12 k0_pay3) (k0_pay42 (K 16) (K 17) (K 18) (K 19)) (k0_pay43 (K 16) (K 17) (K 18) (K 19)) (k0_pay44 k0_pay4 (qAt Q 256)) (k0_pay45 k0_pay5 (qAt Q 256)) (k0_pay46 (k0_pay7 k0_pay3 k0_pay6) (qAt Q 256)) (k0_pay47 (k0_pay8 k0_pay3) (qAt Q 256))⟩,
   ⟨Rect.unit (s := S896x192) ![192, 0] S64x192.size inb_S896x192_S64x192_192_0, k0_pay36 k0_pay4 k0_pay5 (k0_pay7 k0_pay3 k0_pay6) (k0_pay8 k0_pay3) (k0_pay9 k0_pay3) (k0_pay10 k0_pay3) (k0_pay11 k0_pay3) (k0_pay12 k0_pay3) (k0_pay34 (qAt Q 192)) (k0_pay35 (K 12)) (K 13) (K 14) (K 15)⟩,
   ⟨Rect.unit (s := S896x192) ![128, 0] S64x192.size inb_S896x192_S64x192_128_0, k0_pay33 (k0_pay9 k0_pay3) (k0_pay10 k0_pay3) (k0_pay11 k0_pay3) (k0_pay12 k0_pay3) (k0_pay30 (K 8) (K 9) (K 10) (K 11)) (k0_pay31 k0_pay4 k0_pay5 (k0_pay7 k0_pay3 k0_pay6) (k0_pay8 k0_pay3) (k0_pay25 (qAt Q 128)) (K 8) (K 9) (K 10) (K 11)) (k0_pay32 k0_pay4 k0_pay5 (k0_pay7 k0_pay3 k0_pay6) (k0_pay8 k0_pay3) (k0_pay25 (qAt Q 128)) (K 8) (K 9) (K 10) (K 11))⟩,
   ⟨Rect.unit (s := S896x192) ![64, 0] S64x192.size inb_S896x192_S64x192_64_0, k0_pay24 k0_pay4 k0_pay5 (k0_pay7 k0_pay3 k0_pay6) (k0_pay8 k0_pay3) (k0_pay9 k0_pay3) (k0_pay10 k0_pay3) (k0_pay11 k0_pay3) (k0_pay12 k0_pay3) (k0_pay21 (qAt Q 64)) (k0_pay22 (K 4)) (k0_pay23 (K 5)) (K 6) (K 7)⟩,
   ⟨Rect.unit (s := S896x192) ![0, 0] S64x192.size inb_S896x192_S64x192_0_0, k0_pay20 (k0_pay9 k0_pay3) (k0_pay10 k0_pay3) (k0_pay11 k0_pay3) (k0_pay12 k0_pay3) (k0_pay18 (K 0) (K 1) (K 2) (K 3)) (k0_pay19 k0_pay4 k0_pay5 (k0_pay7 k0_pay3 k0_pay6) (k0_pay8 k0_pay3) (k0_pay13 (qAt Q 0)) (K 0) (K 1) (K 2) (K 3))⟩]

/-- A piece of 64 rows from row `64 w` whose payload is window `w`. -/
theorem piece_ok (Q : Vec F S1x1x896x192 .bf16) (K : Nat → Vec F S1x128x192 .bf16) (w n : Nat) (hn : n = 64 * w) (inb)
    {P : FVec F S64x192 .bf16} (h : P = winAt Q K w) :
    ∀ x, (⟨Rect.unit (s := S896x192) ![n, 0] S64x192.size inb, P⟩ : View.Piece (Elt F) S896x192 .bf16).2 x
      = OB Q K ((⟨Rect.unit (s := S896x192) ![n, 0] S64x192.size inb, P⟩ : View.Piece (Elt F) S896x192 .bf16).1.emb x) := fun x => by
  subst h; exact (OB_at Q K w n hn inb x).symm

/-- However a window's arithmetic was cut into payloads, each piece is the window's output. -/
theorem oPieces_ok (Q : Vec F S1x1x896x192 .bf16) (K : Nat → Vec F S1x128x192 .bf16) :
    ∀ p ∈ oPieces Q K, ∀ x : p.1.shape.Idx, p.2 x = OB Q K (p.1.emb x) := by
  unfold oPieces
  simp only [List.forall_mem_cons]
  exact ⟨piece_ok Q K 13 _ rfl _ rfl, piece_ok Q K 12 _ rfl _ rfl, piece_ok Q K 11 _ rfl _ rfl, piece_ok Q K 10 _ rfl _ rfl, piece_ok Q K 9 _ rfl _ rfl, piece_ok Q K 8 _ rfl _ rfl, piece_ok Q K 7 _ rfl _ rfl, piece_ok Q K 6 _ rfl _ rfl, piece_ok Q K 5 _ rfl _ rfl, piece_ok Q K 4 _ rfl _ rfl, piece_ok Q K 3 _ rfl _ rfl, piece_ok Q K 2 _ rfl _ rfl, piece_ok Q K 1 _ rfl _ rfl, piece_ok Q K 0 _ rfl _ rfl, fun p hp => absurd hp List.not_mem_nil⟩

/-- The 14 pieces fill the scratch. -/
theorem oPieces_cover (Q : Vec F S1x1x896x192 .bf16) (K : Nat → Vec F S1x128x192 .bf16) (y : S896x192.Idx) :
    ∃ p ∈ oPieces Q K, y ∈ p.1.set :=
  View.cover_of_tiledL (oPieces Q K) S64x192.size (by sl_kernel_rfl) y

/-- So the scratch holds the attention output of the 14 windows. -/
theorem oPieces_canon (Q : Vec F S1x1x896x192 .bf16) (K : Nat → Vec F S1x128x192 .bf16) : View.canon (oPieces Q K) = OB Q K :=
  funext fun y => View.canon_apply_of_pieces (OB Q K) (oPieces Q K) (oPieces_ok Q K) y (oPieces_cover Q K y)

/-- The projected block, written in two halves of 448 rows. -/
def yBlock (O : Vec F S896x192 .bf16) (wp : Vec F S192x192 .bf16) : Vec F S1x1x896x192 .bf16 :=
  View.canon (Val := Elt F) (e := .bf16) [⟨(Rect.unit (s := S1x1x896x192) ![0, 0, 448, 0] S1x1x448x192.size inb_S1x1x896x192_S1x1x448x192_0_0_448_0), k0_pay115 (View.ld O (Rect.unit (s := S896x192) ![448, 0] S448x192.size inb_S896x192_S448x192_448_0)) (View.ld wp (Rect.unit (s := S192x192) ![0, 0] S192x192.size inb_S192x192_S192x192_0_0))⟩,
    ⟨(Rect.unit (s := S1x1x896x192) ![0, 0, 0, 0] S1x1x448x192.size inb_S1x1x896x192_S1x1x448x192_0_0_0_0), k0_pay109 (k0_pay108 (View.ld O (Rect.unit (s := S896x192) ![0, 0] S448x192.size inb_S896x192_S448x192_0_0)) (View.ld wp (Rect.unit (s := S192x192) ![0, 0] S192x192.size inb_S192x192_S192x192_0_0)))⟩]

/-- The gate's pre-activation block, written in two halves of 448 rows. -/
def zBlock (O : Vec F S896x192 .bf16) (zx : Vec F S1x1x896x192 .bf16) (wp wg : Vec F S192x192 .bf16) : Vec F S1x1x896x192 .bf16 :=
  View.canon (Val := Elt F) (e := .bf16) [⟨(Rect.unit (s := S1x1x896x192) ![0, 0, 448, 0] S1x1x448x192.size inb_S1x1x896x192_S1x1x448x192_0_0_448_0), k0_pay1 (k0_pay116 (View.ld O (Rect.unit (s := S896x192) ![448, 0] S448x192.size inb_S896x192_S448x192_448_0)) (View.ld wp (Rect.unit (s := S192x192) ![0, 0] S192x192.size inb_S192x192_S192x192_0_0))
      (View.ld zx (Rect.unit (s := S1x1x896x192) ![0, 0, 448, 0] S1x1x448x192.size inb_S1x1x896x192_S1x1x448x192_0_0_448_0)) (View.ld wg (Rect.unit (s := S192x192) ![0, 0] S192x192.size inb_S192x192_S192x192_0_0)))⟩,
    ⟨(Rect.unit (s := S1x1x896x192) ![0, 0, 0, 0] S1x1x448x192.size inb_S1x1x896x192_S1x1x448x192_0_0_0_0), k0_pay110 (k0_pay107 (View.ld O (Rect.unit (s := S896x192) ![0, 0] S448x192.size inb_S896x192_S448x192_0_0)) (View.ld wp (Rect.unit (s := S192x192) ![0, 0] S192x192.size inb_S192x192_S192x192_0_0))
      (View.ld zx (Rect.unit (s := S1x1x896x192) ![0, 0, 0, 0] S1x1x448x192.size inb_S1x1x896x192_S1x1x448x192_0_0_0_0)) (View.ld wg (Rect.unit (s := S192x192) ![0, 0] S192x192.size inb_S192x192_S192x192_0_0)))⟩]

/-- The block of column sums: of the pre-activations and of their squares, over the two halves. -/
def pBlock (O : Vec F S896x192 .bf16) (zx : Vec F S1x1x896x192 .bf16) (wp wg : Vec F S192x192 .bf16) : Vec F S1x1x8x192 .f32 :=
  k0_pay2 (k0_pay111 k0_pay104 (k0_pay107 (View.ld O (Rect.unit (s := S896x192) ![0, 0] S448x192.size inb_S896x192_S448x192_0_0)) (View.ld wp (Rect.unit (s := S192x192) ![0, 0] S192x192.size inb_S192x192_S192x192_0_0))
      (View.ld zx (Rect.unit (s := S1x1x896x192) ![0, 0, 0, 0] S1x1x448x192.size inb_S1x1x896x192_S1x1x448x192_0_0_0_0)) (View.ld wg (Rect.unit (s := S192x192) ![0, 0] S192x192.size inb_S192x192_S192x192_0_0)))) (k0_pay112 k0_pay105 (k0_pay107 (View.ld O (Rect.unit (s := S896x192) ![0, 0] S448x192.size inb_S896x192_S448x192_0_0)) (View.ld wp (Rect.unit (s := S192x192) ![0, 0] S192x192.size inb_S192x192_S192x192_0_0))
      (View.ld zx (Rect.unit (s := S1x1x896x192) ![0, 0, 0, 0] S1x1x448x192.size inb_S1x1x896x192_S1x1x448x192_0_0_0_0)) (View.ld wg (Rect.unit (s := S192x192) ![0, 0] S192x192.size inb_S192x192_S192x192_0_0))))
    (k0_pay114 (View.ld O (Rect.unit (s := S896x192) ![448, 0] S448x192.size inb_S896x192_S448x192_448_0)) (View.ld wp (Rect.unit (s := S192x192) ![0, 0] S192x192.size inb_S192x192_S192x192_0_0))
      (View.ld zx (Rect.unit (s := S1x1x896x192) ![0, 0, 448, 0] S1x1x448x192.size inb_S1x1x896x192_S1x1x448x192_0_0_448_0)) (View.ld wg (Rect.unit (s := S192x192) ![0, 0] S192x192.size inb_S192x192_S192x192_0_0)))

/-- A load of one window of keys and values from the scratch right after the copy filled it. -/
theorem readAt_kvA (X : Vec F S784x128x192 .bf16) (off : Fin 3 → Nat) (h) :
    View.readAt (Elt F) scM0_0.view (Rect.unit (s := S784x128x192) off S1x128x192.size h).toLoadRect
      (scM0_0.view.writes (Elt F) scM0_0.view.junk [⟨Rect.whole S784x128x192, X⟩]) = kvAt X (off 0) := by
  have e : View.canon (Val := Elt F) (e := .bf16) [⟨Rect.whole S784x128x192, X⟩] = X :=
    View.canon_unit_zero (off := fun _ => 0) rfl (fun a => Nat.le_of_eq (Nat.zero_add _)) X
  rw [View.readAt_eq_ld, View.read_writes_junk_eq_canon, e]; exact ld_kv X off h

variable (m : (ℓ : Loc nD τ sig) → Buf (Elt F) ℓ)

/-- What one grid point leaves when its scratch of keys and values holds `X`. -/
def step (X : Vec F S784x128x192 .bf16) (c : Dev nD) (t : Fin cfg0.N) :
    Vec F S1x1x896x192 .bf16 × Vec F S1x1x896x192 .bf16 × Vec F S1x1x8x192 .f32 × Vec F S784x128x192 .bf16 :=
  have O := OB (iblk m c 1 t) fun s => kvAt X (Scalar.indexCast (rAt (iblk m c 0 t) s)).toNat
  (yBlock O (iblk m c 3 t), zBlock O (iblk m c 2 t) (iblk m c 3 t) (iblk m c 4 t),
    pBlock O (iblk m c 2 t) (iblk m c 3 t) (iblk m c 4 t), X)

end Cert.KernelIdeal.Gen

end
-- ==== Proof.StepA.lean ====
/- Every grid point of the attention kernel's idealization leaves `step` of the keys and values its scratch holds. -/
module

public import proofs.«01_k».proof.Proof.Blocks

@[expose] public section

set_option maxRecDepth 16384

noncomputable section

namespace Cert.KernelIdeal.Gen

open Cert.KernelIdeal Idealize.ShloMosaic Idealize.ShloMosaic.TcCoe

variable {F : FTy → Type} [FloatOps F] (m : (ℓ : Loc nD τ sig) → Buf (Elt F) ℓ)

/-- What the copy at the first chunk of a batch element brings into the scratch. -/
def kvIn (c : Dev nD) (t : Fin cfg0.N) (h0 : t.val % 56 = 0) : Vec F S784x128x192 .bf16 :=
  View.read (Elt F) (((Memref.whole main_arg3).slice (Rect.unit (s := S2x784x128x192) (k0_off1 (grid0.coords t)) S1x784x128x192.size
    (k0_off1_inb (grid0.coords t) ((hcond0_0 t).2 h0))) (fun _ => rfl)).squeeze S784x128x192 squeezes_S1x784x128x192_S784x128x192).view
    (V m c main_arg3)

set_option maxHeartbeats 2000000 in
/-- The first chunk of a batch element works on the keys and values the copy brings in. -/
theorem outs_A (hH : Hyps m) (c : Dev nD) (t : Fin cfg0.N) (h0 : t.val % 56 = 0) :
    outsAt0 m hH c t.val t.isLt
      = step m (kvIn m c t h0) c t := by
  rw [outsAt0_A m hH c t h0]
  unfold out0_A_5 out0_A_6 out0_A_7 sout0_A_0
  simp only [View.read_writes_junk_eq_canon]
  unfold kernelRun0_A
  dsimp only
  sl_unfold_run_names
  simp only [↓readAt_kvA, ↓readAt_r, View.readAt_eq_ld, View.readCov_eq_canon', ld_q, Memref.IsWhole.read_unread]
  generalize hX : ReadAs.same.apply _ = X
  sl_unfold_words
  simp only [Matrix.cons_val_zero]
  have e := oPieces_canon (iblk m c 1 t) fun s => kvAt X (Scalar.indexCast (rAt (iblk m c 0 t) s)).toNat
  simp only [oPieces] at e
  simp only [e]
  rw [show kvIn m c t h0 = X from hX]
  have hz4 : (![0, 0, 0, 0] : Fin 4 → Nat) = fun _ => 0 := by funext a; fin_cases a <;> rfl
  have hw : View.canon (Val := Elt F) (e := .bf16) [⟨Rect.whole S784x128x192, X⟩] = X :=
    View.canon_unit_zero (off := fun _ => 0) rfl (fun a => Nat.le_of_eq (Nat.zero_add _)) X
  simp only [step, yBlock, zBlock, pBlock]
  refine Prod.ext ?_ (Prod.ext ?_ (Prod.ext ?_ ?_))
  · with_reducible rfl
  · with_reducible rfl
  · exact View.canon_unit_zero hz4 _ _
  · exact hw

end Cert.KernelIdeal.Gen

end
-- ==== Proof.StepB.lean ====
/- Every grid point of the attention kernel's idealization leaves `step` of the keys and values its scratch holds. -/
module

public import proofs.«01_k».proof.Proof.Blocks

@[expose] public section

set_option maxRecDepth 16384

noncomputable section

namespace Cert.KernelIdeal.Gen

open Cert.KernelIdeal Idealize.ShloMosaic Idealize.ShloMosaic.TcCoe

variable {F : FTy → Type} [FloatOps F] (m : (ℓ : Loc nD τ sig) → Buf (Elt F) ℓ)

set_option maxHeartbeats 2000000 in
/-- A grid point past the first chunk of its batch element works on the scratch the point before left. -/
theorem outs_B (hH : Hyps m) (c : Dev nD) (t : Fin cfg0.N) (h0 : ¬t.val % 56 = 0) :
    outsAt0 m hH c t.val t.isLt
      = step m (outsAt0 m hH c (t.val - 1) (Nat.lt_of_le_of_lt (Nat.sub_le t.val 1) t.isLt)).2.2.2 c t := by
  rw [outsAt0_B m hH c t h0]
  unfold out0_B_5 out0_B_6 out0_B_7 sout0_B_0
  simp only [View.read_writes_junk_eq_canon]
  unfold kernelRun0_B
  dsimp only
  sl_unfold_run_names
  simp only [↓readAt_kv, ↓readAt_r, View.readAt_eq_ld, View.readCov_eq_canon', ld_q, Memref.IsWhole.read_unread]
  sl_unfold_words
  simp only [Matrix.cons_val_zero]
  have e := oPieces_canon (iblk m c 1 t) fun s => kvAt (outsAt0 m hH c (t.val - 1) (Nat.lt_of_le_of_lt (Nat.sub_le t.val 1) t.isLt)).2.2.2 (Scalar.indexCast (rAt (iblk m c 0 t) s)).toNat
  simp only [oPieces] at e
  simp only [e]
  have hz4 : (![0, 0, 0, 0] : Fin 4 → Nat) = fun _ => 0 := by funext a; fin_cases a <;> rfl
  simp only [step, yBlock, zBlock, pBlock]
  refine Prod.ext ?_ (Prod.ext ?_ (Prod.ext ?_ ?_))
  · with_reducible rfl
  · with_reducible rfl
  · exact View.canon_unit_zero hz4 _ _
  · with_reducible rfl

end Cert.KernelIdeal.Gen

end
-- ==== Proof.Carry.lean ====
/- The keys and values the attention kernel works on at each grid point are those of its batch element: the first chunk of a
   batch element copies them into the scratch, and the other chunks find them there. -/
module

public import proofs.«01_k».proof.Proof.StepA
public import proofs.«01_k».proof.Proof.StepB
public import Idealize.ShloMosaic.Lib.ValueIdx

@[expose] public section

set_option maxRecDepth 16384

noncomputable section

namespace Cert.KernelIdeal.Gen

open Cert.KernelIdeal Idealize.ShloMosaic Idealize.ShloMosaic.TcCoe Idealize.ShloMosaic.ValueIdx

variable {F : FTy → Type} [FloatOps F] (m : (ℓ : Loc nD τ sig) → Buf (Elt F) ℓ)

/-- The batch element of a grid point. -/
def bOf (t : Fin cfg0.N) : Fin 2 := ⟨t.val / 56, by have h : t.val < 112 := t.isLt; omega⟩
/-- The group of 14 windows of a grid point. -/
def gOf (t : Fin cfg0.N) : Fin 56 := ⟨t.val % 56, by omega⟩

/-- The keys and values of one batch element. -/
def kvB (c : Dev nD) (b : Fin 2) : Vec F S784x128x192 .bf16 := fun j =>
  (m ((c.tc : Thread nD τ).loc main_arg3) : S2x784x128x192.Idx → Elt F .bf16) (ix4 b (j 0) (j 1) (j 2))

/-- What the copy brings in are the keys and values of the grid point's batch element. -/
theorem kvIn_eq (c : Dev nD) (t : Fin cfg0.N) (h0 : t.val % 56 = 0) : kvIn m c t h0 = kvB m c (bOf t) := by
  have ht : t.val < 112 := t.isLt
  have e0 : k0_off1 (grid0.coords t) 0 = t.val / 56 := by
    rw [k0_off1_eq]
    show (grid0.coords t 0).val = _
    rw [show (grid0.coords t 0).val = t.val / 56 % 2 from Pipeline.Grid.coords_val t 0 (by decide) rfl]
    omega
  have e1 : k0_off1 (grid0.coords t) 1 = 0 := by rw [k0_off1_eq]; rfl
  have e2 : k0_off1 (grid0.coords t) 2 = 0 := by rw [k0_off1_eq]; rfl
  have e3 : k0_off1 (grid0.coords t) 3 = 0 := by rw [k0_off1_eq]; rfl
  funext j
  have h1 : kvIn m c t h0 j = (V m c main_arg3 : S2x784x128x192.Idx → Elt F .bf16)
      ((Rect.unit (s := S2x784x128x192) (k0_off1 (grid0.coords t)) S1x784x128x192.size
        (k0_off1_inb (grid0.coords t) ((hcond0_0 t).2 h0))).emb
        (Shape.reshapeEquiv squeezes_S1x784x128x192_S784x128x192.numel_eq j)) := rfl
  rw [h1, V_main_arg3]
  rw [show Shape.reshapeEquiv squeezes_S1x784x128x192_S784x128x192.numel_eq j = _ from Shape.reshapeEquiv_cons_one _ j]
  unfold kvB
  refine congrArg _ (funext fun a => Fin.ext ?_)
  rw [Rect.emb_apply]
  match a with
  | ⟨0, _⟩ => show k0_off1 (grid0.coords t) 0 + 1 * 0 = t.val / 56; omega
  | ⟨1, _⟩ => show k0_off1 (grid0.coords t) 1 + 1 * (j 0).val = (j 0).val; omega
  | ⟨2, _⟩ => show k0_off1 (grid0.coords t) 2 + 1 * (j 1).val = (j 1).val; omega
  | ⟨3, _⟩ => show k0_off1 (grid0.coords t) 3 + 1 * (j 2).val = (j 2).val; omega

/-- What every grid point leaves: `step` of the keys and values of its batch element. -/
theorem outs_eq (hH : Hyps m) (c : Dev nD) : ∀ (n : Nat) (hn : n < cfg0.N), outsAt0 m hH c n hn = step m (kvB m c (bOf ⟨n, hn⟩)) c ⟨n, hn⟩
  | 0, hn => (outs_A m hH c ⟨0, hn⟩ rfl).trans (congrArg (fun X => step m X c ⟨0, hn⟩) (kvIn_eq m c ⟨0, hn⟩ rfl))
  | n + 1, hn => by
    by_cases h0 : (n + 1) % 56 = 0
    · exact (outs_A m hH c ⟨n + 1, hn⟩ h0).trans (congrArg (fun X => step m X c ⟨n + 1, hn⟩) (kvIn_eq m c ⟨n + 1, hn⟩ h0))
    · refine (outs_B m hH c ⟨n + 1, hn⟩ h0).trans ?_
      have ih := outs_eq hH c n (Nat.lt_of_succ_lt hn)
      have eb : bOf ⟨n, Nat.lt_of_succ_lt hn⟩ = bOf ⟨n + 1, hn⟩ := Fin.ext (by show n / 56 = (n + 1) / 56; omega)
      refine congrArg (fun X => step m X c ⟨n + 1, hn⟩) ?_
      refine (congrArg (fun o => o.2.2.2) ih).trans ?_
      rw [eb]; rfl

end Cert.KernelIdeal.Gen

end
-- ==== Proof.Reads.lean ====
/- The blocks the attention kernel reads at a grid point, as elements of its arguments. -/
module

public import proofs.«01_k».proof.Proof.Carry
public import Idealize.ShloMosaic.Lib.Pipeline.ValueKit

@[expose] public section

set_option maxRecDepth 16384

noncomputable section

namespace Cert.KernelIdeal.Gen

open Cert.KernelIdeal
open Idealize.ShloMosaic hiding ix2 ix3 ix4
open Idealize.ShloMosaic.TcCoe Idealize.ShloMosaic.ValueIdx

variable (m : (ℓ : Loc nD τ sig) → Buf (Elt Ideal) ℓ)

/-- Every window's block index at every grid point. -/
theorem win_idx : ∀ t : Fin cfg0.N, win0_0.index t = ![t.val, 0, 0] ∧ win0_1.index t = ![t.val / 56, t.val % 56, 0, 0]
    ∧ win0_2.index t = ![t.val / 56, t.val % 56, 0, 0] ∧ win0_3.index t = ![0, 0] ∧ win0_4.index t = ![0, 0]
    ∧ win0_5.index t = ![t.val / 56, t.val % 56, 0, 0] ∧ win0_6.index t = ![t.val / 56, t.val % 56, 0, 0]
    ∧ win0_7.index t = ![t.val / 56, t.val % 56, 0, 0] :=
  (by decide +kernel : ∀ t : Fin grid0.N, _)

/-- The query block. -/
theorem iblk1_at (c : Dev nD) (t : Fin cfg0.N) (r : Fin 896) (d : Fin 192) :
    iblk m c 1 t (ix4 0 0 r d) = m ((c.tc : Thread nD τ).loc main_arg1) (ix4 (bOf t) (gOf t) r d) := by
  blk_ext [iblk, V, win_idx t, bOf, gOf]

/-- The pass-through block of the gate. -/
theorem iblk2_at (c : Dev nD) (t : Fin cfg0.N) (r : Fin 896) (d : Fin 192) :
    iblk m c 2 t (ix4 0 0 r d) = m ((c.tc : Thread nD τ).loc main_arg2) (ix4 (bOf t) (gOf t) r d) := by
  blk_ext [iblk, V, win_idx t, bOf, gOf]

/-- The projection. -/
theorem iblk3_at (c : Dev nD) (t : Fin cfg0.N) (d e : Fin 192) :
    iblk m c 3 t (ix2 d e) = m ((c.tc : Thread nD τ).loc main_arg4) (ix2 d e) := by
  blk_ext [iblk, V, win_idx t]

/-- The gate's weights. -/
theorem iblk4_at (c : Dev nD) (t : Fin cfg0.N) (d e : Fin 192) :
    iblk m c 4 t (ix2 d e) = m ((c.tc : Thread nD τ).loc main_arg5) (ix2 d e) := by
  blk_ext [iblk, V, win_idx t]

end Cert.KernelIdeal.Gen

end
-- ==== Proof.Arith.lean ====
/- Arithmetic of the attention over the extended reals, with no program in sight: a query row against 256 keys and
   values of 192 features in four heads of 48. -/
module

public import Idealize.ShloMosaic.PureOps.Ideal
public import Idealize.ShloMosaic.PureOps.Ideal.Laws

@[expose] public section

noncomputable section

namespace Cert.Attn

open Idealize.ShloMosaic

/-- The scale of the scores: the f32 nearest to one over the square root of 48. -/
def scale : EReal := Ideal.ofBits .f32 0x3E13CD3A#32

/-- Feature `e` of head `h`. -/
def col (h : Fin 4) (e : Fin 48) : Fin 192 := ⟨48 * h.val + e.val, by have := h.isLt; have := e.isLt; omega⟩

/-- The head of feature `c`. -/
def headOf (c : Fin 192) : Fin 4 := ⟨c.val / 48, by have := c.isLt; omega⟩

/-- The score of a query row against one key in head `h`. -/
def score (q k : Fin 192 → EReal) (h : Fin 4) : EReal := (∑ e : Fin 48, q (col h e) * k (col h e)) * scale

/-- The attention output at feature `c`: the values at `c`, weighted by the normalized exponentials of the scores in
    the head of `c`. -/
def att (q : Fin 192 → EReal) (k v : Fin 256 → Fin 192 → EReal) (c : Fin 192) : EReal :=
  ∑ j : Fin 256, (Ideal.exp (score q (k j) (headOf c)) * Ideal.div 1 (∑ j' : Fin 256, Ideal.exp (score q (k j') (headOf c)))) * v j c

/-- Which of the four routed windows key `j` of 256 is in. -/
def blk (j : Fin 256) : Fin 4 := ⟨j.val / 64, by have := j.isLt; omega⟩
/-- Its row among the window's keys and values: keys are the first 64 rows. -/
def lo (j : Fin 256) : Fin 128 := ⟨j.val % 64, by omega⟩
/-- Its value's row: values are the last 64 rows. -/
def hi (j : Fin 256) : Fin 128 := ⟨64 + j.val % 64, by omega⟩

/-- A value is finite: it is a real number. -/
def Fin' (x : EReal) : Prop := ∃ r : ℝ, x = (r : EReal)

/-- The scale is finite. -/
theorem scale_fin : Fin' scale := by
  show ∃ r : ℝ, Ideal.ieee 8 23 0x3E13CD3A#32 = (r : EReal)
  unfold Ideal.ieee
  dsimp only
  rw [if_neg (by decide), if_neg (by decide)]
  exact ⟨_, rfl⟩

/-- A value whose absolute value is below infinity is finite. -/
theorem fin_of_abs_lt {x : EReal} (h : max x (-x) < ⊤) : Fin' x := by
  induction x with
  | bot => simp at h
  | top => simp at h
  | coe r => exact ⟨r, rfl⟩

/-- An extended real whose absolute value is smaller than infinity as the float comparison has it is a real number. -/
theorem fin_of_cmpf {x : EReal} (h : FloatOps.cmpf (F := Ideal) (φ := .f32) .olt (max x (-x) : EReal) (FloatOps.ofBits (F := Ideal) .f32 0x7F800000#32) = 1#1) : Fin' x := by
  have e : (FloatOps.ofBits (F := Ideal) .f32 0x7F800000#32 : EReal) = ⊤ := by
    show Ideal.ieee 8 23 0x7F800000#32 = ⊤
    unfold Ideal.ieee
    dsimp only
    rw [if_pos (by decide), if_pos (by decide), if_neg (by decide)]
  rw [e] at h
  have key : ∀ p : Bool, BitVec.ofBool p = 1#1 → p = true := by decide
  exact fin_of_abs_lt (of_decide_eq_true (key _ h))

/-- The sum of real numbers, taken in the extended reals. -/
theorem coe_sum {n : Nat} (f : Fin n → ℝ) : ∑ i, (f i : EReal) = ((∑ i, f i : ℝ) : EReal) := by
  induction n with
  | zero => simp
  | succ n ih => rw [Fin.sum_univ_castSucc, Fin.sum_univ_castSucc, ih, EReal.coe_add]

/-- The features are the heads' features: a sum over all 192 that vanishes off head `h` is the sum over that head. -/
theorem sum_head (f : Fin 192 → ℝ) (h : Fin 4) (hf : ∀ d, headOf d ≠ h → f d = 0) : ∑ d, f d = ∑ e, f (col h e) := by
  symm
  refine Finset.sum_bij_ne_zero (fun e _ _ => col h e) (fun _ _ _ => Finset.mem_univ _) ?_ ?_ (fun _ _ _ => rfl)
  · intro a _ _ b _ _ e
    have := congrArg Fin.val e
    simp only [col] at this
    exact Fin.ext (by omega)
  · intro d _ hd
    have hh : headOf d = h := by by_contra hne; exact hd (hf d hne)
    have hv : d.val / 48 = h.val := congrArg Fin.val hh
    have hc : col h ⟨d.val % 48, Nat.mod_lt _ (by decide)⟩ = d := Fin.ext (by simp only [col]; omega)
    exact ⟨_, Finset.mem_univ _, by rw [hc]; exact hd, hc⟩

/-- Masking the query by the scale on one head and zero elsewhere, then summing over all features, is the score. -/
theorem masked_dot (q k : Fin 192 → EReal) (hq : ∀ d, Fin' (q d)) (hk : ∀ d, Fin' (k d)) (h : Fin 4) :
    ∑ d, (q d * (if headOf d = h then scale else 0)) * k d = score q k h := by
  choose q' eq using hq
  choose k' ek using hk
  obtain ⟨s, es⟩ := scale_fin
  have e1 : ∀ d, (q d * (if headOf d = h then scale else 0)) * k d = ((q' d * (if headOf d = h then s else 0) * k' d : ℝ) : EReal) := by
    intro d
    rw [eq, ek, es]
    split <;> simp [EReal.coe_mul]
  unfold score
  rw [Finset.sum_congr rfl fun d _ => e1 d, coe_sum, sum_head _ h (fun d hd => by rw [if_neg hd]; ring)]
  rw [Finset.sum_congr rfl fun e _ => show q (col h e) * k (col h e) = ((q' (col h e) * k' (col h e) : ℝ) : EReal) by rw [eq, ek, EReal.coe_mul], coe_sum, es,
    ← EReal.coe_mul, Finset.sum_mul]
  refine congrArg _ (Finset.sum_congr rfl fun e _ => ?_)
  have : headOf (col h e) = h := Fin.ext (by simp only [headOf, col]; have := e.isLt; omega)
  rw [if_pos this]; ring

/-- Scores of finite queries and keys are finite. -/
theorem score_fin (q k : Fin 192 → EReal) (hq : ∀ d, Fin' (q d)) (hk : ∀ d, Fin' (k d)) (h : Fin 4) : Fin' (score q k h) := by
  choose q' eq using hq
  choose k' ek using hk
  obtain ⟨s, es⟩ := scale_fin
  refine ⟨(∑ e, q' (col h e) * k' (col h e)) * s, ?_⟩
  unfold score
  rw [Finset.sum_congr rfl fun e _ => show q (col h e) * k (col h e) = ((q' (col h e) * k' (col h e) : ℝ) : EReal) by rw [eq, ek, EReal.coe_mul], coe_sum, es,
    ← EReal.coe_mul]

/-- The quotient of two reals, the second not zero. -/
theorem div_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- Subtracting a finite number from every score does not change the normalized exponentials. -/
theorem softmax_shift (a : Fin 256 → EReal) (ha : ∀ j, Fin' (a j)) (M : EReal) (hM : Fin' M) (j : Fin 256) :
    Ideal.div (Ideal.exp (a j - M)) (0 + ∑ j', Ideal.exp (a j' - M))
      = Ideal.exp (a j) * Ideal.div 1 (∑ j', Ideal.exp (a j')) := by
  choose a' ea using ha
  obtain ⟨r, er⟩ := hM
  have e1 : ∀ j, Ideal.exp (a j - M) = ((Real.exp (a' j - r) : ℝ) : EReal) := fun j => by
    rw [ea, er, ← EReal.coe_sub]; rfl
  have e2 : ∀ j, Ideal.exp (a j) = ((Real.exp (a' j) : ℝ) : EReal) := fun j => by rw [ea]; rfl
  have p1 : (∑ j, Real.exp (a' j - r)) ≠ 0 := (Finset.sum_pos (fun _ _ => Real.exp_pos _) Finset.univ_nonempty).ne'
  have p2 : (∑ j, Real.exp (a' j)) ≠ 0 := (Finset.sum_pos (fun _ _ => Real.exp_pos _) Finset.univ_nonempty).ne'
  rw [zero_add, Finset.sum_congr rfl fun j _ => e1 j, Finset.sum_congr rfl fun j _ => e2 j, e1, e2, coe_sum, coe_sum,
    div_real _ _ p1, ← EReal.coe_one, div_real _ _ p2, ← EReal.coe_mul]
  refine congrArg _ ?_
  have : (∑ j, Real.exp (a' j - r)) = (∑ j, Real.exp (a' j)) / Real.exp r := by
    rw [Finset.sum_div]; exact Finset.sum_congr rfl fun j _ => Real.exp_sub _ _
  rw [this, Real.exp_sub]
  field_simp

/-- The maximum of finitely many finite numbers, folded from minus infinity, is finite. -/
theorem fold_max_fin (a : Fin 256 → EReal) (ha : ∀ j, Fin' (a j)) : Fin' (max ⊥ ((Finset.univ : Finset (Fin 256)).fold max ⊥ a)) := by
  have hb : ∀ s : Finset (Fin 256), s.fold max ⊥ a = ⊥ ∨ Fin' (s.fold max ⊥ a) := by
    intro s
    induction s using Finset.induction_on with
    | empty => exact Or.inl (Finset.fold_empty ..)
    | insert x s hx ih =>
      rw [Finset.fold_insert hx]
      rcases ih with h | h
      · rw [h]; right; rw [max_eq_left bot_le]; exact ha x
      · right; rcases max_choice (a x) (s.fold max ⊥ a) with e | e <;> rw [e]
        · exact ha x
        · exact h
  rw [max_eq_right bot_le]
  refine (hb _).resolve_left fun h => ?_
  have h0 : a 0 ≤ (Finset.univ : Finset (Fin 256)).fold max ⊥ a :=
    (Finset.le_fold_max (a 0)).2 (Or.inr ⟨0, Finset.mem_univ _, le_rfl⟩)
  obtain ⟨r, er⟩ := ha 0
  rw [h, er] at h0
  exact absurd (le_bot_iff.1 h0) (EReal.coe_ne_bot r)

/-- The reference's order of operations: the scores shifted by a finite number, exponentials divided by their sum,
    values times weights. -/
theorem att_shifted (q : Fin 192 → EReal) (k v : Fin 256 → Fin 192 → EReal) (hq : ∀ d, Fin' (q d)) (hk : ∀ j d, Fin' (k j d))
    (c : Fin 192) (M : EReal) (hM : Fin' M) :
    ∑ j, v j c * Ideal.div (Ideal.exp (score q (k j) (headOf c) - M)) (0 + ∑ j', Ideal.exp (score q (k j') (headOf c) - M))
      = att q k v c :=
  Finset.sum_congr rfl fun j _ => by
    rw [softmax_shift (fun j => score q (k j) (headOf c)) (fun j => score_fin q (k j) hq (hk j) _) M hM j, mul_comm]

end Cert.Attn
-- ==== Proof.Win.lean ====
/- One window of the attention kernel at the ideal values: the masked products, exponentials and head selection of the
   body compute the attention `Cert.Attn.att` of each query row. -/
module

public import proofs.«01_k».proof.Proof.Arith
public import proofs.«01_k».proof.Proof.Blocks
public import Idealize.ShloMosaic.Lib.ValueLayout
public import Idealize.ShloMosaic.Lib.ValueIdx
public import Idealize.ShloMosaic.Lib.WordCmp

@[expose] public section

set_option maxRecDepth 16384

noncomputable section

namespace Cert.KernelIdeal.Gen

open Cert.KernelIdeal Idealize.ShloMosaic Idealize.ShloMosaic.TcCoe Idealize.ShloMosaic.ValueIdx Cert.Attn

/-! ## Layout and products at an index -/

/-- Row `64 k + i` of four blocks of 64 rows on top of each other is row `i` of block `k`. -/
theorem cat4_at {α : Type} (f : Fin 4 → (S64x192.Idx → α)) (H) (k : Fin 4) (i : Fin 64) (d : Fin 192) (r : Fin 256) (hr : r.val = 64 * k.val + i.val) :
    concatenate S256x192 0 [⟨S64x192, f 0⟩, ⟨S64x192, f 1⟩, ⟨S64x192, f 2⟩, ⟨S64x192, f 3⟩] H (ix2 r d) = f k (ix2 i d) :=
  concatenate_apply_piece 0 _ H _ k.val k.isLt S64x192 (f k) (match k with | 0 => rfl | 1 => rfl | 2 => rfl | 3 => rfl) rfl (64 * k.val)
    (match k with | 0 => rfl | 1 => rfl | 2 => rfl | 3 => rfl) (ix2 i d)
    (fun b hb => match b with | ⟨0, _⟩ => absurd rfl hb | ⟨1, _⟩ => rfl) hr.symm

/-- Block `k` of 64 rows of 256. -/
theorem slice4_at {α : Type} (x : S256x192.Idx → α) (o : Nat) (H) (i : Fin 64) (d : Fin 192) (r : Fin 256) (hr : r.val = o + i.val) :
    extractStridedSlice S64x192 ![o, 0] x H (ix2 i d) = x (ix2 r d) :=
  extractStridedSlice_apply _ x H _ _ fun a => match a with
    | ⟨0, _⟩ => hr
    | ⟨1, _⟩ => (Nat.zero_add _).symm

/-- The product of the stacked queries with the keys, over the features of both. -/
theorem dot_qk_apply (A B : FVec Ideal S256x192 .bf16) (r j : Fin 256) :
    matmul dot_S256x192_S256x192_S256x256_1_1_0_0_n_n none A B (constant S256x256 .f32 0x00000000#32) (ix2 r j)
      = ∑ d : Fin 192, A (ix2 r d) * B (ix2 j d) := by
  refine (Ideal.matmul_constant_zero_apply _ none A B _).trans ?_
  rw [← Equiv.sum_comp (contrEquiv1 dot_S256x192_S256x192_S256x256_1_1_0_0_n_n 192 rfl rfl).symm]
  refine Finset.sum_congr rfl fun d _ => ?_
  have hd := contrEquiv1_symm_val dot_S256x192_S256x192_S256x256_1_1_0_0_n_n 192 rfl rfl d
  generalize (contrEquiv1 dot_S256x192_S256x192_S256x256_1_1_0_0_n_n 192 rfl rfl).symm d = q at hd
  refine congrArg₂ (· * ·) (congrArg A (funext fun a => Fin.ext ?_)) (congrArg B (funext fun a => Fin.ext ?_))
  · match a with
    | ⟨0, _⟩ => rfl
    | ⟨1, _⟩ => exact hd
  · match a with
    | ⟨0, _⟩ => rfl
    | ⟨1, _⟩ => exact hd

/-- The product of the weights with the values. -/
theorem dot_pv_apply (A : FVec Ideal S256x256 .bf16) (B : FVec Ideal S256x192 .bf16) (r : Fin 256) (d : Fin 192) :
    matmul dot_S256x256_S256x192_S256x192_1_0_0_1_n_n none A B (constant S256x192 .f32 0x00000000#32) (ix2 r d)
      = ∑ j : Fin 256, A (ix2 r j) * B (ix2 j d) := by
  refine (Ideal.matmul_constant_zero_apply _ none A B _).trans ?_
  rw [← Equiv.sum_comp (contrEquiv1 dot_S256x256_S256x192_S256x192_1_0_0_1_n_n 256 rfl rfl).symm]
  refine Finset.sum_congr rfl fun j _ => ?_
  have hd := contrEquiv1_symm_val dot_S256x256_S256x192_S256x192_1_0_0_1_n_n 256 rfl rfl j
  generalize (contrEquiv1 dot_S256x256_S256x192_S256x192_1_0_0_1_n_n 256 rfl rfl).symm j = q at hd
  refine congrArg₂ (· * ·) (congrArg A (funext fun a => Fin.ext ?_)) (congrArg B (funext fun a => Fin.ext ?_))
  · match a with
    | ⟨0, _⟩ => rfl
    | ⟨1, _⟩ => exact hd
  · match a with
    | ⟨0, _⟩ => exact hd
    | ⟨1, _⟩ => rfl

/-- The product of 448 rows with a square matrix of weights. -/
theorem dot_w_apply (A : FVec Ideal S448x192 .bf16) (B : FVec Ideal S192x192 .bf16) (r : Fin 448) (c : Fin 192) :
    matmul dot_S448x192_S192x192_S448x192_1_0_0_1_n_n none A B (constant S448x192 .f32 0x00000000#32) (ix2 r c)
      = ∑ d : Fin 192, A (ix2 r d) * B (ix2 d c) := by
  refine (Ideal.matmul_constant_zero_apply _ none A B _).trans ?_
  rw [← Equiv.sum_comp (contrEquiv1 dot_S448x192_S192x192_S448x192_1_0_0_1_n_n 192 rfl rfl).symm]
  refine Finset.sum_congr rfl fun j _ => ?_
  have hd := contrEquiv1_symm_val dot_S448x192_S192x192_S448x192_1_0_0_1_n_n 192 rfl rfl j
  generalize (contrEquiv1 dot_S448x192_S192x192_S448x192_1_0_0_1_n_n 192 rfl rfl).symm j = q at hd
  refine congrArg₂ (· * ·) (congrArg A (funext fun a => Fin.ext ?_)) (congrArg B (funext fun a => Fin.ext ?_))
  · match a with
    | ⟨0, _⟩ => rfl
    | ⟨1, _⟩ => exact hd
  · match a with
    | ⟨0, _⟩ => exact hd
    | ⟨1, _⟩ => rfl

/-! ## The head masks -/

/-- The word of the lane's head: the lane number divided by 48, as the body computes it with a signed division. -/
theorem head_word (i : Fin 64) (d : Fin 192) : k0_pay3 (ix2 i d) = BitVec.ofNat 32 (d.val / 48) := by
  have key : ∀ d : Fin 192,
      (fun w : BitVec 32 => Scalar.select
        (IntOp.andi (IntOp.cmpi .ne (IntOp.subi ((IntOp.cmpi .sgt w 0#32).setWidth 32) ((IntOp.cmpi .slt w 0#32).setWidth 32))
            (Scalar.subi (Scalar.extui (Scalar.cmpi .sgt 48#32 0#32)) (Scalar.extui (Scalar.cmpi .slt 48#32 0#32))))
          (IntOp.cmpi .ne (IntOp.remsi .vector w 48#32) 0#32))
        (IntOp.subi (IntOp.divsi .vector w 48#32) 1#32) (IntOp.divsi .vector w 48#32)) (BitVec.ofNat 32 d.val)
        = BitVec.ofNat 32 (d.val / 48) := by decide +kernel
  refine Eq.trans ?_ (key d)
  have hi : iota .tc S64x192 32 [1] iota_S64x192_d1_w32 (ix2 i d) = BitVec.ofNat 32 d.val := by
    rw [WordCmp.iota_at]
    show BitVec.ofNat 32 (0 * 192 + d.val) = _
    rw [Nat.zero_mul, Nat.zero_add]
  rw [← hi]
  rfl

/-- Whether lane `d` is in head `h`, as the words say it. -/
theorem head_eq (d : Fin 192) (h : Fin 4) {α : Type} (a b : α) :
    Scalar.select (IntOp.cmpi .eq (BitVec.ofNat 32 (d.val / 48)) (BitVec.ofNat 32 h.val)) a b = if headOf d = h then a else b := by
  have key : ∀ (d : Fin 192) (h : Fin 4),
      IntOp.cmpi .eq (BitVec.ofNat 32 (d.val / 48)) (BitVec.ofNat 32 h.val) = if headOf d = h then 1#1 else 0#1 := by decide +kernel
  rw [key]
  split <;> rfl

/-- A mask that takes one value on head `h` and another elsewhere. -/
theorem mask_at (h : Fin 4) (a b : BitVec 32) (i : Fin 64) (d : Fin 192) :
    select (cmpi .eq (k0_pay3) (broadcast S64x192 (BitVec.ofNat 32 h.val))) (broadcast S64x192 (Scalar.ofBits (F := Ideal) .f32 a))
      (broadcast S64x192 (Scalar.ofBits (F := Ideal) .f32 b)) (ix2 i d) = if headOf d = h then Ideal.ofBits .f32 a else Ideal.ofBits .f32 b := by
  show Scalar.select (IntOp.cmpi .eq (k0_pay3 (ix2 i d)) (BitVec.ofNat 32 h.val)) (Ideal.ofBits .f32 a) (Ideal.ofBits .f32 b) = _
  rw [head_word, head_eq]

/-! ## The normalized exponentials -/

/-- The f32 pattern of one. -/
theorem ofBits_one : Ideal.ofBits .f32 0x3F800000#32 = 1 := by
  show Ideal.ieee 8 23 0x3F800000#32 = 1
  unfold Ideal.ieee
  dsimp only
  rw [if_neg (by decide), if_neg (by decide)]
  have e1 : (BitVec.extractLsb' 23 8 0x3F800000#32).toNat = 127 := by decide
  have e2 : (BitVec.extractLsb' 0 23 0x3F800000#32).toNat = 0 := by decide
  have e3 : (BitVec.extractLsb' (8 + 23) 1 0x3F800000#32 == 1#1) = false := by decide
  rw [e1, e2, e3]
  norm_num

/-- Exponentials of the scores times the reciprocal of their row sum, at an entry. -/
theorem soft_at (M : FVec Ideal S256x256 .f32) (r j : Fin 256) :
    mulf (exp M) (broadcastTo S256x256 (divf (broadcast S256x1 (Scalar.ofBits (F := Ideal) .f32 0x3F800000#32))
      (shapeCast S256x1 (multiReduction .add [1] S256 (exp M) 0x00000000#32 reduces_S256x256_S256 (.inl rfl) rfl) shapeCasts_S256_S256x1))
      broadcasts_S256x1_S256x256) (ix2 r j)
      = Ideal.exp (M (ix2 r j)) * Ideal.div 1 (∑ j' : Fin 256, Ideal.exp (M (ix2 r j'))) := by
  rw [mulf_apply, broadcastTo_apply _ broadcasts_S256x1_S256x256 (ix2 r j) (ix2 r 0)
    (fun a => match a with | ⟨0, _⟩ => rfl | ⟨1, _⟩ => rfl), divf_apply, broadcast_apply]
  refine congrArg₂ (· * ·) rfl (congrArg₂ Ideal.div ofBits_one ?_)
  rw [shapeCast_apply _ shapeCasts_S256_S256x1 (ix2 r 0) (ix1 r) (by simp [Shape.rowMajor_val_one, Shape.rowMajor_val_two])]
  refine (Ideal.multiReduction_add_single (exp M) 0x00000000#32 reduces_S256x256_S256 (.inl rfl) rfl (ix1 r)).trans ?_
  refine Finset.sum_congr rfl fun j' _ => congrArg (fun i => Ideal.exp (M i)) (funext fun a => Fin.ext ?_)
  match a with
  | ⟨0, _⟩ => rfl
  | ⟨1, _⟩ => rfl

/-! ## The window -/

/-- Row `o + i` of a window of keys and values, after its unit axis is dropped and 64 rows are cut at `o`. -/
theorem cut_at (x : Vec Ideal S1x128x192 .bf16) (o : Nat) (H) (j : Fin 64) (d : Fin 192) (r : Fin 128) (hr : r.val = o + j.val) :
    extractStridedSlice S64x192 ![o, 0] (shapeCast S128x192 x shapeCasts_S1x128x192_S128x192) H (ix2 j d) = x (ix3 0 r d) := by
  rw [extractStridedSlice_apply _ _ H (ix2 j d) (ix2 r d) fun a => match a with
    | ⟨0, _⟩ => hr
    | ⟨1, _⟩ => (Nat.zero_add _).symm]
  exact shapeCast_1ab_ab_apply x _ r d

/-- The stacked values at row `j`. -/
theorem pay18_at (K : Fin 4 → Vec Ideal S1x128x192 .bf16) (j : Fin 256) (d : Fin 192) :
    k0_pay18 (K 0) (K 1) (K 2) (K 3) (ix2 j d) = K (blk j) (ix3 0 (hi j) d) := by
  refine (cat4_at (fun k => extractStridedSlice S64x192 ![64, 0] (shapeCast S128x192 (K k) shapeCasts_S1x128x192_S128x192) slices_S128x192_o64_0_S64x192)
    concatenates_S64x192_S64x192_S64x192_S64x192_S256x192_d0 (blk j) ⟨j.val % 64, Nat.mod_lt _ (by decide)⟩ d j (by simp only [blk]; omega)).trans ?_
  exact cut_at _ _ _ _ _ _ rfl

/-- The stacked keys at row `j`. -/
theorem keys_at (K : Fin 4 → Vec Ideal S1x128x192 .bf16) (j : Fin 256) (d : Fin 192) :
    concatenate S256x192 0 [⟨S64x192, extractStridedSlice S64x192 ![0, 0] (k0_pay14 (K 0)) slices_S128x192_o0_0_S64x192⟩,
      ⟨S64x192, extractStridedSlice S64x192 ![0, 0] (k0_pay15 (K 1)) slices_S128x192_o0_0_S64x192⟩,
      ⟨S64x192, extractStridedSlice S64x192 ![0, 0] (k0_pay16 (K 2)) slices_S128x192_o0_0_S64x192⟩,
      ⟨S64x192, extractStridedSlice S64x192 ![0, 0] (k0_pay17 (K 3)) slices_S128x192_o0_0_S64x192⟩]
      concatenates_S64x192_S64x192_S64x192_S64x192_S256x192_d0 (ix2 j d) = K (blk j) (ix3 0 (lo j) d) := by
  refine (cat4_at (fun k => extractStridedSlice S64x192 ![0, 0] (shapeCast S128x192 (K k) shapeCasts_S1x128x192_S128x192) slices_S128x192_o0_0_S64x192)
    concatenates_S64x192_S64x192_S64x192_S64x192_S256x192_d0 (blk j) ⟨j.val % 64, Nat.mod_lt _ (by decide)⟩ d j (by simp only [blk]; omega)).trans ?_
  exact cut_at _ _ _ _ _ _ (Nat.zero_add _).symm

/-- The queries of a window without their unit axes. -/
theorem pay13_at (q : Vec Ideal S1x1x64x192 .bf16) (i : Fin 64) (d : Fin 192) : k0_pay13 q (ix2 i d) = q (ix4 0 0 i d) :=
  shapeCast_apply q shapeCasts_S1x1x64x192_S64x192 (ix2 i d) (ix4 0 0 i d) (by simp [Shape.rowMajor_val_two, Shape.rowMajor_val_four])

/-- The four masks of the queries: the scale on one head each. -/
def qmask (h : Fin 4) : FVec Ideal S64x192 .bf16 := match h with
  | 0 => k0_pay4 | 1 => k0_pay5 | 2 => k0_pay7 k0_pay3 k0_pay6 | 3 => k0_pay8 k0_pay3

theorem qmask_at (h : Fin 4) (i : Fin 64) (d : Fin 192) : qmask h (ix2 i d) = if headOf d = h then scale else 0 := by
  have := mask_at h 0x3E13CD3A#32 0x00000000#32 i d
  rw [Ideal.ofBits_zero_f32] at this
  exact match h, this with | 0, t => t | 1, t => t | 2, t => t | 3, t => t

/-- The four masks of the outputs: one on one head each. -/
def omask (h : Fin 4) : FVec Ideal S64x192 .f32 := match h with
  | 0 => k0_pay9 k0_pay3 | 1 => k0_pay10 k0_pay3 | 2 => k0_pay11 k0_pay3 | 3 => k0_pay12 k0_pay3

theorem omask_at (h : Fin 4) (i : Fin 64) (d : Fin 192) : omask h (ix2 i d) = if headOf d = h then 1 else 0 := by
  have := mask_at h 0x3F800000#32 0x00000000#32 i d
  rw [Ideal.ofBits_zero_f32, ofBits_one] at this
  exact match h, this with | 0, t => t | 1, t => t | 2, t => t | 3, t => t

/-- The weights of row `i` in head `h`, which is row `64 h + i` of the stack. -/
theorem pay19_at (q : Vec Ideal S1x1x64x192 .bf16) (K : Fin 4 → Vec Ideal S1x128x192 .bf16)
    (hq : ∀ i d, Fin' (q (ix4 0 0 i d))) (hk : ∀ k (i : Fin 128) d, i.val < 64 → Fin' (K k (ix3 0 i d)))
    (h : Fin 4) (i : Fin 64) (r : Fin 256) (hr : r.val = 64 * h.val + i.val) (j : Fin 256) :
    k0_pay19 k0_pay4 k0_pay5 (k0_pay7 k0_pay3 k0_pay6) (k0_pay8 k0_pay3) (k0_pay13 q) (K 0) (K 1) (K 2) (K 3) (ix2 r j)
      = Ideal.exp (score (fun d => q (ix4 0 0 i d)) (fun d => K (blk j) (ix3 0 (lo j) d)) h)
        * Ideal.div 1 (∑ j' : Fin 256, Ideal.exp (score (fun d => q (ix4 0 0 i d)) (fun d => K (blk j') (ix3 0 (lo j') d)) h)) := by
  unfold k0_pay19
  have hS : ∀ j' : Fin 256, matmul dot_S256x192_S256x192_S256x256_1_1_0_0_n_n none
      (concatenate S256x192 0 [⟨S64x192, mulf (k0_pay13 q) k0_pay4⟩, ⟨S64x192, mulf (k0_pay13 q) k0_pay5⟩,
        ⟨S64x192, mulf (k0_pay13 q) (k0_pay7 k0_pay3 k0_pay6)⟩, ⟨S64x192, mulf (k0_pay13 q) (k0_pay8 k0_pay3)⟩] concatenates_S64x192_S64x192_S64x192_S64x192_S256x192_d0)
      (concatenate S256x192 0 [⟨S64x192, extractStridedSlice S64x192 ![0, 0] (k0_pay14 (K 0)) slices_S128x192_o0_0_S64x192⟩,
        ⟨S64x192, extractStridedSlice S64x192 ![0, 0] (k0_pay15 (K 1)) slices_S128x192_o0_0_S64x192⟩,
        ⟨S64x192, extractStridedSlice S64x192 ![0, 0] (k0_pay16 (K 2)) slices_S128x192_o0_0_S64x192⟩,
        ⟨S64x192, extractStridedSlice S64x192 ![0, 0] (k0_pay17 (K 3)) slices_S128x192_o0_0_S64x192⟩]
        concatenates_S64x192_S64x192_S64x192_S64x192_S256x192_d0)
      (constant S256x256 .f32 0x00000000#32) (ix2 r j')
      = score (fun d => q (ix4 0 0 i d)) (fun d => K (blk j') (ix3 0 (lo j') d)) h := by
    intro j'
    rw [dot_qk_apply, ← masked_dot _ _ (fun d => hq i d) (fun d => hk _ _ d (Nat.mod_lt _ (by decide))) h]
    refine Finset.sum_congr rfl fun d _ => congrArg₂ (· * ·) ?_ (keys_at K j' d)
    refine (cat4_at (fun h => mulf (k0_pay13 q) (qmask h)) concatenates_S64x192_S64x192_S64x192_S64x192_S256x192_d0 h i d r hr).trans ?_
    rw [mulf_apply, pay13_at, qmask_at]
  refine (soft_at _ r j).trans ?_
  rw [hS, Finset.sum_congr rfl fun j' _ => congrArg Ideal.exp (hS j')]

/-- A window's output at row `i` and feature `c` is the attention of that row against the four routed windows. -/
theorem winT_at (q : Vec Ideal S1x1x64x192 .bf16) (K : Fin 4 → Vec Ideal S1x128x192 .bf16)
    (hq : ∀ i d, Fin' (q (ix4 0 0 i d))) (hk : ∀ k (i : Fin 128) d, i.val < 64 → Fin' (K k (ix3 0 i d))) (i : Fin 64) (c : Fin 192) :
    winT q (K 0) (K 1) (K 2) (K 3) (ix2 i c)
      = att (fun d => q (ix4 0 0 i d)) (fun j d => K (blk j) (ix3 0 (lo j) d)) (fun j d => K (blk j) (ix3 0 (hi j) d)) c := by
  have hO : ∀ (h : Fin 4) (r : Fin 256) (hr : r.val = 64 * h.val + i.val),
      matmul dot_S256x256_S256x192_S256x192_1_0_0_1_n_n none
        (truncf .bf16 (k0_pay19 k0_pay4 k0_pay5 (k0_pay7 k0_pay3 k0_pay6) (k0_pay8 k0_pay3) (k0_pay13 q) (K 0) (K 1) (K 2) (K 3)) bitsLt_bf16_f32)
        (k0_pay18 (K 0) (K 1) (K 2) (K 3)) (constant S256x192 .f32 0x00000000#32) (ix2 r c)
      = ∑ j : Fin 256, (Ideal.exp (score (fun d => q (ix4 0 0 i d)) (fun d => K (blk j) (ix3 0 (lo j) d)) h)
        * Ideal.div 1 (∑ j' : Fin 256, Ideal.exp (score (fun d => q (ix4 0 0 i d)) (fun d => K (blk j') (ix3 0 (lo j') d)) h)))
          * K (blk j) (ix3 0 (hi j) c) := by
    intro h r hr
    rw [dot_pv_apply]
    refine Finset.sum_congr rfl fun j _ => ?_
    rw [truncf_apply, pay19_at q K hq hk h i r hr, pay18_at]
  unfold winT k0_pay20
  rw [shapeCast_self, truncf_apply]
  have hi := i.isLt
  simp only [addf_apply, mulf_apply]
  rw [slice4_at _ 0 _ i c ⟨i.val, by omega⟩ (by simp), slice4_at _ 64 _ i c ⟨64 + i.val, by omega⟩ rfl,
    slice4_at _ 128 _ i c ⟨128 + i.val, by omega⟩ rfl, slice4_at _ 192 _ i c ⟨192 + i.val, by omega⟩ rfl,
    hO 0 _ (by simp), hO 1 _ rfl, hO 2 _ rfl, hO 3 _ rfl]
  have m0 := omask_at 0 i c
  have m1 := omask_at 1 i c
  have m2 := omask_at 2 i c
  have m3 := omask_at 3 i c
  simp only [omask] at m0 m1 m2 m3
  rw [m0, m1, m2, m3]
  unfold att
  have hc : headOf c = 0 ∨ headOf c = 1 ∨ headOf c = 2 ∨ headOf c = 3 := by
    generalize headOf c = h; revert h; decide
  rcases hc with e | e | e | e <;> rw [e] <;> simp

end Cert.KernelIdeal.Gen
-- ==== Proof.Rows.lean ====
/- The three blocks one grid point of the attention kernel writes, at the ideal values and at an index: the projected
   rows, the gate's pre-activations and their column sums, as sums over the attention output the scratch holds. -/
module

public import proofs.«01_k».proof.Proof.Win

@[expose] public section

set_option maxRecDepth 16384

noncomputable section

namespace Cert.KernelIdeal.Gen

open Cert.KernelIdeal Idealize.ShloMosaic Idealize.ShloMosaic.TcCoe Idealize.ShloMosaic.ValueIdx Cert.Attn

/-- Row `r` of the attention output times the projection, at feature `c`. -/
def yV (O : Vec Ideal S896x192 .bf16) (wp : Vec Ideal S192x192 .bf16) (r : Fin 896) (c : Fin 192) : EReal :=
  ∑ d : Fin 192, O (ix2 r d) * wp (ix2 d c)

/-- The gate's pre-activation of row `r` at feature `c`. -/
def zV (O : Vec Ideal S896x192 .bf16) (zx : Vec Ideal S1x1x896x192 .bf16) (wp wg : Vec Ideal S192x192 .bf16) (r : Fin 896) (c : Fin 192) : EReal :=
  zx (ix4 0 0 r c) + ∑ d : Fin 192, yV O wp r d * wg (ix2 d c)

/-- Row `r` of the half of 448 rows from row `o`. -/
def rowAt (o : Nat) (ho : o + 448 ≤ 896) (r : Fin 448) : Fin 896 := ⟨o + r.val, by have := r.isLt; omega⟩

/-- A load of 448 rows of the attention output. -/
theorem ld_o (O : Vec Ideal S896x192 .bf16) (o : Nat) (ho : o + 448 ≤ 896) (h) (r : Fin 448) (d : Fin 192) :
    View.ld O (Rect.unit (s := S896x192) ![o, 0] S448x192.size h) (ix2 r d) = O (ix2 (rowAt o ho r) d) := by
  refine congrArg O (funext fun a => Fin.ext ?_)
  match a with
  | ⟨0, _⟩ => show o + 1 * r.val = o + r.val; omega
  | ⟨1, _⟩ => show 0 + 1 * d.val = d.val; omega

/-- A load of 448 rows of the desc half of the pre-activations. -/
theorem ld_zx (zx : Vec Ideal S1x1x896x192 .bf16) (o : Nat) (ho : o + 448 ≤ 896) (h) (r : Fin 448) (d : Fin 192) :
    View.ld zx (Rect.unit (s := S1x1x896x192) ![0, 0, o, 0] S1x1x448x192.size h) (ix4 0 0 r d) = zx (ix4 0 0 (rowAt o ho r) d) := by
  refine congrArg zx (funext fun a => Fin.ext ?_)
  match a with
  | ⟨0, _⟩ => rfl
  | ⟨1, _⟩ => rfl
  | ⟨2, _⟩ => show o + 1 * r.val = o + r.val; omega
  | ⟨3, _⟩ => show 0 + 1 * d.val = d.val; omega

/-- A load of a whole matrix of weights. -/
theorem ld_w (w : Vec Ideal S192x192 .bf16) (h) : View.ld w (Rect.unit (s := S192x192) ![0, 0] S192x192.size h) = w := by
  funext x
  refine congrArg w (funext fun a => Fin.ext ?_)
  match a with
  | ⟨0, _⟩ => show 0 + 1 * (x 0).val = (x 0).val; omega
  | ⟨1, _⟩ => show 0 + 1 * (x 1).val = (x 1).val; omega

/-- The projected half-block at an index. -/
theorem proj_at (O : Vec Ideal S896x192 .bf16) (wp : Vec Ideal S192x192 .bf16) (o : Nat) (ho : o + 448 ≤ 896) (h h') (r : Fin 448) (c : Fin 192) :
    k0_pay106 (View.ld O (Rect.unit (s := S896x192) ![o, 0] S448x192.size h)) (View.ld wp (Rect.unit (s := S192x192) ![0, 0] S192x192.size h')) (ix2 r c)
      = yV O wp (rowAt o ho r) c := by
  rw [ld_w]
  refine (dot_w_apply _ _ r c).trans (Finset.sum_congr rfl fun d _ => ?_)
  rw [ld_o O o ho]

/-- The pre-activations' half-block at an index. -/
theorem gate_at (O : Vec Ideal S896x192 .bf16) (zx : Vec Ideal S1x1x896x192 .bf16) (wp wg : Vec Ideal S192x192 .bf16) (o : Nat) (ho : o + 448 ≤ 896)
    (h h1 h2 h3) (r : Fin 448) (c : Fin 192) :
    k0_pay107 (View.ld O (Rect.unit (s := S896x192) ![o, 0] S448x192.size h)) (View.ld wp (Rect.unit (s := S192x192) ![0, 0] S192x192.size h1))
      (View.ld zx (Rect.unit (s := S1x1x896x192) ![0, 0, o, 0] S1x1x448x192.size h2)) (View.ld wg (Rect.unit (s := S192x192) ![0, 0] S192x192.size h3)) (ix2 r c)
      = zV O zx wp wg (rowAt o ho r) c := by
  unfold k0_pay107
  rw [addf_apply, extf_apply, ld_w wg]
  refine congrArg₂ (· + ·) ?_ ?_
  · refine (shapeCast_apply _ shapeCasts_S1x1x448x192_S448x192 (ix2 r c) (ix4 0 0 r c) (by simp [Shape.rowMajor_val_two, Shape.rowMajor_val_four])).trans ?_
    exact ld_zx zx o ho h2 r c
  · refine (dot_w_apply _ _ r c).trans (Finset.sum_congr rfl fun d _ => ?_)
    rw [truncf_apply, proj_at O wp o ho h h1 r d]

/-- Two unit axes put in front of 448 rows. -/
theorem front_at (x : FVec Ideal S448x192 .bf16) (r : Fin 448) (c : Fin 192) :
    shapeCast S1x1x448x192 x shapeCasts_S448x192_S1x1x448x192 (ix4 0 0 r c) = x (ix2 r c) :=
  shapeCast_apply x shapeCasts_S448x192_S1x1x448x192 (ix4 0 0 r c) (ix2 r c) (by simp [Shape.rowMajor_val_two, Shape.rowMajor_val_four])

/-- An index of a half-block is named by its row and feature. -/
theorem half_idx (x : S1x1x448x192.Idx) : ∃ (r : Fin 448) (c : Fin 192), x = ix4 0 0 r c :=
  ⟨x 2, x 3, funext fun a => match a with
    | ⟨0, _⟩ => Subsingleton.elim (α := Fin 1) _ _
    | ⟨1, _⟩ => Subsingleton.elim (α := Fin 1) _ _
    | ⟨2, _⟩ => rfl
    | ⟨3, _⟩ => rfl⟩

/-- A half-block whose entries are a function of row and feature agrees with that function on the whole block. -/
theorem half_ok (G : Fin 896 → Fin 192 → EReal) (o : Nat) (ho : o + 448 ≤ 896) (h) (P : Vec Ideal S1x1x448x192 .bf16)
    (hP : ∀ r c, P (ix4 0 0 r c) = G (rowAt o ho r) c) (x : S1x1x448x192.Idx) :
    P x = (fun y : S1x1x896x192.Idx => G (y 2) (y 3)) ((Rect.unit (s := S1x1x896x192) ![0, 0, o, 0] S1x1x448x192.size h).emb x) := by
  obtain ⟨r, c, rfl⟩ := half_idx x
  rw [hP]
  refine congrArg₂ G (Fin.ext ?_) (Fin.ext ?_)
  · show o + r.val = o + 1 * r.val; omega
  · show c.val = 0 + 1 * c.val; omega

/-- The projected block at row `r` and feature `c`. -/
theorem yBlock_at (O : Vec Ideal S896x192 .bf16) (wp : Vec Ideal S192x192 .bf16) (y : S1x1x896x192.Idx) :
    yBlock O wp y = yV O wp (y 2) (y 3) := by
  unfold yBlock
  refine View.canon_apply_of_pieces (Val := Elt Ideal) (e := .bf16) (fun y : S1x1x896x192.Idx => yV O wp (y 2) (y 3)) _ ?_ y ?_
  on_goal 2 => exact View.cover_of_tiledL (s := S1x1x896x192) _ S1x1x448x192.size (by sl_kernel_rfl) y
  simp only [List.forall_mem_cons]
  refine ⟨half_ok (yV O wp) 448 (by decide) _ _ fun r c => ?_, half_ok (yV O wp) 0 (by decide) _ _ fun r c => ?_, fun p hp => absurd hp List.not_mem_nil⟩
  · exact (front_at _ r c).trans (proj_at O wp 448 (by decide) _ _ r c)
  · exact (front_at _ r c).trans (proj_at O wp 0 (by decide) _ _ r c)

/-- The pre-activations' block at row `r` and feature `c`. -/
theorem zBlock_at (O : Vec Ideal S896x192 .bf16) (zx : Vec Ideal S1x1x896x192 .bf16) (wp wg : Vec Ideal S192x192 .bf16) (y : S1x1x896x192.Idx) :
    zBlock O zx wp wg y = zV O zx wp wg (y 2) (y 3) := by
  unfold zBlock
  refine View.canon_apply_of_pieces (Val := Elt Ideal) (e := .bf16) (fun y : S1x1x896x192.Idx => zV O zx wp wg (y 2) (y 3)) _ ?_ y ?_
  on_goal 2 => exact View.cover_of_tiledL (s := S1x1x896x192) _ S1x1x448x192.size (by sl_kernel_rfl) y
  simp only [List.forall_mem_cons]
  refine ⟨half_ok (zV O zx wp wg) 448 (by decide) _ _ fun r c => ?_, half_ok (zV O zx wp wg) 0 (by decide) _ _ fun r c => ?_, fun p hp => absurd hp List.not_mem_nil⟩
  · exact (front_at _ r c).trans (gate_at O zx wp wg 448 (by decide) _ _ _ _ r c)
  · exact (front_at _ r c).trans (gate_at O zx wp wg 0 (by decide) _ _ _ _ r c)

/-! ## The column sums -/

/-- A sum down the 448 rows, as a row. -/
theorem colsum_at (x : FVec Ideal S448x192 .f32) (c : Fin 192) :
    shapeCast S1x192 (multiReduction .add [0] S192 x 0x00000000#32 reduces_S448x192_S192 (.inl rfl) rfl) shapeCasts_S192_S1x192 (ix2 0 c)
      = ∑ r : Fin 448, x (ix2 r c) := by
  rw [shapeCast_apply _ shapeCasts_S192_S1x192 (ix2 0 c) (ix1 c) (by simp [Shape.rowMajor_val_one, Shape.rowMajor_val_two])]
  refine (Ideal.multiReduction_add_single x 0x00000000#32 reduces_S448x192_S192 (.inl rfl) rfl (ix1 c)).trans ?_
  refine Finset.sum_congr rfl fun r _ => congrArg x (funext fun a => Fin.ext ?_)
  match a with
  | ⟨0, _⟩ => rfl
  | ⟨1, _⟩ => rfl

/-- The sum over 896 rows is the sum over its two halves. -/
theorem sum_halves (G : Fin 896 → EReal) : ∑ r, G r = ∑ r, G (rowAt 0 (by decide) r) + ∑ r, G (rowAt 448 (by decide) r) := by
  refine (Fin.sum_univ_add (a := 448) (b := 448) G).trans ?_
  refine congrArg₂ (· + ·) (Finset.sum_congr rfl fun r _ => congrArg G (Fin.ext ?_)) (Finset.sum_congr rfl fun r _ => congrArg G (Fin.ext ?_))
  · show r.val = 0 + r.val; omega
  · rfl

/-- Two rows on top of six: which one an index reads. -/
theorem stack_at {α : Type} (A B : S1x192.Idx → α) (C : S6x192.Idx → α) (H) (s : Fin 8) (c : Fin 192) (z : α) (hC : ∀ y, C y = z) :
    concatenate S8x192 0 [⟨S1x192, A⟩, ⟨S1x192, B⟩, ⟨S6x192, C⟩] H (ix2 s c)
      = if s.val = 0 then A (ix2 0 c) else if s.val = 1 then B (ix2 0 c) else z := by
  have hs := s.isLt
  split
  · rename_i h0
    exact concatenate_apply_piece 0 _ H _ 0 (by simp) S1x192 A rfl rfl 0 rfl (ix2 0 c)
      (fun b hb => match b with | ⟨0, _⟩ => absurd rfl hb | ⟨1, _⟩ => rfl) h0.symm
  · split
    · rename_i _ h1
      exact concatenate_apply_piece 0 _ H _ 1 (by simp) S1x192 B rfl rfl 1 rfl (ix2 0 c)
        (fun b hb => match b with | ⟨0, _⟩ => absurd rfl hb | ⟨1, _⟩ => rfl) h1.symm
    · refine (concatenate_apply_piece 0 _ H _ 2 (by simp) S6x192 C rfl rfl 2 rfl (ix2 ⟨s.val - 2, by omega⟩ c)
        (fun b hb => match b with | ⟨0, _⟩ => absurd rfl hb | ⟨1, _⟩ => rfl) (by show 2 + (s.val - 2) = s.val; omega)).trans (hC _)

/-- A row of zeros plus the sums of the first half plus the sums of the second half is the sums over all rows. -/
theorem halves_at (A B : FVec Ideal S448x192 .f32) (z : FVec Ideal S1x192 .f32) (c : Fin 192) (hz : z (ix2 0 c) = 0) (G : Fin 896 → EReal)
    (hA : ∀ r, A (ix2 r c) = G (rowAt 0 (by decide) r)) (hB : ∀ r, B (ix2 r c) = G (rowAt 448 (by decide) r)) :
    addf (addf z (shapeCast S1x192 (multiReduction .add [0] S192 A 0x00000000#32 reduces_S448x192_S192 (.inl rfl) rfl) shapeCasts_S192_S1x192))
      (shapeCast S1x192 (multiReduction .add [0] S192 B 0x00000000#32 reduces_S448x192_S192 (.inl rfl) rfl) shapeCasts_S192_S1x192) (ix2 0 c)
      = ∑ r, G r := by
  rw [addf_apply, addf_apply, colsum_at, colsum_at, hz, zero_add, sum_halves, Finset.sum_congr rfl fun r _ => hA r, Finset.sum_congr rfl fun r _ => hB r]

/-- The block of sums: row 0 holds the column sums of the pre-activations, row 1 those of their squares, the rest zero. -/
theorem pBlock_at (O : Vec Ideal S896x192 .bf16) (zx : Vec Ideal S1x1x896x192 .bf16) (wp wg : Vec Ideal S192x192 .bf16) (s : Fin 8) (c : Fin 192) :
    pBlock O zx wp wg (ix4 0 0 s c)
      = if s.val = 0 then ∑ r, zV O zx wp wg r c else if s.val = 1 then ∑ r, zV O zx wp wg r c * zV O zx wp wg r c else 0 := by
  unfold pBlock k0_pay2
  refine (shapeCast_apply _ shapeCasts_S8x192_S1x1x8x192 (ix4 0 0 s c) (ix2 s c) (by simp [Shape.rowMajor_val_two, Shape.rowMajor_val_four])).trans ?_
  refine (stack_at _ _ _ concatenates_S1x192_S1x192_S6x192_S8x192_d0 s c 0 fun y => Ideal.ofBits_zero_f32).trans ?_
  refine congrArg₂ (fun a b => if s.val = 0 then a else if s.val = 1 then b else 0) ?_ ?_
  · exact halves_at _ _ _ c Ideal.ofBits_zero_f32 (fun r => zV O zx wp wg r c)
      (fun r => gate_at O zx wp wg 0 (by decide) _ _ _ _ r c) (fun r => gate_at O zx wp wg 448 (by decide) _ _ _ _ r c)
  · exact halves_at _ _ _ c Ideal.ofBits_zero_f32 (fun r => zV O zx wp wg r c * zV O zx wp wg r c)
      (fun r => congrArg₂ (· * ·) (gate_at O zx wp wg 0 (by decide) _ _ _ _ r c) (gate_at O zx wp wg 0 (by decide) _ _ _ _ r c))
      (fun r => congrArg₂ (· * ·) (gate_at O zx wp wg 448 (by decide) _ _ _ _ r c) (gate_at O zx wp wg 448 (by decide) _ _ _ _ r c))

/-! ## The attention output -/

/-- Row `r` of the grid point's attention output at feature `c`, of its query row and the windows its words name. -/
theorem OB_row (Q : Vec Ideal S1x1x896x192 .bf16) (K : Nat → Vec Ideal S1x128x192 .bf16)
    (hq : ∀ r d, Fin' (Q (ix4 0 0 r d))) (hk : ∀ n (i : Fin 128) d, i.val < 64 → Fin' (K n (ix3 0 i d))) (r : Fin 896) (c : Fin 192) :
    OB Q K (ix2 r c) = att (fun d => Q (ix4 0 0 r d)) (fun j d => K (4 * (r.val / 64) + (blk j).val) (ix3 0 (lo j) d))
      (fun j d => K (4 * (r.val / 64) + (blk j).val) (ix3 0 (hi j) d)) c := by
  have hr := r.isLt
  have hQ : ∀ (i : Fin 64) d, qAt Q (64 * (r.val / 64)) (ix4 0 0 i d) = Q (ix4 0 0 (⟨(64 * (r.val / 64) + i.val) % 896, Nat.mod_lt _ (by decide)⟩ : Fin 896) d) := fun i d =>
    congrArg Q (funext fun a => match a with
      | ⟨0, _⟩ => rfl
      | ⟨1, _⟩ => rfl
      | ⟨2, _⟩ => rfl
      | ⟨3, _⟩ => rfl)
  have e : OB Q K (ix2 r c) = winAt Q K (r.val / 64) (ix2 ⟨r.val % 64, Nat.mod_lt _ (by decide)⟩ c) :=
    congrArg (winAt Q K (r.val / 64)) (funext fun a => match a with
      | ⟨0, _⟩ => rfl
      | ⟨1, _⟩ => rfl)
  rw [e]
  refine (winT_at (qAt Q (64 * (r.val / 64))) (fun k => K (4 * (r.val / 64) + k.val)) (fun i d => ?_) (fun k i d hi => hk _ i d hi) _ c).trans ?_
  · rw [hQ]; exact hq _ d
  · refine congrArg (fun q => att q _ _ c) (funext fun d => ?_)
    rw [hQ]
    exact congrArg (fun r => Q (ix4 0 0 r d)) (Fin.ext (by show (64 * (r.val / 64) + r.val % 64) % 896 = r.val; omega))

end Cert.KernelIdeal.Gen
-- ==== Proof.RefKeys.lean ====
/- The reference's gather, at an index: for routing words inside [0, 784) the wrap of negative words and the range mask
   change nothing, so routed window k of window n is the window the word names. -/
module

public import proofs.«01_k».proof.Proof.Arith
public import proofs.«01_k».proof.Proof.Gen.ReferenceIdeal.Read
public import Idealize.ShloMosaic.Lib.ReduceAll
public import Idealize.ShloMosaic.Lib.WordCmp

@[expose] public section

noncomputable section

namespace Cert.ReferenceIdeal.Read

open Cert.ReferenceIdeal Cert.ReferenceIdeal.Gen Idealize.ShloMosaic Idealize.ShloMosaic.TcCoe Idealize.ShloMosaic.ValueIdx Cert.Attn

/-- Two rank-4 indices with the same coordinates are equal. -/
theorem idx4_ext {n0 n1 n2 n3 : Nat} {i j : (⟨4, ![n0, n1, n2, n3]⟩ : Shape).Idx} (h0 : (i 0).val = (j 0).val) (h1 : (i 1).val = (j 1).val)
    (h2 : (i 2).val = (j 2).val) (h3 : (i 3).val = (j 3).val) : i = j :=
  funext fun a => Fin.ext (match a with | ⟨0, _⟩ => h0 | ⟨1, _⟩ => h1 | ⟨2, _⟩ => h2 | ⟨3, _⟩ => h3)

/-- Two rank-5 indices with the same coordinates are equal. -/
theorem idx5_ext {n0 n1 n2 n3 n4 : Nat} {i j : (⟨5, ![n0, n1, n2, n3, n4]⟩ : Shape).Idx} (h0 : (i 0).val = (j 0).val) (h1 : (i 1).val = (j 1).val)
    (h2 : (i 2).val = (j 2).val) (h3 : (i 3).val = (j 3).val) (h4 : (i 4).val = (j 4).val) : i = j :=
  funext fun a => Fin.ext (match a with | ⟨0, _⟩ => h0 | ⟨1, _⟩ => h1 | ⟨2, _⟩ => h2 | ⟨3, _⟩ => h3 | ⟨4, _⟩ => h4)

/-- A word below 784 is not negative, so the wrap of negative words leaves it. -/
theorem wrap_id (v : BitVec 32) (hv : v.toNat < 784) : Scalar.select (IntOp.cmpi .slt v 0#32) (IntOp.addi v 784#32) v = v := by
  have e : IntOp.cmpi .slt v 0#32 = 0#1 := by
    show BitVec.ofBool (v.slt 0#32) = 0#1
    have : v.slt 0#32 = false := by
      simp only [BitVec.slt, decide_eq_false_iff_not, BitVec.toInt, BitVec.toNat_ofNat]; omega
    rw [this]; rfl
  rw [e]; rfl

/-- A word below 784 passes the range mask. -/
theorem mask_one (v : BitVec 32) (hv : v.toNat < 784) : IntOp.andi (IntOp.cmpi .sge v 0#32) (IntOp.cmpi .sle v 783#32) = 1#1 := by
  have e0 : (0#32).sle v = true := by
    simp only [BitVec.sle, decide_eq_true_eq, BitVec.toInt, BitVec.toNat_ofNat]; omega
  have e1 : v.sle 783#32 = true := by
    simp only [BitVec.sle, decide_eq_true_eq, BitVec.toInt, BitVec.toNat_ofNat]; omega
  show IntOp.andi (BitVec.ofBool ((0#32).sle v)) (BitVec.ofBool (v.sle 783#32)) = 1#1
  rw [e0, e1]; rfl

/-- A word below 784 read as a signed number and clamped into [0, 783] is itself. -/
theorem clamp_id (v : BitVec 32) (hv : v.toNat < 784) : min v.toInt.toNat 783 = v.toNat := by
  have : v.toInt = (v.toNat : Int) := by simp only [BitVec.toInt]; omega
  rw [this, Int.toNat_natCast]; omega

variable (x0 : (⟨S2x784x4, .i32⟩ : BufTy).Contents (Elt Ideal)) (hr : ∀ i, (x0 i : BitVec 32).toNat < 784)

include hr in
/-- The start index of the gather is the routing word. -/
theorem start_at (i : S2x784x4x1.Idx) : val_main_call0_v5 (F := Ideal) x0 i = x0 (idx_main_call0_v5 i) := by
  rw [val_main_call0_v5_apply, val_main_call0_v4_apply, val_main_call0_v1_apply, val_main_call0_v3_apply]
  exact wrap_id _ (hr _)

include hr in
/-- The range mask is true everywhere. -/
theorem inside_at (i : S2x784x4.Idx) : val_main_call0_v12 (F := Ideal) x0 i = 1#1 := by
  unfold val_main_call0_v12
  refine Host.reduce_andi_one _ _ _ _ _ rfl fun i => ?_
  rw [val_main_call0_v11_apply, val_main_call0_v7_apply, val_main_call0_v10_apply, start_at x0 hr]
  exact mask_one _ (hr _)

/-- The window routing word k of window n of batch b names. -/
def word (b : Fin 2) (n : Fin 784) (k : Fin 4) : Fin 784 := ⟨(x0 (ix3 b n k) : BitVec 32).toNat % 784, Nat.mod_lt _ (by omega)⟩

/-- The gather at an index: the window at the clamped start index of the same batch. -/
theorem gather_at {α : Type} (x : S2x784x128x192.Idx → α) (idx : IVec S2x784x4x1 32) (b : Fin 2) (n : Fin 784) (k : Fin 4) (r : Fin 128) (d : Fin 192)
    (w : Fin 784) (hw : min (idx (ix4 b n k 0)).toInt.toNat 783 = w.val) :
    Host.gather gather_S2x784x128x192_S2x784x4x1_S2x784x4x128x192_34_1_0_0_1_3_11128192 x idx (ix5 b n k r d) = x (ix4 b w r d) := by
  have hsi : ∀ h, gather_S2x784x128x192_S2x784x4x1_S2x784x4x128x192_34_1_0_0_1_3_11128192.siIdx (ix5 b n k r d) ⟨0, h⟩ = ix4 b n k 0 :=
    fun h => idx4_ext rfl rfl rfl rfl
  unfold Host.gather
  congr 1
  refine idx4_ext ?_ ?_ ?_ ?_
  · show GatherDims.start _ _ _ _ + GatherDims.batchCoord _ _ _ + GatherDims.offCoord _ _ _ = b.val
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 4) ∈ gather_S2x784x128x192_S2x784x4x1_S2x784x4x128x192_34_1_0_0_1_3_11128192.operandBatchingDims from List.mem_singleton.mpr rfl)]
    exact Nat.zero_add _
  · show GatherDims.start _ _ _ _ + GatherDims.batchCoord _ _ _ + GatherDims.offCoord _ _ _ = w.val
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    unfold GatherDims.start
    rw [dif_pos (show (1 : Fin 4) ∈ gather_S2x784x128x192_S2x784x4x1_S2x784x4x128x192_34_1_0_0_1_3_11128192.startIndexMap from List.mem_singleton.mpr rfl)]
    refine Eq.trans ?_ hw
    rw [← hsi Nat.one_pos]
    rfl
  · show GatherDims.start _ _ _ _ + GatherDims.batchCoord _ _ _ + GatherDims.offCoord _ _ _ = r.val
    rw [GatherDims.batchCoord_eq_zero _ _ _ (fun h => absurd (List.mem_singleton.mp h) (by decide))]
    unfold GatherDims.start
    rw [dif_neg (show (2 : Fin 4) ∉ gather_S2x784x128x192_S2x784x4x1_S2x784x4x128x192_34_1_0_0_1_3_11128192.startIndexMap from fun h => absurd (List.mem_singleton.mp h) (by decide))]
    exact (Nat.zero_add _).trans rfl
  · show GatherDims.start _ _ _ _ + GatherDims.batchCoord _ _ _ + GatherDims.offCoord _ _ _ = d.val
    rw [GatherDims.batchCoord_eq_zero _ _ _ (fun h => absurd (List.mem_singleton.mp h) (by decide))]
    unfold GatherDims.start
    rw [dif_neg (show (3 : Fin 4) ∉ gather_S2x784x128x192_S2x784x4x1_S2x784x4x128x192_34_1_0_0_1_3_11128192.startIndexMap from fun h => absurd (List.mem_singleton.mp h) (by decide))]
    exact (Nat.zero_add _).trans rfl

variable (x1 : (⟨S2x56x896x192, .bf16⟩ : BufTy).Contents (Elt Ideal)) (x3 : (⟨S2x784x128x192, .bf16⟩ : BufTy).Contents (Elt Ideal))

include hr in
/-- The gathered windows: routed window k of window n of batch b is the window its word names. -/
theorem gathered_at (b : Fin 2) (n : Fin 784) (k : Fin 4) (r : Fin 128) (d : Fin 192) :
    val_main_v3 (F := Ideal) x0 x3 (ix5 b n k r d) = x3 (ix4 b (word x0 b n k) r d) := by
  rw [val_main_v3_apply, val_main_call0_v14_apply, inside_at x0 hr]
  show val_main_call0_v13 (F := Ideal) x0 x3 (ix5 b n k r d) = _
  unfold val_main_call0_v13
  refine (gather_at _ _ b n k r d (word x0 b n k) ?_).trans rfl
  rw [start_at x0 hr]
  have e : idx_main_call0_v5 (ix4 b n k 0) = ix3 b n k := funext fun a => match a with | ⟨0, _⟩ => rfl | ⟨1, _⟩ => rfl | ⟨2, _⟩ => rfl
  rw [e, clamp_id _ (hr _)]
  exact (Nat.mod_eq_of_lt (hr _)).symm

include hr in
/-- Key `j` of a window, at head `h` and feature `e`: row `j % 64` of its routed window `j / 64`. -/
theorem key_at (b : Fin 2) (n : Fin 784) (j : Fin 256) (h : Fin 4) (e : Fin 48) :
    val_main_v5 (F := Ideal) x0 x3 (ix5 b n j h e) = x3 (ix4 b (word x0 b n (blk j)) (lo j) (col h e)) := by
  have hj := j.isLt; have hh := h.isLt; have he := e.isLt; have hn := n.isLt; have hb := b.isLt
  rw [val_main_v5_apply, val_main_v4_apply, ← gathered_at x0 hr x3]
  refine congrArg _ (idx5_ext ?_ ?_ ?_ ?_ ?_)
  · show ((((b.val * 784 + n.val) * 256 + j.val) * 4 + h.val) * 48 + e.val) / 38535168 = b.val
    omega
  · show ((((b.val * 784 + n.val) * 256 + j.val) * 4 + h.val) * 48 + e.val) / 49152 % 784 = n.val
    omega
  · show ((((b.val * 784 + n.val) * 256 + j.val) * 4 + h.val) * 48 + e.val) / 12288 % 4 = j.val / 64
    omega
  · show ((((b.val * 784 + n.val) * 256 + j.val) * 4 + h.val) * 48 + e.val) / 192 % 64 = j.val % 64
    omega
  · show ((((b.val * 784 + n.val) * 256 + j.val) * 4 + h.val) * 48 + e.val) % 192 = 48 * h.val + e.val
    omega

include hr in
/-- Value `j` of a window, at head `h` and feature `e`: row `64 + j % 64` of its routed window `j / 64`. -/
theorem value_at (b : Fin 2) (n : Fin 784) (j : Fin 256) (h : Fin 4) (e : Fin 48) :
    val_main_v7 (F := Ideal) x0 x3 (ix5 b n j h e) = x3 (ix4 b (word x0 b n (blk j)) (hi j) (col h e)) := by
  have hj := j.isLt; have hh := h.isLt; have he := e.isLt; have hn := n.isLt; have hb := b.isLt
  rw [val_main_v7_apply, val_main_v6_apply, ← gathered_at x0 hr x3]
  refine congrArg _ (idx5_ext ?_ ?_ ?_ ?_ ?_)
  · show ((((b.val * 784 + n.val) * 256 + j.val) * 4 + h.val) * 48 + e.val) / 38535168 = b.val
    omega
  · show ((((b.val * 784 + n.val) * 256 + j.val) * 4 + h.val) * 48 + e.val) / 49152 % 784 = n.val
    omega
  · show ((((b.val * 784 + n.val) * 256 + j.val) * 4 + h.val) * 48 + e.val) / 12288 % 4 = j.val / 64
    omega
  · show 64 + ((((b.val * 784 + n.val) * 256 + j.val) * 4 + h.val) * 48 + e.val) / 192 % 64 = 64 + j.val % 64
    omega
  · show ((((b.val * 784 + n.val) * 256 + j.val) * 4 + h.val) * 48 + e.val) % 192 = 48 * h.val + e.val
    omega

/-- Token `i` of window `n` is row `(n % 14) · 64 + i` of its group `n / 14` of 14 windows. -/
def tok (n : Fin 784) (i : Fin 64) : Fin 896 := ⟨n.val % 14 * 64 + i.val, by have := i.isLt; omega⟩
/-- The group of 14 windows window `n` lies in. -/
def grp (n : Fin 784) : Fin 56 := ⟨n.val / 14, by have := n.isLt; omega⟩

/-- Query `i` of a window, at head `h` and feature `e`. -/
theorem query_at (b : Fin 2) (n : Fin 784) (i : Fin 64) (h : Fin 4) (e : Fin 48) :
    val_main_v1 (F := Ideal) x1 (ix5 b n i h e) = x1 (ix4 b (grp n) (tok n i) (col h e)) := by
  have hi := i.isLt; have hh := h.isLt; have he := e.isLt; have hn := n.isLt; have hb := b.isLt
  rw [val_main_v1_apply, val_main_v0_apply]
  show x1 _ = _
  refine congrArg _ (idx4_ext ?_ ?_ ?_ ?_)
  · show ((((b.val * 784 + n.val) * 64 + i.val) * 4 + h.val) * 48 + e.val) / 9633792 = b.val
    omega
  · show ((((b.val * 784 + n.val) * 64 + i.val) * 4 + h.val) * 48 + e.val) / 172032 % 56 = n.val / 14
    omega
  · show ((((b.val * 784 + n.val) * 64 + i.val) * 4 + h.val) * 48 + e.val) / 192 % 896 = n.val % 14 * 64 + i.val
    omega
  · show ((((b.val * 784 + n.val) * 64 + i.val) * 4 + h.val) * 48 + e.val) % 192 = 48 * h.val + e.val
    omega

end Cert.ReferenceIdeal.Read
-- ==== Proof.RefAtt.lean ====
/- The reference at an index: attention of one query row over its 256 routed keys, and the projected rows, the gate's
   pre-activations and the per-group sums as sums over that attention output. -/
module

public import proofs.«01_k».proof.Proof.RefKeys

@[expose] public section

noncomputable section

namespace Cert.ReferenceIdeal.Read

open Cert.ReferenceIdeal Cert.ReferenceIdeal.Gen Idealize.ShloMosaic Idealize.ShloMosaic.TcCoe Idealize.ShloMosaic.ValueIdx Cert.Attn

variable (x0 : (⟨S2x784x4, .i32⟩ : BufTy).Contents (Elt Ideal)) (hr : ∀ i, (x0 i : BitVec 32).toNat < 784)
variable (x1 : (⟨S2x56x896x192, .bf16⟩ : BufTy).Contents (Elt Ideal)) (x3 : (⟨S2x784x128x192, .bf16⟩ : BufTy).Contents (Elt Ideal))

/-- Query row `i` of window `n`. -/
def qRow (b : Fin 2) (n : Fin 784) (i : Fin 64) : Fin 192 → EReal := fun d => x1 (ix4 b (grp n) (tok n i) d)
/-- Key `j` of window `n`. -/
def kRow (b : Fin 2) (n : Fin 784) (j : Fin 256) : Fin 192 → EReal := fun d => x3 (ix4 b (word x0 b n (blk j)) (lo j) d)
/-- Value `j` of window `n`. -/
def vRow (b : Fin 2) (n : Fin 784) (j : Fin 256) : Fin 192 → EReal := fun d => x3 (ix4 b (word x0 b n (blk j)) (hi j) d)

include hr in
/-- The scaled score of query `i` against key `j` in head `h`. -/
theorem score_at (b : Fin 2) (n : Fin 784) (h : Fin 4) (i : Fin 64) (j : Fin 256) :
    val_main_v10 (F := Ideal) x0 x1 x3 (ix5 b n h i j) = score (qRow x1 b n i) (kRow x0 x3 b n j) h := by
  rw [val_main_v10_apply, val_main_v8_apply]
  have e1 : ∀ k, lidx_main_v8 (ix5 b n h i j) k = ix5 b n i h k := fun k => idx5_ext rfl rfl rfl rfl rfl
  have e2 : ∀ k, ridx_main_v8 (ix5 b n h i j) k = ix5 b n j h k := fun k => idx5_ext rfl rfl rfl rfl rfl
  show (∑ k, _) * scale = (∑ k, _) * scale
  refine congrArg (· * scale) (Finset.sum_congr rfl fun k _ => ?_)
  rw [e1, e2, query_at, key_at x0 hr]
  rfl

variable (hq : ∀ i, Fin' (x1 i)) (hk : ∀ b n (i : Fin 128) d, i.val < 64 → Fin' (x3 (ix4 b n i d)))

include hr hq hk in
/-- The shift of the softmax is a finite number. -/
theorem shift_fin (b : Fin 2) (n : Fin 784) (h : Fin 4) (i : Fin 64) : Fin' (val_main_v13 (F := Ideal) x0 x1 x3 (ix4 b n h i)) := by
  rw [val_main_v13_apply, val_main_v12_apply]
  unfold val_main_v11
  have R : S2x784x4x64x256.Reduces [4] S2x784x4x64 := by decide
  have e := Host.reduce_eq_fold_single (FloatOps.maximumf (F := Ideal) (φ := .f32)) (val_main_v10 (F := Ideal) x0 x1 x3) (val_main_cst_0 (F := Ideal))
    reducesTo_S2x784x4x64x256_S2x784x4x64_d4 R h_S_ (ix4 b n h i)
  have hl : ∀ j, R.lift (ix4 b n h i) j = ix5 b n h i j := fun j => idx5_ext rfl rfl rfl rfl rfl
  have ef : val_main_v10 (F := Ideal) x0 x1 x3 ∘ R.lift (ix4 b n h i) = fun j : Fin 256 => score (qRow x1 b n i) (kRow x0 x3 b n j) h :=
    funext fun j => (congrArg (val_main_v10 (F := Ideal) x0 x1 x3) (hl j)).trans (score_at x0 hr x1 x3 b n h i j)
  rw [ef] at e
  rw [e]
  have hbot : (Ideal.ofBits .f32 0xFF800000#32 : EReal) = ⊥ := by simp [Ideal.ofBits, Ideal.ieee]
  have := fold_max_fin (fun j => score (qRow x1 b n i) (kRow x0 x3 b n j) h)
    fun j => score_fin _ _ (fun d => hq _) (fun d => hk _ _ _ _ (Nat.mod_lt _ (by omega))) h
  rw [← hbot] at this
  exact this

include hr hq hk in
/-- One element of the reference's attention output. -/
theorem att_at (b : Fin 2) (n : Fin 784) (i : Fin 64) (c : Fin 192) :
    val_main_v24 (F := Ideal) x0 x1 x3 (ix4 b n i c) = att (qRow x1 b n i) (kRow x0 x3 b n) (vRow x0 x3 b n) c := by
  have hc := c.isLt; have hi' := i.isLt; have hn := n.isLt; have hb := b.isLt
  have ei : idx_main_v23 (idx_main_v24 (ix4 b n i c)) = ix5 b n (headOf c) ⟨c.val % 48, Nat.mod_lt _ (by omega)⟩ i := by
    refine idx5_ext ?_ ?_ ?_ ?_ ?_
    · show (((b.val * 784 + n.val) * 64 + i.val) * 192 + c.val) / 9633792 = b.val
      omega
    · show (((b.val * 784 + n.val) * 64 + i.val) * 192 + c.val) / 12288 % 784 = n.val
      omega
    · show (((b.val * 784 + n.val) * 64 + i.val) * 192 + c.val) / 48 % 4 = c.val / 48
      omega
    · show (((b.val * 784 + n.val) * 64 + i.val) * 192 + c.val) % 48 = c.val % 48
      omega
    · show (((b.val * 784 + n.val) * 64 + i.val) * 192 + c.val) / 192 % 64 = i.val
      omega
  rw [val_main_v24_apply, val_main_v23_apply, ei, val_main_v22_apply,
    ← att_shifted (qRow x1 b n i) (kRow x0 x3 b n) (vRow x0 x3 b n) (fun d => hq _) (fun j d => hk _ _ _ _ (Nat.mod_lt _ (by omega))) c _ (shift_fin x0 hr x1 x3 hq hk b n (headOf c) i)]
  refine Finset.sum_congr rfl fun j _ => ?_
  have e1 : lidx_main_v22 (ix5 b n (headOf c) ⟨c.val % 48, Nat.mod_lt _ (by omega)⟩ i) j = ix5 b n j (headOf c) ⟨c.val % 48, Nat.mod_lt _ (by omega)⟩ :=
    idx5_ext rfl rfl rfl rfl rfl
  have e2 : ridx_main_v22 (ix5 b n (headOf c) ⟨c.val % 48, Nat.mod_lt _ (by omega)⟩ i) j = ix5 b n (headOf c) i j := idx5_ext rfl rfl rfl rfl rfl
  have ec : col (headOf c) ⟨c.val % 48, Nat.mod_lt _ (by omega)⟩ = c := Fin.ext (by show 48 * (c.val / 48) + c.val % 48 = c.val; omega)
  have e3 : ∀ j, val_main_v17 (F := Ideal) x0 x1 x3 (ix5 b n (headOf c) i j)
      = Ideal.exp (score (qRow x1 b n i) (kRow x0 x3 b n j) (headOf c) - val_main_v13 (F := Ideal) x0 x1 x3 (ix4 b n (headOf c) i)) := fun j => by
    rw [val_main_v17_apply, val_main_v16_apply, val_main_v15_apply, val_main_v14_apply, score_at x0 hr]
    have : idx_main_v14 (idx_main_v15 (ix5 b n (headOf c) i j)) = ix4 b n (headOf c) i := idx4_ext rfl rfl rfl rfl
    rw [this]; rfl
  rw [e1, e2, value_at x0 hr, ec, val_main_v21_apply, e3, val_main_v20_apply, val_main_v19_apply, val_main_v18_apply]
  have e4 : ∀ k, idx_main_v18 (idx_main_v19 (idx_main_v20 (ix5 b n (headOf c) i j))) k = ix5 b n (headOf c) i k := fun k => idx5_ext rfl rfl rfl rfl rfl
  simp only [e4, e3]
  have e0 : val_main_cst_2 (F := Ideal) (Shape.Idx.first h_S_) = (0 : EReal) := Ideal.ofBits_zero_f32
  rw [e0]
  rfl

end Cert.ReferenceIdeal.Read
-- ==== Proof.RefRows.lean ====
/- The reference's three results at an index: the projected rows, the gate's pre-activations and, per group of 14 windows,
   the sums over the rows of the pre-activations and of their squares. -/
module

public import proofs.«01_k».proof.Proof.RefAtt

@[expose] public section

noncomputable section

namespace Cert.ReferenceIdeal.Read

open Cert.ReferenceIdeal Cert.ReferenceIdeal.Gen Idealize.ShloMosaic Idealize.ShloMosaic.TcCoe Idealize.ShloMosaic.ValueIdx Cert.Attn

variable (x0 : (⟨S2x784x4, .i32⟩ : BufTy).Contents (Elt Ideal)) (hr : ∀ i, (x0 i : BitVec 32).toNat < 784)
variable (x1 x2 : (⟨S2x56x896x192, .bf16⟩ : BufTy).Contents (Elt Ideal)) (x3 : (⟨S2x784x128x192, .bf16⟩ : BufTy).Contents (Elt Ideal))
variable (x4 x5 : (⟨S192x192, .bf16⟩ : BufTy).Contents (Elt Ideal))

/-- The window row `r` of group `g` lies in. -/
def win (g : Fin 56) (r : Fin 896) : Fin 784 := ⟨14 * g.val + r.val / 64, by have := g.isLt; have := r.isLt; omega⟩
/-- The token of its window row `r` of a group is. -/
def pos (r : Fin 896) : Fin 64 := ⟨r.val % 64, by omega⟩

theorem grp_win (g : Fin 56) (r : Fin 896) : grp (win g r) = g :=
  Fin.ext (by have := g.isLt; have := r.isLt; show (14 * g.val + r.val / 64) / 14 = g.val; omega)
theorem tok_win (g : Fin 56) (r : Fin 896) : tok (win g r) (pos r) = r :=
  Fin.ext (by have := g.isLt; have := r.isLt; show (14 * g.val + r.val / 64) % 14 * 64 + r.val % 64 = r.val; omega)

/-- The attention output at row `r` of group `g` of batch `b`. -/
def aRow (b : Fin 2) (g : Fin 56) (r : Fin 896) (c : Fin 192) : EReal :=
  att (fun d => x1 (ix4 b g r d)) (kRow x0 x3 b (win g r)) (vRow x0 x3 b (win g r)) c
/-- The projected attention output at that row. -/
def yRow (b : Fin 2) (g : Fin 56) (r : Fin 896) (c : Fin 192) : EReal := ∑ d : Fin 192, aRow x0 x1 x3 b g r d * x4 (ix2 d c)
/-- The gate's pre-activation at that row. -/
def zRow (b : Fin 2) (g : Fin 56) (r : Fin 896) (c : Fin 192) : EReal :=
  x2 (ix4 b g r c) + ∑ d : Fin 192, yRow x0 x1 x3 x4 b g r d * x5 (ix2 d c)

/-- Row `r` of group `g` in the flat order of rows is token `pos r` of window `win g r`. -/
theorem row_idx (b : Fin 2) (g : Fin 56) (r : Fin 896) (c : Fin 192) : idx_main_v41 (ix4 b g r c) = ix4 b (win g r) (pos r) c := by
  have hc := c.isLt; have hr := r.isLt; have hg := g.isLt; have hb := b.isLt
  refine idx4_ext ?_ ?_ ?_ ?_
  · show (((b.val * 56 + g.val) * 896 + r.val) * 192 + c.val) / 9633792 = b.val
    omega
  · show (((b.val * 56 + g.val) * 896 + r.val) * 192 + c.val) / 12288 % 784 = 14 * g.val + r.val / 64
    omega
  · show (((b.val * 56 + g.val) * 896 + r.val) * 192 + c.val) / 192 % 64 = r.val % 64
    omega
  · show (((b.val * 56 + g.val) * 896 + r.val) * 192 + c.val) % 192 = c.val
    omega

/-- The pass-through operand of the gate in the order of windows and tokens. -/
theorem zx_at (b : Fin 2) (g : Fin 56) (r : Fin 896) (c : Fin 192) :
    val_main_v28 (F := Ideal) x2 (ix4 b (win g r) (pos r) c) = x2 (ix4 b g r c) := by
  have hc := c.isLt; have hr := r.isLt; have hg := g.isLt; have hb := b.isLt
  rw [val_main_v28_apply, val_main_v27_apply]
  show x2 _ = _
  refine congrArg x2 (idx4_ext ?_ ?_ ?_ ?_)
  · show (((b.val * 784 + (14 * g.val + r.val / 64)) * 64 + r.val % 64) * 192 + c.val) / 9633792 = b.val
    omega
  · show (((b.val * 784 + (14 * g.val + r.val / 64)) * 64 + r.val % 64) * 192 + c.val) / 172032 % 56 = g.val
    omega
  · show (((b.val * 784 + (14 * g.val + r.val / 64)) * 64 + r.val % 64) * 192 + c.val) / 192 % 896 = r.val
    omega
  · show (((b.val * 784 + (14 * g.val + r.val / 64)) * 64 + r.val % 64) * 192 + c.val) % 192 = c.val
    omega

variable (hq : ∀ i, Fin' (x1 i)) (hk : ∀ b n (i : Fin 128) d, i.val < 64 → Fin' (x3 (ix4 b n i d)))

include hr hq hk in
/-- The projection at a row. -/
theorem proj_row (b : Fin 2) (g : Fin 56) (r : Fin 896) (c : Fin 192) :
    val_main_v26 (F := Ideal) x0 x1 x3 x4 (ix4 b (win g r) (pos r) c) = yRow x0 x1 x3 x4 b g r c := by
  rw [val_main_v26_apply]
  refine Finset.sum_congr rfl fun d _ => ?_
  have e1 : lidx_main_v26 (ix4 b (win g r) (pos r) c) d = ix4 b (win g r) (pos r) d := idx4_ext rfl rfl rfl rfl
  have e2 : ridx_main_v26 (ix4 b (win g r) (pos r) c) d = ix2 d c := funext fun a => match a with | ⟨0, _⟩ => rfl | ⟨1, _⟩ => rfl
  have e3 : qRow x1 b (win g r) (pos r) = fun d => x1 (ix4 b g r d) := by unfold qRow; rw [grp_win, tok_win]
  rw [e1, e2, att_at x0 hr x1 x3 hq hk, e3, val_main_v25_apply]
  rfl

include hr hq hk in
/-- The gate's pre-activation at a row. -/
theorem gate_row (b : Fin 2) (g : Fin 56) (r : Fin 896) (c : Fin 192) :
    val_main_v31 (F := Ideal) x0 x1 x2 x3 x4 x5 (ix4 b (win g r) (pos r) c) = zRow x0 x1 x2 x3 x4 x5 b g r c := by
  rw [val_main_v31_apply, zx_at, val_main_v30_apply]
  refine congrArg (x2 (ix4 b g r c) + ·) (Finset.sum_congr rfl fun d _ => ?_)
  have e1 : lidx_main_v30 (ix4 b (win g r) (pos r) c) d = ix4 b (win g r) (pos r) d := idx4_ext rfl rfl rfl rfl
  have e2 : ridx_main_v30 (ix4 b (win g r) (pos r) c) d = ix2 d c := funext fun a => match a with | ⟨0, _⟩ => rfl | ⟨1, _⟩ => rfl
  rw [e1, e2, proj_row x0 hr x1 x3 x4 hq hk, val_main_v29_apply]
  rfl

include hr hq hk in
/-- The first result of the reference: the projected attention output. -/
theorem y_at (b : Fin 2) (g : Fin 56) (r : Fin 896) (c : Fin 192) :
    val_main_v42 (F := Ideal) x0 x1 x3 x4 (ix4 b g r c) = yRow x0 x1 x3 x4 b g r c := by
  rw [val_main_v42_apply, val_main_v41_apply, row_idx]
  exact proj_row x0 hr x1 x3 x4 hq hk b g r c

include hr hq hk in
/-- The second result of the reference: the gate's pre-activations. -/
theorem z_at (b : Fin 2) (g : Fin 56) (r : Fin 896) (c : Fin 192) :
    val_main_v44 (F := Ideal) x0 x1 x2 x3 x4 x5 (ix4 b g r c) = zRow x0 x1 x2 x3 x4 x5 b g r c := by
  rw [val_main_v44_apply, val_main_v43_apply, show idx_main_v43 (ix4 b g r c) = _ from row_idx b g r c]
  exact gate_row x0 hr x1 x2 x3 x4 x5 hq hk b g r c

include hr hq hk in
/-- The sum of the pre-activations over the rows of a group. -/
theorem sum_at (b : Fin 2) (g : Fin 56) (c : Fin 192) :
    val_main_v34 (F := Ideal) x0 x1 x2 x3 x4 x5 (ix4 b g 0 c) = ∑ r : Fin 896, zRow x0 x1 x2 x3 x4 x5 b g r c := by
  rw [val_main_v34_apply, val_main_v33_apply]
  have e0 : val_main_cst_3 (F := Ideal) (Shape.Idx.first h_S_) = (0 : EReal) := Ideal.ofBits_zero_f32
  rw [e0, zero_add]
  refine Finset.sum_congr rfl fun r _ => ?_
  have e1 : idx_main_v33 (idx_main_v34 (ix4 b g 0 c)) r = ix4 b g r c := idx4_ext rfl rfl rfl rfl
  rw [e1, val_main_v32_apply, show idx_main_v32 (ix4 b g r c) = _ from row_idx b g r c]
  exact gate_row x0 hr x1 x2 x3 x4 x5 hq hk b g r c

include hr hq hk in
/-- The sum of the squared pre-activations over the rows of a group. -/
theorem sumsq_at (b : Fin 2) (g : Fin 56) (c : Fin 192) :
    val_main_v38 (F := Ideal) x0 x1 x2 x3 x4 x5 (ix4 b g 0 c)
      = ∑ r : Fin 896, zRow x0 x1 x2 x3 x4 x5 b g r c * zRow x0 x1 x2 x3 x4 x5 b g r c := by
  rw [val_main_v38_apply, val_main_v37_apply]
  have e0 : val_main_cst_4 (F := Ideal) (Shape.Idx.first h_S_) = (0 : EReal) := Ideal.ofBits_zero_f32
  rw [e0, zero_add]
  refine Finset.sum_congr rfl fun r _ => ?_
  have e1 : idx_main_v37 (idx_main_v38 (ix4 b g 0 c)) r = ix4 b g r c := idx4_ext rfl rfl rfl rfl
  rw [e1, val_main_v36_apply, show idx_main_v36 (ix4 b g r c) = _ from row_idx b g r c, val_main_v35_apply,
    gate_row x0 hr x1 x2 x3 x4 x5 hq hk]
  rfl

/-- Two arrays of one row per group and one of six rows of the same value, stacked along the rows, at an index. -/
theorem stack8_at {α : Type} (u v : S2x56x1x192.Idx → α) (z : S2x56x6x192.Idx → α)
    (H)
    (b : Fin 2) (g : Fin 56) (s : Fin 8) (c : Fin 192) (w : α) (hz : ∀ i, z i = w) :
    concatenate S2x56x8x192 2 [⟨S2x56x1x192, u⟩, ⟨S2x56x1x192, v⟩, ⟨S2x56x6x192, z⟩] H (ix4 b g s c)
      = if s.val = 0 then u (ix4 b g 0 c) else if s.val = 1 then v (ix4 b g 0 c) else w := by
  have hs := s.isLt
  split
  · rename_i h0
    exact concatenate_apply_piece 2 _ H _ 0 (by simp) S2x56x1x192 u rfl rfl 0 rfl (ix4 b g 0 c)
      (fun a ha => match a with | ⟨0, _⟩ => rfl | ⟨1, _⟩ => rfl | ⟨2, _⟩ => absurd rfl ha | ⟨3, _⟩ => rfl) h0.symm
  · split
    · rename_i _ h1
      exact concatenate_apply_piece 2 _ H _ 1 (by simp) S2x56x1x192 v rfl rfl 1 rfl (ix4 b g 0 c)
        (fun a ha => match a with | ⟨0, _⟩ => rfl | ⟨1, _⟩ => rfl | ⟨2, _⟩ => absurd rfl ha | ⟨3, _⟩ => rfl) h1.symm
    · refine (concatenate_apply_piece 2 _ H _ 2 (by simp) S2x56x6x192 z rfl rfl 2 rfl (ix4 b g ⟨s.val - 2, by omega⟩ c)
        (fun a ha => match a with | ⟨0, _⟩ => rfl | ⟨1, _⟩ => rfl | ⟨2, _⟩ => absurd rfl ha | ⟨3, _⟩ => rfl)
        (by show 2 + (s.val - 2) = s.val; omega)).trans (hz _)

include hr hq hk in
/-- The third result of the reference: per group, row 0 sums the pre-activations, row 1 their squares, the other rows are 0. -/
theorem ps_at (b : Fin 2) (g : Fin 56) (s : Fin 8) (c : Fin 192) :
    val_main_v40 (F := Ideal) x0 x1 x2 x3 x4 x5 (ix4 b g s c)
      = if s.val = 0 then ∑ r : Fin 896, zRow x0 x1 x2 x3 x4 x5 b g r c
        else if s.val = 1 then ∑ r : Fin 896, zRow x0 x1 x2 x3 x4 x5 b g r c * zRow x0 x1 x2 x3 x4 x5 b g r c else (0 : EReal) := by
  unfold val_main_v40
  rw [stack8_at _ _ _ _ b g s c (0 : EReal) (fun i => (val_main_v39_apply (F := Ideal) i).trans ((val_main_cst_5_apply _).trans Ideal.ofBits_zero_f32)),
    sum_at x0 hr x1 x2 x3 x4 x5 hq hk, sumsq_at x0 hr x1 x2 x3 x4 x5 hq hk]

end Cert.ReferenceIdeal.Read
-- ==== Proof.Final.lean ====
/- The attention kernel's three results at the ideal values, as functions of its arguments: the same sums the reference's
   results are. -/
module

public import proofs.«01_k».proof.Proof.Reads
public import proofs.«01_k».proof.Proof.Rows
public import proofs.«01_k».proof.Proof.RefRows
public import proofs.«01_k».proof.Proof.Gen.KernelIdeal.Value

@[expose] public section

set_option maxRecDepth 16384

noncomputable section

namespace Cert.KernelIdeal.Gen

open Cert.KernelIdeal
open Idealize.ShloMosaic hiding ix2 ix3 ix4
open Idealize.ShloMosaic.TcCoe Idealize.ShloMosaic.ValueIdx Cert.Attn Cert.ReferenceIdeal.Read

variable (m : (ℓ : Loc nD τ sig) → Buf (Elt Ideal) ℓ)

/-- The arguments of the kernel on one core. -/
abbrev a0 (c : Dev nD) : IVec S2x784x4 32 := m ((c.tc : Thread nD τ).loc main_arg0)
abbrev a1 (c : Dev nD) : Vec Ideal S2x56x896x192 .bf16 := m ((c.tc : Thread nD τ).loc main_arg1)
abbrev a2 (c : Dev nD) : Vec Ideal S2x56x896x192 .bf16 := m ((c.tc : Thread nD τ).loc main_arg2)
abbrev a3 (c : Dev nD) : Vec Ideal S2x784x128x192 .bf16 := m ((c.tc : Thread nD τ).loc main_arg3)
abbrev a4 (c : Dev nD) : Vec Ideal S192x192 .bf16 := m ((c.tc : Thread nD τ).loc main_arg4)
abbrev a5 (c : Dev nD) : Vec Ideal S192x192 .bf16 := m ((c.tc : Thread nD τ).loc main_arg5)

/-- The routing words a grid point reads: word `4 w + k` is word `k` of window `14 g + w`. -/
theorem route_at (c : Dev nD) (t : Fin cfg0.N) (r : Fin 896) (k : Fin 4) :
    rAt (iblk m c 0 t) (4 * (r.val / 64) + k.val) = a0 m c (ix3 (bOf t) (win (gOf t) r) k) := by
  have ht : t.val < 112 := t.isLt
  have hr := r.isLt; have hk := k.isLt
  have e : rAt (iblk m c 0 t) (4 * (r.val / 64) + k.val)
      = (V m c main_v0 : S112x1x56.Idx → BitVec 32) (ix3 (⟨t.val, ht⟩ : Fin 112) (0 : Fin 1) (⟨(4 * (r.val / 64) + k.val) % 56, Nat.mod_lt _ (by decide)⟩ : Fin 56)) := by
    unfold rAt
    blk_ext [iblk, win_idx t]
    rfl
  rw [e, V_main_v0]
  refine shapeCast_apply _ shapeCasts_S2x784x4_S112x1x56 _ (ix3 (bOf t) (win (gOf t) r) k) ?_
  rw [Shape.rowMajor_val_three, Shape.rowMajor_val_three]
  show ((t.val / 56) * 784 + (14 * (t.val % 56) + r.val / 64)) * 4 + k.val = (t.val * 1 + 0) * 56 + (4 * (r.val / 64) + k.val) % 56
  omega

variable (hH : Hyps m) (c : Dev nD) (hq : ∀ i, Fin' (a1 m c i)) (hk : ∀ b n (i : Fin 128) d, i.val < 64 → Fin' (a3 m c (ix4 b n i d)))

/-- The attention output a grid point's scratch holds. -/
def OT (t : Fin cfg0.N) : Vec Ideal S896x192 .bf16 :=
  OB (iblk m c 1 t) fun s => kvAt (kvB m c (bOf t)) (Scalar.indexCast (rAt (iblk m c 0 t) s)).toNat

include hq hk in
/-- The attention output of a grid point is the reference's attention output of its rows. -/
theorem OT_at (t : Fin cfg0.N) (r : Fin 896) (d : Fin 192) :
    OT m c t (ix2 r d) = aRow (a0 m c) (a1 m c) (a3 m c) (bOf t) (gOf t) r d := by
  unfold OT
  rw [OB_row _ _ (fun r d => by rw [iblk1_at]; exact hq _) (fun n i d hi => hk (bOf t) _ i d hi) r d]
  have e1 : (fun d => iblk m c 1 t (ix4 0 0 r d)) = fun d => a1 m c (ix4 (bOf t) (gOf t) r d) := funext fun d => iblk1_at m c t r d
  have e2 : ∀ (j : Fin 256) (i : Fin 128) (d : Fin 192),
      kvAt (kvB m c (bOf t)) (Scalar.indexCast (rAt (iblk m c 0 t) (4 * (r.val / 64) + (blk j).val))).toNat (ix3 0 i d)
        = a3 m c (ix4 (bOf t) (word (a0 m c) (bOf t) (win (gOf t) r) (blk j)) i d) := fun j i d => by
    rw [route_at]; rfl
  unfold aRow kRow vRow
  simp only [e2]
  rw [e1]

include hq hk in
/-- The projected rows of a grid point. -/
theorem yV_at (t : Fin cfg0.N) (r : Fin 896) (e : Fin 192) :
    yV (OT m c t) (iblk m c 3 t) r e = yRow (a0 m c) (a1 m c) (a3 m c) (a4 m c) (bOf t) (gOf t) r e :=
  Finset.sum_congr rfl fun d _ => by rw [OT_at m c hq hk, iblk3_at]

include hq hk in
/-- The gate's pre-activations of a grid point. -/
theorem zV_at (t : Fin cfg0.N) (r : Fin 896) (e : Fin 192) :
    zV (OT m c t) (iblk m c 2 t) (iblk m c 3 t) (iblk m c 4 t) r e
      = zRow (a0 m c) (a1 m c) (a2 m c) (a3 m c) (a4 m c) (a5 m c) (bOf t) (gOf t) r e := by
  unfold zV zRow
  rw [iblk2_at]
  exact congrArg (a2 m c (ix4 (bOf t) (gOf t) r e) + ·) (Finset.sum_congr rfl fun d _ => by rw [yV_at m c hq hk, iblk4_at])

/-- What the three result arrays are shown to hold. -/
def Y : Vec Ideal S2x56x896x192 .bf16 := fun i => yRow (a0 m c) (a1 m c) (a3 m c) (a4 m c) (i 0) (i 1) (i 2) (i 3)
def Z : Vec Ideal S2x56x896x192 .bf16 := fun i => zRow (a0 m c) (a1 m c) (a2 m c) (a3 m c) (a4 m c) (a5 m c) (i 0) (i 1) (i 2) (i 3)
def PS : Vec Ideal S2x56x8x192 .f32 := fun i =>
  if (i 2).val = 0 then ∑ r : Fin 896, zRow (a0 m c) (a1 m c) (a2 m c) (a3 m c) (a4 m c) (a5 m c) (i 0) (i 1) r (i 3)
  else if (i 2).val = 1 then ∑ r : Fin 896, zRow (a0 m c) (a1 m c) (a2 m c) (a3 m c) (a4 m c) (a5 m c) (i 0) (i 1) r (i 3)
    * zRow (a0 m c) (a1 m c) (a2 m c) (a3 m c) (a4 m c) (a5 m c) (i 0) (i 1) r (i 3) else (0 : EReal)

/-- What a grid point leaves, over the attention output its scratch holds. -/
theorem step_eq (t : Fin cfg0.N) : step m (kvB m c (bOf t)) c t
    = (yBlock (OT m c t) (iblk m c 3 t), zBlock (OT m c t) (iblk m c 2 t) (iblk m c 3 t) (iblk m c 4 t),
      pBlock (OT m c t) (iblk m c 2 t) (iblk m c 3 t) (iblk m c 4 t), kvB m c (bOf t)) := by
  unfold step OT
  with_reducible rfl

include hq hk in
/-- What a grid point leaves in its block of the first result, at an index. -/
theorem step_y (t : Fin cfg0.N) (y : S1x1x896x192.Idx) : (step m (kvB m c (bOf t)) c t).1 y = Y m c (ix4 (bOf t) (gOf t) (y 2) (y 3)) := by
  rw [step_eq]
  dsimp only
  rw [yBlock_at]
  refine (yV_at m c hq hk t (y 2) (y 3)).trans ?_
  with_unfolding_all rfl

include hq hk in
/-- What a grid point leaves in its block of the second result, at an index. -/
theorem step_z (t : Fin cfg0.N) (y : S1x1x896x192.Idx) : (step m (kvB m c (bOf t)) c t).2.1 y = Z m c (ix4 (bOf t) (gOf t) (y 2) (y 3)) := by
  rw [step_eq]
  dsimp only
  rw [zBlock_at]
  refine (zV_at m c hq hk t (y 2) (y 3)).trans ?_
  with_unfolding_all rfl

include hq hk in
/-- What a grid point leaves in its block of the third result, at an index. -/
theorem step_p (t : Fin cfg0.N) (y : S1x1x8x192.Idx) : (step m (kvB m c (bOf t)) c t).2.2.1 y = PS m c (ix4 (bOf t) (gOf t) (y 2) (y 3)) := by
  have ey : y = ix4 (0 : Fin 1) (0 : Fin 1) (y 2) (y 3) := idx4_ext
    (by have h : (y 0).val < 1 := (y 0).isLt; show (y 0).val = 0; omega) (by have h : (y 1).val < 1 := (y 1).isLt; show (y 1).val = 0; omega) rfl rfl
  rw [step_eq]
  refine (congrArg _ ey).trans ((pBlock_at (OT m c t) (iblk m c 2 t) (iblk m c 3 t) (iblk m c 4 t) (y 2) (y 3)).trans ?_)
  have ez : ∀ r, zV (OT m c t) (iblk m c 2 t) (iblk m c 3 t) (iblk m c 4 t) r (y 3)
      = zRow (a0 m c) (a1 m c) (a2 m c) (a3 m c) (a4 m c) (a5 m c) (bOf t) (gOf t) r (y 3) := fun r => zV_at m c hq hk t r (y 3)
  refine (congrArg₂ (fun a b => if (y 2).val = 0 then a else if (y 2).val = 1 then b else 0)
    (Finset.sum_congr rfl fun r _ => ez r) (Finset.sum_congr rfl fun r _ => congrArg₂ (· * ·) (ez r) (ez r))).trans ?_
  rfl

include hq hk in
/-- The first result array holds the projected rows. -/
theorem arr5_eq : (dats m hH 0 c).arrAt 5 cfg0.N = Y m c := by
  refine (dats m hH 0 c).arrAt_eq_of_covers 5 _ (by decide +kernel) fun t hf y => ?_
  blk_simp
  rw [after0_5, outs_eq]
  refine (step_y m c hq hk t y).trans (congrArg (Y m c) ?_)
  blk_ext [win_idx t, bOf, gOf]

include hq hk in
/-- The second result array holds the gate's pre-activations. -/
theorem arr6_eq : (dats m hH 0 c).arrAt 6 cfg0.N = Z m c := by
  refine (dats m hH 0 c).arrAt_eq_of_covers 6 _ (by decide +kernel) fun t hf y => ?_
  blk_simp
  rw [after0_6, outs_eq]
  refine (step_z m c hq hk t y).trans (congrArg (Z m c) ?_)
  blk_ext [win_idx t, bOf, gOf]

include hq hk in
/-- The third result array holds the sums of each group. -/
theorem arr7_eq : (dats m hH 0 c).arrAt 7 cfg0.N = PS m c := by
  refine (dats m hH 0 c).arrAt_eq_of_covers 7 _ (by decide +kernel) fun t hf y => ?_
  blk_simp
  rw [after0_7, outs_eq]
  refine (step_p m c hq hk t y).trans (congrArg (PS m c) ?_)
  blk_ext [win_idx t, bOf, gOf]

end Cert.KernelIdeal.Gen

end
-- ==== Proof.Algebraic.lean ====
/- The value claim: the attention kernel and the plain attention compute the same three arrays. -/
module

public import proofs.«01_k».proof.Proof.Final
public import proofs.«01_k».proof.Proof.Frames

@[expose] public section

noncomputable section

namespace Cert.Attn

open Idealize.ShloMosaic hiding ix2 ix3 ix4
open Idealize.ShloMosaic.TcCoe Idealize.ShloMosaic.ValueIdx Idealize.SL.Sem
open Cert.KernelIdeal.Gen (a0 a1 a2 a3 a4 a5 Y Z PS)

variable (m : (ℓ : Loc Cert.KernelIdeal.nD Cert.KernelIdeal.τ Cert.KernelIdeal.sig) → Buf (Elt Ideal) ℓ)
  (h : Cert.Pre_KernelIdeal_in_range_finite m) (c : Dev Cert.KernelIdeal.nD)

include h in
/-- Under the precondition every routing word is below 784. -/
theorem words_lt (i) : (a0 m c i : BitVec 32).toNat < 784 := (of_in_range_finite _ _ _ _ _ _ (h c)).1 i

include h in
/-- Under the precondition the queries are real numbers. -/
theorem queries_fin (i) : Fin' (a1 m c i) := fin_of_cmpf ((of_in_range_finite _ _ _ _ _ _ (h c)).2.1 i)

include h in
/-- Under the precondition the keys, the first 64 rows of each window, are real numbers. -/
theorem keys_fin (b : Fin 2) (n : Fin 784) (i : Fin 128) (d : Fin 192) (hi : i.val < 64) : Fin' (a3 m c (ix4 b n i d)) := by
  have e := fin_of_cmpf ((of_in_range_finite _ _ _ _ _ _ (h c)).2.2 (ix4 b n (⟨i.val, hi⟩ : Fin 64) d))
  refine (congrArg (fun j => Fin' (a3 m c j)) ?_).mp e
  exact Cert.ReferenceIdeal.Read.idx4_ext (Nat.zero_add _) (Nat.zero_add _) (Nat.zero_add _) (Nat.zero_add _)

/-- An index of rank 4 is made of its four coordinates. -/
theorem idx4_eta {n0 n1 n2 n3 : Nat} (i : (⟨4, ![n0, n1, n2, n3]⟩ : Shape).Idx) : i = ix4 (i 0) (i 1) (i 2) (i 3) :=
  Cert.ReferenceIdeal.Read.idx4_ext rfl rfl rfl rfl

include h in
/-- The reference's first result, of the kernel's arguments, is the kernel's first result. -/
theorem ref_y : Cert.ReferenceIdeal.Read.val_main_v42 (F := Ideal) (a0 m c) (a1 m c) (a3 m c) (a4 m c) = Y m c := funext fun i =>
  (congrArg (Cert.ReferenceIdeal.Read.val_main_v42 (F := Ideal) (a0 m c) (a1 m c) (a3 m c) (a4 m c)) (idx4_eta i)).trans
    (Cert.ReferenceIdeal.Read.y_at _ (words_lt m h c) _ _ _ (queries_fin m h c) (keys_fin m h c) _ _ _ _)

include h in
/-- The reference's second result, of the kernel's arguments, is the kernel's second result. -/
theorem ref_z : Cert.ReferenceIdeal.Read.val_main_v44 (F := Ideal) (a0 m c) (a1 m c) (a2 m c) (a3 m c) (a4 m c) (a5 m c) = Z m c := funext fun i =>
  (congrArg (Cert.ReferenceIdeal.Read.val_main_v44 (F := Ideal) (a0 m c) (a1 m c) (a2 m c) (a3 m c) (a4 m c) (a5 m c)) (idx4_eta i)).trans
    (Cert.ReferenceIdeal.Read.z_at _ (words_lt m h c) _ _ _ _ _ (queries_fin m h c) (keys_fin m h c) _ _ _ _)

include h in
/-- The reference's third result, of the kernel's arguments, is the kernel's third result. -/
theorem ref_ps : Cert.ReferenceIdeal.Read.val_main_v40 (F := Ideal) (a0 m c) (a1 m c) (a2 m c) (a3 m c) (a4 m c) (a5 m c) = PS m c := funext fun i =>
  (congrArg (Cert.ReferenceIdeal.Read.val_main_v40 (F := Ideal) (a0 m c) (a1 m c) (a2 m c) (a3 m c) (a4 m c) (a5 m c)) (idx4_eta i)).trans
    (Cert.ReferenceIdeal.Read.ps_at _ (words_lt m h c) _ _ _ _ _ (queries_fin m h c) (keys_fin m h c) _ _ _ _)

/-- From routing words in range and real queries and keys, the kernel and the plain attention end with the same three
    arrays, element by element equal as extended reals. -/
theorem algebraic : Cert.algebraic_KernelIdeal_ReferenceIdeal_pre_in_range_finite := by
  intro m g m' g' h hm
  have hH := hyps_finite m h
  refine ⟨fun c => Y m c, fun c => Z m c, fun c => PS m c, ?_, ?_⟩
  · refine (θ_run _ _ _).mono (fun r hr c => ?_) (Cert.KernelIdeal.Value.run_blocks m g hH)
    obtain ⟨e5, e6, e7, e⟩ := hr c
    exact ⟨e5.trans (Cert.KernelIdeal.Gen.arr5_eq m hH c (queries_fin m h c) (keys_fin m h c)),
      e6.trans (Cert.KernelIdeal.Gen.arr6_eq m hH c (queries_fin m h c) (keys_fin m h c)),
      e7.trans (Cert.KernelIdeal.Gen.arr7_eq m hH c (queries_fin m h c) (keys_fin m h c)), e⟩
  · refine (θ_run _ _ _).mono (fun r hr c => ?_) (Cert.ReferenceIdeal.Value.run m' g')
    obtain ⟨e42, e44, e40, e⟩ := hr c
    obtain ⟨h0, h1, h2, h3, h4, h5⟩ := hm c
    refine ⟨e42.trans ((Cert.ReferenceIdeal.Read.val_main_v42_eq m' c).trans ?_),
      e44.trans ((Cert.ReferenceIdeal.Read.val_main_v44_eq m' c).trans ?_),
      e40.trans ((Cert.ReferenceIdeal.Read.val_main_v40_eq m' c).trans ?_), e⟩
    · rw [h0, h1, h3, h4]; exact ref_y m h c
    · rw [h0, h1, h2, h3, h4, h5]; exact ref_z m h c
    · rw [h0, h1, h2, h3, h4, h5]; exact ref_ps m h c

end Cert.Attn

end
-- ==== Proof.Proj.lean ====
/- The projection kernels' blocks at the ideal values and at an index: a group of 14 windows of 64 tokens times two
   matrices side by side, and the windows' token sums. -/
module

public import proofs.«01_k».proof.Proof.Gen.KernelKVIdeal.Frame
public import Idealize.ShloMosaic.PureOps.Ideal.Laws
public import Idealize.ShloMosaic.Lib.ValueIdx
public import Idealize.ShloMosaic.Lib.Pipeline.Value

@[expose] public section

set_option maxRecDepth 16384

noncomputable section

namespace Cert.Proj

open Cert.KernelKVIdeal Cert.KernelKVIdeal.Gen Idealize.ShloMosaic Idealize.ShloMosaic.TcCoe Idealize.ShloMosaic.ValueIdx

/-- Token `p` of window `w` of a group, as a row of the group. -/
def rowOf (w : Fin 14) (p : Fin 64) : Fin 896 := ⟨64 * w.val + p.val, by have := w.isLt; have := p.isLt; omega⟩

/-- The rows of a group times the two matrices, at a row and a column of the pair. -/
theorem rows_at (X : Vec Ideal S1x896x192 .f32) (W : Vec Ideal S192x384 .bf16) (r : Fin 896) (e : Fin 384) :
    k0_pay2 X W (ix2 r e) = ∑ k : Fin 192, X (ix3 0 r k) * W (ix2 k e) := by
  unfold k0_pay2 k0_pay1
  refine (Ideal.matmul_constant_zero_apply _ none _ _ _).trans ?_
  rw [← Equiv.sum_comp (contrEquiv1 dot_S896x192_S192x384_S896x384_1_0_0_1_n_n 192 rfl rfl).symm]
  refine Finset.sum_congr rfl fun j _ => ?_
  have hd := contrEquiv1_symm_val dot_S896x192_S192x384_S896x384_1_0_0_1_n_n 192 rfl rfl j
  generalize (contrEquiv1 dot_S896x192_S192x384_S896x384_1_0_0_1_n_n 192 rfl rfl).symm j = q at hd
  refine congrArg₂ (· * ·) ?_ ?_
  · refine shapeCast_apply X shapeCasts_S1x896x192_S896x192 _ (ix3 0 r j) ?_
    rw [Shape.rowMajor_val_three, Shape.rowMajor_val_two]
    show (0 * 896 + r.val) * 192 + j.val = r.val * 192 + (q ⟨0, by decide⟩).val
    rw [hd]; omega
  · refine shapeCast_apply W shapeCasts_S192x384_S192x384 _ (ix2 j e) ?_
    rw [Shape.rowMajor_val_two, Shape.rowMajor_val_two]
    show j.val * 384 + e.val = (q ⟨0, by decide⟩).val * 384 + e.val
    rw [hd]

/-- A window's token sum. -/
theorem sums_at (X : Vec Ideal S1x896x192 .f32) (w : Fin 14) (c : Fin 192) :
    k0_pay5 X (ix4 0 0 w c) = ∑ i : Fin 64, X (ix3 0 (rowOf w i) c) := by
  unfold k0_pay5 k0_pay1
  refine (shapeCast_apply _ shapeCasts_S14x192_S1x1x14x192 (ix4 0 0 w c) (ix2 w c) (by simp [Shape.rowMajor_val_two, Shape.rowMajor_val_four])).trans ?_
  refine (Ideal.multiReduction_add_single _ 0x00000000#32 reduces_S14x64x192_S14x192 (.inl rfl) rfl (ix2 w c)).trans ?_
  refine Finset.sum_congr rfl fun i _ => ?_
  have hi : i.val < 64 := i.isLt
  refine (shapeCast_apply _ shapeCasts_S896x192_S14x64x192 _ (ix2 (rowOf w i) c) ?_).trans ?_
  · rw [Shape.rowMajor_val_two, Shape.rowMajor_val_three]
    show (64 * w.val + i.val) * 192 + c.val = (w.val * 64 + i.val) * 192 + c.val
    omega
  · refine shapeCast_apply X shapeCasts_S1x896x192_S896x192 _ (ix3 0 (rowOf w i) c) ?_
    rw [Shape.rowMajor_val_three, Shape.rowMajor_val_two]
    show (0 * 896 + (64 * w.val + i.val)) * 192 + c.val = (64 * w.val + i.val) * 192 + c.val
    omega

/-- Two square matrices transposed and put side by side: column `e` of the pair is row `e` of the first or, from column
    192 on, row `e - 192` of the second. -/
theorem pair_at {α : Type} (A B : S192x192.Idx → α) (H : Shape.Concatenates [S192x192, S192x192] S192x384 1) (HA HB : S192x192.Transposes [1, 0] S192x192) (k : Fin 192) (e : Fin 384) :
    concatenate S192x384 1 [⟨S192x192, transpose S192x192 [1, 0] A HA⟩, ⟨S192x192, transpose S192x192 [1, 0] B HB⟩] H (ix2 k e)
      = if h : e.val < 192 then A (ix2 ⟨e.val, h⟩ k) else B (ix2 ⟨e.val - 192, by have := e.isLt; omega⟩ k) := by
  have he := e.isLt
  have tr : ∀ (C : S192x192.Idx → α) (HC) (d : Fin 192), transpose S192x192 [1, 0] C HC (ix2 k d) = C (ix2 d k) := fun C HC d =>
    transpose_apply _ C HC (ix2 k d) (ix2 d k) fun a => match a with | ⟨0, _⟩ => rfl | ⟨1, _⟩ => rfl
  split
  · rename_i h
    exact (concatenate_pair_apply_left 1 _ _ H (ix2 k e) rfl (ix2 k ⟨e.val, h⟩) fun a => match a with | ⟨0, _⟩ => rfl | ⟨1, _⟩ => rfl).trans (tr A HA _)
  · exact (concatenate_pair_apply_right 1 _ _ H (ix2 k e) rfl rfl (ix2 k ⟨e.val - 192, by omega⟩)
      (fun a ha => match a with | ⟨0, _⟩ => rfl | ⟨1, _⟩ => absurd rfl ha) (by show e.val - 192 + 192 = e.val; omega)).trans (tr B HB _)

/-- Rows of all windows one after the other and windows of 64 rows are the same array, re-laid. -/
theorem relay_at {α : Type} (T : S2x28x28x8x8x192.Idx → α) (H : S2x28x28x8x8x192.ShapeCasts S2x50176x192) (H' : S2x28x28x8x8x192.ShapeCasts (⟨4, ![2, 784, 64, 192]⟩ : Shape))
    (b : Fin 2) (n : Fin 784) (i : Fin 64) (c : Fin 192) (r : Fin 50176) (hr : r.val = 64 * n.val + i.val) :
    shapeCast S2x50176x192 T H (ix3 b r c) = shapeCast (⟨4, ![2, 784, 64, 192]⟩ : Shape) T H' (ix4 b n i c) := by
  unfold shapeCast
  refine congrArg T (Shape.reshapeEquiv_eq_of_rowMajor H ?_)
  have e : (S2x28x28x8x8x192.rowMajor (Shape.reshapeEquiv H' (ix4 b n i c))).val = ((⟨4, ![2, 784, 64, 192]⟩ : Shape).rowMajor (ix4 b n i c)).val := by
    simp [Shape.reshapeEquiv]
  rw [e, Shape.rowMajor_val_three, Shape.rowMajor_val_four]
  show ((b.val * 784 + n.val) * 64 + i.val) * 192 + c.val = (b.val * 50176 + r.val) * 192 + c.val
  rw [hr]; omega

end Cert.Proj

end
-- ==== Proof.ProjKV.lean ====
/- The projection of the prompt to keys and values, at the ideal values: what one grid point writes, what the two result
   arrays hold, and that the plain projection computes the same. -/
module

public import proofs.«01_k».proof.Proof.Proj
public import proofs.«01_k».proof.Proof.RefKeys
public import proofs.«01_k».proof.Proof.Gen.KernelKVIdeal.Value
public import proofs.«01_k».proof.Proof.Gen.ReferenceKVIdeal.Read
public import Idealize.ShloMosaic.Lib.Pipeline.ValueKit
public import proofs.«01_k».proof.Defs

@[expose] public section

set_option maxRecDepth 16384

noncomputable section

namespace Cert.KernelKVIdeal.Gen

open Cert.KernelKVIdeal Cert.Proj
open Idealize.ShloMosaic hiding ix2 ix3 ix4
open Idealize.ShloMosaic.TcCoe Idealize.ShloMosaic.ValueIdx Idealize.SL.Sem
open Cert.ReferenceIdeal.Read (idx4_ext)

/-! ## One grid point -/

/-- The key columns of the product, re-laid as 14 windows of 64 rows. -/
theorem keys_at (X : Vec Ideal S1x896x192 .f32) (W : Vec Ideal S192x384 .bf16) (w : Fin 14) (p : Fin 64) (c : Fin 192) :
    k0_pay3 X W (ix4 0 w p c) = k0_pay2 X W (ix2 (rowOf w p) ⟨c.val, by have := c.isLt; omega⟩) := by
  unfold k0_pay3
  refine (shapeCast_apply _ shapeCasts_S14x64x192_S1x14x64x192 (ix4 0 w p c) (ix3 w p c) (by simp [Shape.rowMajor_val_three, Shape.rowMajor_val_four])).trans ?_
  refine (shapeCast_apply _ shapeCasts_S896x192_S14x64x192 (ix3 w p c) (ix2 (rowOf w p) c) ?_).trans ?_
  · rw [Shape.rowMajor_val_two, Shape.rowMajor_val_three]
    show (64 * w.val + p.val) * 192 + c.val = (w.val * 64 + p.val) * 192 + c.val
    omega
  · exact extractStridedSlice_apply _ (k0_pay2 X W) slices_S896x384_o0_0_S896x192 (ix2 (rowOf w p) c) (ix2 (rowOf w p) ⟨c.val, by have := c.isLt; omega⟩) fun a => match a with
      | ⟨0, _⟩ => (Nat.zero_add _).symm
      | ⟨1, _⟩ => (Nat.zero_add _).symm

/-- The value columns of the product, re-laid as 14 windows of 64 rows. -/
theorem values_at (X : Vec Ideal S1x896x192 .f32) (W : Vec Ideal S192x384 .bf16) (w : Fin 14) (p : Fin 64) (c : Fin 192) :
    k0_pay4 X W (ix4 0 w p c) = k0_pay2 X W (ix2 (rowOf w p) ⟨192 + c.val, by have := c.isLt; omega⟩) := by
  unfold k0_pay4
  refine (shapeCast_apply _ shapeCasts_S14x64x192_S1x14x64x192 (ix4 0 w p c) (ix3 w p c) (by simp [Shape.rowMajor_val_three, Shape.rowMajor_val_four])).trans ?_
  refine (shapeCast_apply _ shapeCasts_S896x192_S14x64x192 (ix3 w p c) (ix2 (rowOf w p) c) ?_).trans ?_
  · rw [Shape.rowMajor_val_two, Shape.rowMajor_val_three]
    show (64 * w.val + p.val) * 192 + c.val = (w.val * 64 + p.val) * 192 + c.val
    omega
  · exact extractStridedSlice_apply _ (k0_pay2 X W) slices_S896x384_o0_192_S896x192 (ix2 (rowOf w p) c) (ix2 (rowOf w p) ⟨192 + c.val, by have := c.isLt; omega⟩) fun a => match a with
      | ⟨0, _⟩ => (Nat.zero_add _).symm
      | ⟨1, _⟩ => rfl

/-- The token a row of a window of keys and values is of. -/
def tokOf (p : Fin 128) : Fin 64 := ⟨p.val % 64, by omega⟩
/-- The column of the pair of matrices that feature `c` of row `p` takes: keys in the first 64 rows, then values. -/
def colOf (p : Fin 128) (c : Fin 192) : Fin 384 := ⟨192 * (p.val / 64) + c.val, by have := p.isLt; have := c.isLt; omega⟩

/-- The block of keys and values of one grid point. -/
def kvBlock (X : Vec Ideal S1x896x192 .f32) (W : Vec Ideal S192x384 .bf16) (y : S1x14x128x192.Idx) : EReal :=
  ∑ k : Fin 192, X (ix3 0 (rowOf (y 1) (tokOf (y 2))) k) * W (ix2 k (colOf (y 2) (y 3)))

/-- An index of 14 windows of 64 rows is named by its window, row and feature. -/
theorem win_ix (x : S1x14x64x192.Idx) : ∃ (w : Fin 14) (p : Fin 64) (c : Fin 192), x = ix4 0 w p c :=
  ⟨x 1, x 2, x 3, funext fun a => match a with
    | ⟨0, _⟩ => Subsingleton.elim (α := Fin 1) _ _
    | ⟨1, _⟩ => rfl
    | ⟨2, _⟩ => rfl
    | ⟨3, _⟩ => rfl⟩

/-- A grid point leaves its block of keys and values. -/
theorem out2_at (X : Vec Ideal S1x896x192 .f32) (W : Vec Ideal S192x384 .bf16) : out0_2 X W = kvBlock X W := by
  funext y
  have eX : View.ld X r0_0 = X := funext fun x => congrArg X (funext fun a => Fin.ext (match a with
    | ⟨0, _⟩ => by show 0 + 1 * (x 0).val = (x 0).val; omega
    | ⟨1, _⟩ => by show 0 + 1 * (x 1).val = (x 1).val; omega
    | ⟨2, _⟩ => by show 0 + 1 * (x 2).val = (x 2).val; omega))
  have eW : View.ld W r0_1 = W := funext fun x => congrArg W (funext fun a => Fin.ext (match a with
    | ⟨0, _⟩ => by show 0 + 1 * (x 0).val = (x 0).val; omega
    | ⟨1, _⟩ => by show 0 + 1 * (x 1).val = (x 1).val; omega))
  unfold out0_2
  rw [eX, eW]
  refine View.canon_apply_of_pieces (Val := Elt Ideal) (e := .bf16) (kvBlock X W) _ ?_ y (cover0_2 _ _ y)
  simp only [List.forall_mem_cons]
  refine ⟨fun x => ?_, fun x => ?_, fun p hp => absurd hp List.not_mem_nil⟩
  · obtain ⟨w, p, c, rfl⟩ := win_ix x
    have hw := w.isLt; have hp := p.isLt; have hc := c.isLt
    refine (values_at X W w p c).trans ((rows_at X W _ _).trans (Finset.sum_congr rfl fun k _ => ?_))
    refine congrArg₂ (fun r e => X (ix3 0 r k) * W (ix2 k e)) (Fin.ext ?_) (Fin.ext ?_)
    · show 64 * w.val + p.val = 64 * (0 + 1 * w.val) + (64 + 1 * p.val) % 64; omega
    · show 192 + c.val = 192 * ((64 + 1 * p.val) / 64) + (0 + 1 * c.val); omega
  · obtain ⟨w, p, c, rfl⟩ := win_ix x
    have hw := w.isLt; have hp := p.isLt; have hc := c.isLt
    refine (keys_at X W w p c).trans ((rows_at X W _ _).trans (Finset.sum_congr rfl fun k _ => ?_))
    refine congrArg₂ (fun r e => X (ix3 0 r k) * W (ix2 k e)) (Fin.ext ?_) (Fin.ext ?_)
    · show 64 * w.val + p.val = 64 * (0 + 1 * w.val) + (0 + 1 * p.val) % 64; omega
    · show c.val = 192 * ((0 + 1 * p.val) / 64) + (0 + 1 * c.val); omega

/-- A grid point leaves its windows' token sums. -/
theorem out3_at (X : Vec Ideal S1x896x192 .f32) (W : Vec Ideal S192x384 .bf16) (y : S1x1x14x192.Idx) :
    out0_3 X W y = ∑ i : Fin 64, X (ix3 0 (rowOf (y 2) i) (y 3)) := by
  have eX : View.ld X r0_0 = X := funext fun x => congrArg X (funext fun a => Fin.ext (match a with
    | ⟨0, _⟩ => by show 0 + 1 * (x 0).val = (x 0).val; omega
    | ⟨1, _⟩ => by show 0 + 1 * (x 1).val = (x 1).val; omega
    | ⟨2, _⟩ => by show 0 + 1 * (x 2).val = (x 2).val; omega))
  have ec : out0_3 X W = k0_pay5 X := by
    unfold out0_3
    rw [eX]
    have hz4 : (![0, 0, 0, 0] : Fin 4 → Nat) = fun _ => 0 := by funext a; fin_cases a <;> rfl
    exact View.canon_unit_zero hz4 _ _
  have ey : y = ix4 (0 : Fin 1) (0 : Fin 1) (y 2) (y 3) := idx4_ext
    (by have h : (y 0).val < 1 := (y 0).isLt; show (y 0).val = 0; omega) (by have h : (y 1).val < 1 := (y 1).isLt; show (y 1).val = 0; omega) rfl rfl
  rw [ec]
  exact (congrArg (k0_pay5 X) ey).trans (sums_at X (y 2) (y 3))

/-! ## The two result arrays -/

variable (m : (ℓ : Loc nD τ sig) → Buf (Elt Ideal) ℓ) (c : Dev nD)

/-- The prompt and the two matrices on one core. -/
abbrev p0 : Vec Ideal S2x192x224x224 .f32 := m ((c.tc : Thread nD τ).loc main_arg0)
abbrev p1 : Vec Ideal S192x192 .f32 := m ((c.tc : Thread nD τ).loc main_arg1)
abbrev p2 : Vec Ideal S192x192 .f32 := m ((c.tc : Thread nD τ).loc main_arg2)

/-- The prompt cut into windows of 64 tokens, as the reference cuts it. -/
abbrev wins : Vec Ideal ⟨4, ![2, 784, 64, 192]⟩ .f32 := Cert.ReferenceKVIdeal.Read.val_main_v2 (F := Ideal) (p0 m c)

/-- The batch element and the group of windows of a grid point. -/
def bOf (t : Fin cfg0.N) : Fin 2 := ⟨t.val / 56, by have h : t.val < 112 := t.isLt; omega⟩
def gOf (t : Fin cfg0.N) : Fin 56 := ⟨t.val % 56, by omega⟩
/-- Window `w` of group `g`, among all windows of a batch element. -/
def winOf (g : Fin 56) (w : Fin 14) : Fin 784 := ⟨14 * g.val + w.val, by have := g.isLt; have := w.isLt; omega⟩

/-- Every window's block index at every grid point. -/
theorem win_idx : ∀ t : Fin cfg0.N, win0_0.index t = ![t.val / 56, t.val % 56, 0] ∧ win0_1.index t = ![0, 0]
    ∧ win0_2.index t = ![t.val / 56, t.val % 56, 0, 0] ∧ win0_3.index t = ![t.val / 56, t.val % 56, 0, 0] :=
  (by decide +kernel : ∀ t : Fin grid0.N, _)

/-- The rows the kernel is given. -/
theorem V_main_v2 : V m c main_v2 = shapeCast S2x50176x192 (Cert.ReferenceKVIdeal.Read.val_main_v1 (F := Ideal) (p0 m c)) shapeCasts_S2x28x28x8x8x192_S2x50176x192 := by
  show StableHlo.after hostOps0 _ (Proc.devRef .tc main_v2) = _
  after_results
  rfl

/-- The pair of matrices the kernel is given. -/
theorem V_main_v6 : V m c main_v6 = concatenate S192x384 1 [⟨S192x192, transpose S192x192 [1, 0] (p1 m c) transposes_S192x192_S192x192_1_0⟩,
    ⟨S192x192, transpose S192x192 [1, 0] (p2 m c) transposes_S192x192_S192x192_1_0⟩] concatenates_S192x192_S192x192_S192x384_d1 := by
  show StableHlo.after hostOps0 _ (Proc.devRef .tc main_v6) = _
  after_results
  rfl

/-- The rows a grid point reads are the tokens of its windows. -/
theorem iblk0_at (t : Fin cfg0.N) (w : Fin 14) (p : Fin 64) (k : Fin 192) :
    iblk m c 0 t (ix3 0 (rowOf w p) k) = wins m c (ix4 (bOf t) (winOf (gOf t) w) p k) := by
  have ht : t.val < 112 := t.isLt
  have hw := w.isLt; have hp := p.isLt
  have e : iblk m c 0 t (ix3 0 (rowOf w p) k)
      = (V m c main_v2 : S2x50176x192.Idx → EReal) (ix3 (bOf t) (⟨896 * (t.val % 56) + (64 * w.val + p.val), by omega⟩ : Fin 50176) k) := by
    blk_ext [iblk, win_idx t, bOf, rowOf]
    all_goals omega
  rw [e, V_main_v2]
  refine relay_at _ _ _ _ (winOf (gOf t) w) p k _ ?_
  show 896 * (t.val % 56) + (64 * w.val + p.val) = 64 * (14 * (t.val % 56) + w.val) + p.val
  omega

/-- The pair of matrices a grid point reads. -/
theorem iblk1_at (t : Fin cfg0.N) (k : Fin 192) (e : Fin 384) :
    iblk m c 1 t (ix2 k e) = if h : e.val < 192 then p1 m c (ix2 ⟨e.val, h⟩ k) else p2 m c (ix2 ⟨e.val - 192, by have := e.isLt; omega⟩ k) := by
  have e1 : iblk m c 1 t (ix2 k e) = (V m c main_v6 : S192x384.Idx → EReal) (ix2 k e) := by
    blk_ext [iblk, win_idx t]
  rw [e1, V_main_v6]
  exact pair_at _ _ _ _ _ k e

/-- Keys and values: row `p` of window `n` is token `p` times the key matrix, or, from row 64 on, token `p - 64` times the
    value matrix. -/
def KV : Vec Ideal S2x784x128x192 .bf16 := fun i =>
  ∑ k : Fin 192, wins m c (ix4 (i 0) (i 1) (tokOf (i 2)) k) * (if (i 2).val < 64 then p1 m c (ix2 (i 3) k) else p2 m c (ix2 (i 3) k))
/-- The token sums of every window. -/
def SUMS : Vec Ideal S2x56x14x192 .f32 := fun i => ∑ p : Fin 64, wins m c (ix4 (i 0) (winOf (i 1) (i 2)) p (i 3))

/-- What a grid point leaves in its block of keys and values, at an index. -/
theorem block2_at (t : Fin cfg0.N) (y : S1x14x128x192.Idx) :
    kvBlock (iblk m c 0 t) (iblk m c 1 t) y = KV m c (ix4 (bOf t) (winOf (gOf t) (y 1)) (y 2) (y 3)) := by
  refine Finset.sum_congr rfl fun k _ => congrArg₂ (· * ·) (iblk0_at m c t _ _ k) ?_
  refine (iblk1_at m c t k (colOf (y 2) (y 3))).trans ?_
  have hp : (y 2).val < 128 := (y 2).isLt
  have hc : (y 3).val < 192 := (y 3).isLt
  show _ = if (y 2).val < 64 then _ else _
  by_cases h : (y 2).val < 64
  · have e : 192 * ((y 2).val / 64) + (y 3).val < 192 := by omega
    rw [if_pos h, dif_pos (show (colOf (y 2) (y 3)).val < 192 from e)]
    exact congrArg (fun r : Fin 192 => p1 m c (ix2 r k)) (Fin.ext (by show 192 * ((y 2).val / 64) + (y 3).val = (y 3).val; omega))
  · have e : ¬ 192 * ((y 2).val / 64) + (y 3).val < 192 := by omega
    rw [if_neg h, dif_neg (show ¬(colOf (y 2) (y 3)).val < 192 from e)]
    exact congrArg (fun r : Fin 192 => p2 m c (ix2 r k)) (Fin.ext (by show 192 * ((y 2).val / 64) + (y 3).val - 192 = (y 3).val; omega))

/-- What a grid point leaves in its block of token sums, at an index. -/
theorem block3_at (t : Fin cfg0.N) (y : S1x1x14x192.Idx) :
    out0_3 (iblk m c 0 t) (iblk m c 1 t) y = SUMS m c (ix4 (bOf t) (gOf t) (y 2) (y 3)) :=
  (out3_at _ _ y).trans (Finset.sum_congr rfl fun p _ => iblk0_at m c t _ p _)

/-- The first result array holds the keys and values. -/
theorem arr2_eq : (dats m 0 c).arrAt 2 cfg0.N = KV m c := by
  refine (dats m 0 c).arrAt_eq_of_covers 2 _ (by decide +kernel) fun t hf y => ?_
  blk_simp
  rw [after0_2, out2_at]
  refine (block2_at m c t y).trans (congrArg (KV m c) ?_)
  blk_ext [win_idx t, bOf, gOf, winOf]
  all_goals omega

/-- The second result array holds the token sums. -/
theorem arr3_eq : (dats m 0 c).arrAt 3 cfg0.N = SUMS m c := by
  refine (dats m 0 c).arrAt_eq_of_covers 3 _ (by decide +kernel) fun t hf y => ?_
  blk_simp
  rw [after0_3]
  refine (block3_at m c t y).trans (congrArg (SUMS m c) ?_)
  blk_ext [win_idx t, bOf, gOf]

/-! ## The plain projection's results -/

open Cert.ReferenceKVIdeal.Read in
/-- The plain projection's keys and values are the kernel's. -/
theorem ref_kv : val_main_v7 (F := Ideal) (p0 m c) (p1 m c) (p2 m c) = KV m c := funext fun i => by
  have hp : (i 2).val < 128 := (i 2).isLt
  unfold KV
  show val_main_v6 (F := Ideal) (p0 m c) (p1 m c) (p2 m c) i = _
  unfold val_main_v6
  by_cases h : (i 2).val < 64
  · refine (concatenate_pair_apply_left 2 (val_main_v3 (F := Ideal) (p0 m c) (p1 m c)) (val_main_v4 (F := Ideal) (p0 m c) (p2 m c)) _ i rfl (ix4 (i 0) (i 1) (⟨(i 2).val, h⟩ : Fin 64) (i 3)) fun a => match a with
      | ⟨0, _⟩ => rfl
      | ⟨1, _⟩ => rfl
      | ⟨2, _⟩ => rfl
      | ⟨3, _⟩ => rfl).trans ((val_main_v3_apply _ _ _).trans (Finset.sum_congr rfl fun k _ => congrArg₂ (· * ·) (congrArg (val_main_v2 (F := Ideal) (p0 m c)) ?_) ?_))
    · exact idx4_ext rfl rfl (by show (i 2).val = (i 2).val % 64; omega) rfl
    · rw [if_pos h]
      exact congrArg (p1 m c) (funext fun a => match a with
        | ⟨0, _⟩ => rfl
        | ⟨1, _⟩ => rfl)
  · refine (concatenate_pair_apply_right 2 (val_main_v3 (F := Ideal) (p0 m c) (p1 m c)) (val_main_v4 (F := Ideal) (p0 m c) (p2 m c)) _ i rfl rfl (ix4 (i 0) (i 1) (⟨(i 2).val - 64, by omega⟩ : Fin 64) (i 3)) (fun a ha => match a with
      | ⟨0, _⟩ => rfl
      | ⟨1, _⟩ => rfl
      | ⟨2, _⟩ => absurd rfl ha
      | ⟨3, _⟩ => rfl) (by show (i 2).val - 64 + 64 = (i 2).val; omega)).trans ((val_main_v4_apply _ _ _).trans (Finset.sum_congr rfl fun k _ => congrArg₂ (· * ·) (congrArg (val_main_v2 (F := Ideal) (p0 m c)) ?_) ?_))
    · exact idx4_ext rfl rfl (by show (i 2).val - 64 = (i 2).val % 64; omega) rfl
    · rw [if_neg h]
      exact congrArg (p2 m c) (funext fun a => match a with
        | ⟨0, _⟩ => rfl
        | ⟨1, _⟩ => rfl)

open Cert.ReferenceKVIdeal.Read in
/-- The plain projection's token sums are the kernel's. -/
theorem ref_sums : val_main_v8 (F := Ideal) (p0 m c) = SUMS m c := funext fun i => by
  have h0 : (i 0).val < 2 := (i 0).isLt
  have h1 : (i 1).val < 56 := (i 1).isLt
  have h2 : (i 2).val < 14 := (i 2).isLt
  have h3 : (i 3).val < 192 := (i 3).isLt
  unfold SUMS val_main_v8
  refine (shapeCast_apply _ _ i (ix3 (i 0) (winOf (i 1) (i 2)) (i 3)) ?_).trans ?_
  · rw [Shape.rowMajor_val_three, Shape.rowMajor_val_four]
    show ((i 0).val * 784 + (14 * (i 1).val + (i 2).val)) * 192 + (i 3).val = (((i 0).val * 56 + (i 1).val) * 14 + (i 2).val) * 192 + (i 3).val
    omega
  · refine (val_main_v5_apply _ _).trans ?_
    have e0 : val_main_cst (F := Ideal) (Shape.Idx.first Cert.ReferenceKVIdeal.Gen.h_S_) = (0 : EReal) := Ideal.ofBits_zero_f32
    refine (congrArg₂ (· + ·) e0 (Finset.sum_congr rfl fun p _ => congrArg (val_main_v2 (F := Ideal) (p0 m c)) ?_)).trans (zero_add _)
    exact idx4_ext rfl rfl rfl rfl

/-- The kernel and the plain projection end with the same keys, values and token sums, element by element equal as
    extended reals. -/
theorem algebraic : Cert.algebraic_KernelKVIdeal_ReferenceKVIdeal := by
  intro m g m' g' _ hm
  refine ⟨fun c => KV m c, fun c => SUMS m c, ?_, ?_⟩
  · refine (θ_run _ _ _).mono (fun r hr c => ?_) (Cert.KernelKVIdeal.Value.run_blocks m g)
    obtain ⟨e2, e3, e⟩ := hr c
    exact ⟨e2.trans (arr2_eq m c), e3.trans (arr3_eq m c), e⟩
  · refine (θ_run _ _ _).mono (fun r hr c => ?_) (Cert.ReferenceKVIdeal.Value.run m' g')
    obtain ⟨e7, e8, e⟩ := hr c
    obtain ⟨h0, h1, h2⟩ := hm c
    refine ⟨e7.trans ((Cert.ReferenceKVIdeal.Read.val_main_v7_eq _ _ _).trans ?_),
      e8.trans ((Cert.ReferenceKVIdeal.Read.val_main_v8_eq _).trans ?_), e⟩
    · rw [h0, h1, h2]; exact ref_kv m c
    · rw [h0]; exact ref_sums m c

/-- The reference's frame: it has no semaphore, so no counter that could be other than zero. -/
theorem frame_reference : Cert.quiescent_ReferenceKVIdeal := fun m ρ _ =>
  (θ_run _ _ _).mono (fun r h => ⟨fun c => (h c).2.2, funext fun g => match g with
    | ⟨_, .reg s⟩ => s.elim0
    | ⟨_, .dma s⟩ => s.elim0⟩) (Cert.ReferenceKVIdeal.Value.run m ρ)

end Cert.KernelKVIdeal.Gen

end
-- ==== Proof.ProjQ.lean ====
/- The projection of the input to queries and to the gate's pass-through half, at the ideal values: what one grid point
   writes, what the three result arrays hold, and that the plain projection computes the same. -/
module

public import proofs.«01_k».proof.Proof.Proj
public import proofs.«01_k».proof.Proof.RefRows
public import proofs.«01_k».proof.Proof.Gen.KernelQIdeal.Value
public import proofs.«01_k».proof.Proof.Gen.ReferenceQIdeal.Read
public import Idealize.ShloMosaic.Lib.Pipeline.ValueKit
public import proofs.«01_k».proof.Defs

@[expose] public section

set_option maxRecDepth 16384

noncomputable section

namespace Cert.KernelQIdeal.Gen

open Cert.KernelQIdeal Cert.Proj
open Idealize.ShloMosaic hiding ix2 ix3 ix4
open Idealize.ShloMosaic.TcCoe Idealize.ShloMosaic.ValueIdx Idealize.SL.Sem
open Cert.ReferenceIdeal.Read (idx4_ext win pos)

/-! ## One grid point -/

/-- The two halves of the product's columns: half `h` starts at column `192 h`. -/
def half (h : Fin 2) (c : Fin 192) : Fin 384 := ⟨192 * h.val + c.val, by have := h.isLt; have := c.isLt; omega⟩

/-- This kernel multiplies as the projection of the prompt does. -/
theorem prod_at (X : Vec Ideal S1x896x192 .f32) (W : Vec Ideal S192x384 .bf16) (r : Fin 896) (e : Fin 384) :
    k0_pay2 X W (ix2 r e) = ∑ k : Fin 192, X (ix3 0 r k) * W (ix2 k e) :=
  rows_at X W r e

/-- A grid point leaves its rows times the first matrix. -/
theorem out2_at (X : Vec Ideal S1x896x192 .f32) (W : Vec Ideal S192x384 .bf16) (y : S1x1x896x192.Idx) :
    out0_2 X W y = ∑ k : Fin 192, X (ix3 0 (y 2) k) * W (ix2 k (half 0 (y 3))) := by
  have eX : View.ld X r0_0 = X := funext fun x => congrArg X (funext fun a => Fin.ext (match a with
    | ⟨0, _⟩ => by show 0 + 1 * (x 0).val = (x 0).val; omega
    | ⟨1, _⟩ => by show 0 + 1 * (x 1).val = (x 1).val; omega
    | ⟨2, _⟩ => by show 0 + 1 * (x 2).val = (x 2).val; omega))
  have eW : View.ld W r0_1 = W := funext fun x => congrArg W (funext fun a => Fin.ext (match a with
    | ⟨0, _⟩ => by show 0 + 1 * (x 0).val = (x 0).val; omega
    | ⟨1, _⟩ => by show 0 + 1 * (x 1).val = (x 1).val; omega))
  have hz4 : (![0, 0, 0, 0] : Fin 4 → Nat) = fun _ => 0 := by funext a; fin_cases a <;> rfl
  have ec : out0_2 X W = k0_pay3 X W := by
    unfold out0_2
    rw [eX, eW]
    exact View.canon_unit_zero hz4 _ _
  have h0 : (y 0).val < 1 := (y 0).isLt
  have h1 : (y 1).val < 1 := (y 1).isLt
  rw [ec]
  unfold k0_pay3
  refine (shapeCast_apply _ shapeCasts_S896x192_S1x1x896x192 y (ix2 (y 2) (y 3)) ?_).trans ?_
  · rw [Shape.rowMajor_val_two, Shape.rowMajor_val_four]
    show (y 2).val * 192 + (y 3).val = (((y 0).val * 1 + (y 1).val) * 896 + (y 2).val) * 192 + (y 3).val
    omega
  · refine (extractStridedSlice_apply _ (k0_pay2 X W) slices_S896x384_o0_0_S896x192 (ix2 (y 2) (y 3)) (ix2 (y 2) (half 0 (y 3))) fun a => match a with
      | ⟨0, _⟩ => (Nat.zero_add _).symm
      | ⟨1, _⟩ => rfl).trans (prod_at X W (y 2) (half 0 (y 3)))

/-- A grid point leaves its rows times the second matrix. -/
theorem out3_at (X : Vec Ideal S1x896x192 .f32) (W : Vec Ideal S192x384 .bf16) (y : S1x1x896x192.Idx) :
    out0_3 X W y = ∑ k : Fin 192, X (ix3 0 (y 2) k) * W (ix2 k (half 1 (y 3))) := by
  have eX : View.ld X r0_0 = X := funext fun x => congrArg X (funext fun a => Fin.ext (match a with
    | ⟨0, _⟩ => by show 0 + 1 * (x 0).val = (x 0).val; omega
    | ⟨1, _⟩ => by show 0 + 1 * (x 1).val = (x 1).val; omega
    | ⟨2, _⟩ => by show 0 + 1 * (x 2).val = (x 2).val; omega))
  have eW : View.ld W r0_1 = W := funext fun x => congrArg W (funext fun a => Fin.ext (match a with
    | ⟨0, _⟩ => by show 0 + 1 * (x 0).val = (x 0).val; omega
    | ⟨1, _⟩ => by show 0 + 1 * (x 1).val = (x 1).val; omega))
  have hz4 : (![0, 0, 0, 0] : Fin 4 → Nat) = fun _ => 0 := by funext a; fin_cases a <;> rfl
  have ec : out0_3 X W = k0_pay4 X W := by
    unfold out0_3
    rw [eX, eW]
    exact View.canon_unit_zero hz4 _ _
  have h0 : (y 0).val < 1 := (y 0).isLt
  have h1 : (y 1).val < 1 := (y 1).isLt
  rw [ec]
  unfold k0_pay4
  refine (shapeCast_apply _ shapeCasts_S896x192_S1x1x896x192 y (ix2 (y 2) (y 3)) ?_).trans ?_
  · rw [Shape.rowMajor_val_two, Shape.rowMajor_val_four]
    show (y 2).val * 192 + (y 3).val = (((y 0).val * 1 + (y 1).val) * 896 + (y 2).val) * 192 + (y 3).val
    omega
  · refine (extractStridedSlice_apply _ (k0_pay2 X W) slices_S896x384_o0_192_S896x192 (ix2 (y 2) (y 3)) (ix2 (y 2) (half 1 (y 3))) fun a => match a with
      | ⟨0, _⟩ => (Nat.zero_add _).symm
      | ⟨1, _⟩ => rfl).trans (prod_at X W (y 2) (half 1 (y 3)))

/-- A grid point leaves its windows' token sums. -/
theorem out4_at (X : Vec Ideal S1x896x192 .f32) (W : Vec Ideal S192x384 .bf16) (y : S1x1x14x192.Idx) :
    out0_4 X W y = ∑ i : Fin 64, X (ix3 0 (rowOf (y 2) i) (y 3)) := by
  have eX : View.ld X r0_0 = X := funext fun x => congrArg X (funext fun a => Fin.ext (match a with
    | ⟨0, _⟩ => by show 0 + 1 * (x 0).val = (x 0).val; omega
    | ⟨1, _⟩ => by show 0 + 1 * (x 1).val = (x 1).val; omega
    | ⟨2, _⟩ => by show 0 + 1 * (x 2).val = (x 2).val; omega))
  have hz4 : (![0, 0, 0, 0] : Fin 4 → Nat) = fun _ => 0 := by funext a; fin_cases a <;> rfl
  have ec : out0_4 X W = k0_pay5 X := by
    unfold out0_4
    rw [eX]
    exact View.canon_unit_zero hz4 _ _
  have ey : y = ix4 (0 : Fin 1) (0 : Fin 1) (y 2) (y 3) := idx4_ext
    (by have h : (y 0).val < 1 := (y 0).isLt; show (y 0).val = 0; omega) (by have h : (y 1).val < 1 := (y 1).isLt; show (y 1).val = 0; omega) rfl rfl
  rw [ec]
  exact (congrArg (k0_pay5 X) ey).trans (sums_at X (y 2) (y 3))

/-! ## The three result arrays -/

variable (m : (ℓ : Loc nD τ sig) → Buf (Elt Ideal) ℓ) (c : Dev nD)

/-- The input, the query matrix and the gate's matrix on one core. -/
abbrev q0 : Vec Ideal S2x192x224x224 .f32 := m ((c.tc : Thread nD τ).loc main_arg0)
abbrev q1 : Vec Ideal S192x192 .f32 := m ((c.tc : Thread nD τ).loc main_arg1)
abbrev q2 : Vec Ideal S192x384 .f32 := m ((c.tc : Thread nD τ).loc main_arg2)

/-- The input cut into windows of 64 tokens, as the reference cuts it. -/
abbrev wins : Vec Ideal ⟨4, ![2, 784, 64, 192]⟩ .f32 := Cert.ReferenceQIdeal.Read.val_main_v2 (F := Ideal) (q0 m c)
/-- The half of the gate's matrix that multiplies the input. -/
abbrev gateX : Vec Ideal S192x192 .f32 := Cert.ReferenceQIdeal.Read.val_main_v4 (F := Ideal) (q2 m c)

/-- The batch element and the group of windows of a grid point. -/
def bOf (t : Fin cfg0.N) : Fin 2 := ⟨t.val / 56, by have h : t.val < 112 := t.isLt; omega⟩
def gOf (t : Fin cfg0.N) : Fin 56 := ⟨t.val % 56, by omega⟩

/-- Every window's block index at every grid point. -/
theorem win_idx : ∀ t : Fin cfg0.N, win0_0.index t = ![t.val / 56, t.val % 56, 0] ∧ win0_1.index t = ![0, 0]
    ∧ win0_2.index t = ![t.val / 56, t.val % 56, 0, 0] ∧ win0_3.index t = ![t.val / 56, t.val % 56, 0, 0]
    ∧ win0_4.index t = ![t.val / 56, t.val % 56, 0, 0] :=
  (by decide +kernel : ∀ t : Fin grid0.N, _)

/-- The rows the kernel is given. -/
theorem V_main_v2 : V m c main_v2 = shapeCast S2x50176x192 (Cert.ReferenceQIdeal.Read.val_main_v1 (F := Ideal) (q0 m c)) shapeCasts_S2x28x28x8x8x192_S2x50176x192 := by
  show StableHlo.after hostOps0 _ (Proc.devRef .tc main_v2) = _
  after_results
  rfl

/-- The pair of matrices the kernel is given. -/
theorem V_main_v7 : V m c main_v7 = concatenate S192x384 1 [⟨S192x192, transpose S192x192 [1, 0] (q1 m c) transposes_S192x192_S192x192_1_0⟩,
    ⟨S192x192, transpose S192x192 [1, 0] (gateX m c) transposes_S192x192_S192x192_1_0⟩] concatenates_S192x192_S192x192_S192x384_d1 := by
  show StableHlo.after hostOps0 _ (Proc.devRef .tc main_v7) = _
  after_results
  rfl

/-- The rows a grid point reads are the tokens of its windows, one window after the other. -/
theorem iblk0_at (t : Fin cfg0.N) (r : Fin 896) (k : Fin 192) :
    iblk m c 0 t (ix3 0 r k) = wins m c (ix4 (bOf t) (win (gOf t) r) (pos r) k) := by
  have ht : t.val < 112 := t.isLt
  have hr := r.isLt
  have e : iblk m c 0 t (ix3 0 r k)
      = (V m c main_v2 : S2x50176x192.Idx → EReal) (ix3 (bOf t) (⟨896 * (t.val % 56) + r.val, by omega⟩ : Fin 50176) k) := by
    blk_ext [iblk, win_idx t, bOf]
    show t.val % 56 * 896 + r.val = 896 * (t.val % 56) + r.val
    omega
  rw [e, V_main_v2]
  refine relay_at _ _ _ _ (win (gOf t) r) (pos r) k _ ?_
  show 896 * (t.val % 56) + r.val = 64 * (14 * (t.val % 56) + r.val / 64) + r.val % 64
  omega

/-- The first half of the columns a grid point reads is the query matrix, transposed. -/
theorem iblk1_query (t : Fin cfg0.N) (k e : Fin 192) : iblk m c 1 t (ix2 k (half 0 e)) = q1 m c (ix2 e k) := by
  have he := e.isLt
  have e1 : iblk m c 1 t (ix2 k (half 0 e)) = (V m c main_v7 : S192x384.Idx → EReal) (ix2 k (half 0 e)) := by
    blk_ext [iblk, win_idx t]
  have h : (half 0 e).val < 192 := by show 192 * 0 + e.val < 192; omega
  rw [e1, V_main_v7]
  refine (pair_at _ _ _ _ _ k (half 0 e)).trans ?_
  rw [dif_pos h]
  exact congrArg (fun r : Fin 192 => q1 m c (ix2 r k)) (Fin.ext (by show 192 * 0 + e.val = e.val; omega))

/-- The second half is the gate's half for the input, transposed. -/
theorem iblk1_gate (t : Fin cfg0.N) (k e : Fin 192) : iblk m c 1 t (ix2 k (half 1 e)) = gateX m c (ix2 e k) := by
  have he := e.isLt
  have e1 : iblk m c 1 t (ix2 k (half 1 e)) = (V m c main_v7 : S192x384.Idx → EReal) (ix2 k (half 1 e)) := by
    blk_ext [iblk, win_idx t]
  have h : ¬(half 1 e).val < 192 := by show ¬192 * 1 + e.val < 192; omega
  rw [e1, V_main_v7]
  refine (pair_at _ _ _ _ _ k (half 1 e)).trans ?_
  rw [dif_neg h]
  exact congrArg (fun r : Fin 192 => gateX m c (ix2 r k)) (Fin.ext (by show 192 * 1 + e.val - 192 = e.val; omega))

/-- The rows of every group times a matrix, row `r` of group `g` being token `r % 64` of window `14 g + r / 64`. -/
def rowsBy (M : Vec Ideal S192x192 .f32) : Vec Ideal S2x56x896x192 .bf16 := fun i =>
  ∑ k : Fin 192, wins m c (ix4 (i 0) (win (i 1) (i 2)) (pos (i 2)) k) * M (ix2 (i 3) k)
/-- Window `w` of group `g`, among all windows of a batch element. -/
def winOf (g : Fin 56) (w : Fin 14) : Fin 784 := ⟨14 * g.val + w.val, by have := g.isLt; have := w.isLt; omega⟩
/-- The token sums of every window. -/
def SUMS : Vec Ideal S2x56x14x192 .f32 := fun i => ∑ p : Fin 64, wins m c (ix4 (i 0) (winOf (i 1) (i 2)) p (i 3))

/-- What a grid point leaves in its block of queries, at an index. -/
theorem block2_at (t : Fin cfg0.N) (y : S1x1x896x192.Idx) :
    out0_2 (iblk m c 0 t) (iblk m c 1 t) y = rowsBy m c (q1 m c) (ix4 (bOf t) (gOf t) (y 2) (y 3)) :=
  (out2_at _ _ y).trans (Finset.sum_congr rfl fun k _ => congrArg₂ (· * ·) (iblk0_at m c t _ k) (iblk1_query m c t k _))

/-- What a grid point leaves in its block of the gate's pass-through half, at an index. -/
theorem block3_at (t : Fin cfg0.N) (y : S1x1x896x192.Idx) :
    out0_3 (iblk m c 0 t) (iblk m c 1 t) y = rowsBy m c (gateX m c) (ix4 (bOf t) (gOf t) (y 2) (y 3)) :=
  (out3_at _ _ y).trans (Finset.sum_congr rfl fun k _ => congrArg₂ (· * ·) (iblk0_at m c t _ k) (iblk1_gate m c t k _))

/-- What a grid point leaves in its block of token sums, at an index. -/
theorem block4_at (t : Fin cfg0.N) (y : S1x1x14x192.Idx) :
    out0_4 (iblk m c 0 t) (iblk m c 1 t) y = SUMS m c (ix4 (bOf t) (gOf t) (y 2) (y 3)) :=
  (out4_at _ _ y).trans (Finset.sum_congr rfl fun p _ => (iblk0_at m c t _ _).trans (congrArg (wins m c) (idx4_ext rfl
    (by have h : (y 2).val < 14 := (y 2).isLt; have := p.isLt; show 14 * (t.val % 56) + (64 * (y 2).val + p.val) / 64 = 14 * (t.val % 56) + (y 2).val; omega)
    (by have h : (y 2).val < 14 := (y 2).isLt; have := p.isLt; show (64 * (y 2).val + p.val) % 64 = p.val; omega) rfl)))

/-- The first result array holds the queries. -/
theorem arr2_eq : (dats m 0 c).arrAt 2 cfg0.N = rowsBy m c (q1 m c) := by
  refine (dats m 0 c).arrAt_eq_of_covers 2 _ (by decide +kernel) fun t hf y => ?_
  blk_simp
  rw [after0_2]
  refine (block2_at m c t y).trans (congrArg (rowsBy m c (q1 m c)) ?_)
  blk_ext [win_idx t, bOf, gOf]

/-- The second result array holds the gate's pass-through half. -/
theorem arr3_eq : (dats m 0 c).arrAt 3 cfg0.N = rowsBy m c (gateX m c) := by
  refine (dats m 0 c).arrAt_eq_of_covers 3 _ (by decide +kernel) fun t hf y => ?_
  blk_simp
  rw [after0_3]
  refine (block3_at m c t y).trans (congrArg (rowsBy m c (gateX m c)) ?_)
  blk_ext [win_idx t, bOf, gOf]

/-- The third result array holds the token sums. -/
theorem arr4_eq : (dats m 0 c).arrAt 4 cfg0.N = SUMS m c := by
  refine (dats m 0 c).arrAt_eq_of_covers 4 _ (by decide +kernel) fun t hf y => ?_
  blk_simp
  rw [after0_4]
  refine (block4_at m c t y).trans (congrArg (SUMS m c) ?_)
  blk_ext [win_idx t, bOf, gOf]

/-! ## The plain projection's results -/

open Cert.ReferenceQIdeal.Read in
/-- Where the regrouping of windows of 64 tokens into groups of 896 rows reads: row `r` of group `g` is a token of a window. -/
theorem regroup_at (T : Vec Ideal Cert.ReferenceQIdeal.S2x784x64x192 .f32) (H : Cert.ReferenceQIdeal.S2x784x64x192.ShapeCasts S2x56x896x192) (i : S2x56x896x192.Idx) :
    shapeCast S2x56x896x192 T H i = T (ix4 (i 0) (win (i 1) (i 2)) (pos (i 2)) (i 3)) := by
  have h1 : (i 1).val < 56 := (i 1).isLt
  have h2 : (i 2).val < 896 := (i 2).isLt
  refine shapeCast_apply T H i _ ?_
  rw [Shape.rowMajor_val_four, Shape.rowMajor_val_four]
  show (((i 0).val * 784 + (14 * (i 1).val + (i 2).val / 64)) * 64 + (i 2).val % 64) * 192 + (i 3).val
    = (((i 0).val * 56 + (i 1).val) * 896 + (i 2).val) * 192 + (i 3).val
  omega

open Cert.ReferenceQIdeal.Read in
/-- The plain projection's queries are the kernel's. -/
theorem ref_query : val_main_v8 (F := Ideal) (q0 m c) (q1 m c) = rowsBy m c (q1 m c) := funext fun i => by
  refine (regroup_at (val_main_v3 (F := Ideal) (q0 m c) (q1 m c)) _ i).trans ((val_main_v3_apply _ _ _).trans (Finset.sum_congr rfl fun k _ =>
    congrArg₂ (· * ·) (congrArg (val_main_v2 (F := Ideal) (q0 m c)) ?_) (congrArg (q1 m c) ?_)))
  · exact idx4_ext rfl rfl rfl rfl
  · exact funext fun a => match a with
      | ⟨0, _⟩ => rfl
      | ⟨1, _⟩ => rfl

open Cert.ReferenceQIdeal.Read in
/-- The plain projection's pass-through half of the gate is the kernel's. -/
theorem ref_gate : val_main_v10 (F := Ideal) (q0 m c) (q2 m c) = rowsBy m c (gateX m c) := funext fun i => by
  refine (regroup_at (val_main_v5 (F := Ideal) (q0 m c) (q2 m c)) _ i).trans ((val_main_v5_apply _ _ _).trans (Finset.sum_congr rfl fun k _ =>
    congrArg₂ (· * ·) (congrArg (val_main_v2 (F := Ideal) (q0 m c)) ?_) (congrArg (gateX m c) ?_)))
  · exact idx4_ext rfl rfl rfl rfl
  · exact funext fun a => match a with
      | ⟨0, _⟩ => rfl
      | ⟨1, _⟩ => rfl

open Cert.ReferenceQIdeal.Read in
/-- The plain projection's token sums are the kernel's. -/
theorem ref_sums : val_main_v11 (F := Ideal) (q0 m c) = SUMS m c := funext fun i => by
  have h0 : (i 0).val < 2 := (i 0).isLt
  have h1 : (i 1).val < 56 := (i 1).isLt
  have h2 : (i 2).val < 14 := (i 2).isLt
  have h3 : (i 3).val < 192 := (i 3).isLt
  unfold SUMS val_main_v11
  refine (shapeCast_apply _ _ i (ix3 (i 0) (winOf (i 1) (i 2)) (i 3)) ?_).trans ?_
  · rw [Shape.rowMajor_val_three, Shape.rowMajor_val_four]
    show ((i 0).val * 784 + (14 * (i 1).val + (i 2).val)) * 192 + (i 3).val = (((i 0).val * 56 + (i 1).val) * 14 + (i 2).val) * 192 + (i 3).val
    omega
  · refine (val_main_v6_apply _ _).trans ?_
    have e0 : val_main_cst (F := Ideal) (Shape.Idx.first Cert.ReferenceQIdeal.Gen.h_S_) = (0 : EReal) := Ideal.ofBits_zero_f32
    refine (congrArg₂ (· + ·) e0 (Finset.sum_congr rfl fun p _ => congrArg (val_main_v2 (F := Ideal) (q0 m c)) ?_)).trans (zero_add _)
    exact idx4_ext rfl rfl rfl rfl

/-- The kernel and the plain projection end with the same queries, pass-through half of the gate and token sums, element by
    element equal as extended reals. -/
theorem algebraic : Cert.algebraic_KernelQIdeal_ReferenceQIdeal := by
  intro m g m' g' _ hm
  refine ⟨fun c => rowsBy m c (q1 m c), fun c => rowsBy m c (gateX m c), fun c => SUMS m c, ?_, ?_⟩
  · refine (θ_run _ _ _).mono (fun r hr c => ?_) (Cert.KernelQIdeal.Value.run_blocks m g)
    obtain ⟨e2, e3, e4, e⟩ := hr c
    exact ⟨e2.trans (arr2_eq m c), e3.trans (arr3_eq m c), e4.trans (arr4_eq m c), e⟩
  · refine (θ_run _ _ _).mono (fun r hr c => ?_) (Cert.ReferenceQIdeal.Value.run m' g')
    obtain ⟨e8, e10, e11, e⟩ := hr c
    obtain ⟨h0, h1, h2⟩ := hm c
    refine ⟨e8.trans ((Cert.ReferenceQIdeal.Read.val_main_v8_eq _ _).trans ?_),
      e10.trans ((Cert.ReferenceQIdeal.Read.val_main_v10_eq _ _).trans ?_),
      e11.trans ((Cert.ReferenceQIdeal.Read.val_main_v11_eq _).trans ?_), e⟩
    · rw [h0, h1]; exact ref_query m c
    · rw [h0, h2]; exact ref_gate m c
    · rw [h0]; exact ref_sums m c

/-- The reference's frame: it has no semaphore, so no counter that could be other than zero. -/
theorem frame_reference : Cert.quiescent_ReferenceQIdeal := fun m ρ _ =>
  (θ_run _ _ _).mono (fun r h => ⟨fun c => (h c).2.2.2, funext fun g => match g with
    | ⟨_, .reg s⟩ => s.elim0
    | ⟨_, .dma s⟩ => s.elim0⟩) (Cert.ReferenceQIdeal.Value.run m ρ)

end Cert.KernelQIdeal.Gen

end
-- ==== Proof.GateMath.lean ====
/- The arithmetic of the gate's normalization: the variance as the mean of the squares minus the square of the mean, the
   normalization as one scale and one shift, and sums over all rows taken group by group. -/
module

public import proofs.«01_k».proof.Proof.Arith
public import Idealize.ShloMosaic.PureOps.Ideal.Laws

@[expose] public section

noncomputable section

namespace Cert.Gate

open Idealize.ShloMosaic Cert.Attn

/-! ## Sums over all rows -/

/-- Row `r` of group `g` of batch element `b`, among all 100352 rows. -/
def row (b : Fin 2) (g : Fin 56) (r : Fin 896) : Fin 100352 :=
  ⟨(b.val * 56 + g.val) * 896 + r.val, by have := b.isLt; have := g.isLt; have := r.isLt; omega⟩
/-- The batch element, the group and the place in its group of a row. -/
def rowB (n : Fin 100352) : Fin 2 := ⟨n.val / 896 / 56, by have := n.isLt; omega⟩
def rowG (n : Fin 100352) : Fin 56 := ⟨n.val / 896 % 56, by omega⟩
def rowR (n : Fin 100352) : Fin 896 := ⟨n.val % 896, by omega⟩

/-- The sum over all rows, group by group. -/
theorem sum_rows {M : Type*} [AddCommMonoid M] (f : Fin 2 → Fin 56 → Fin 896 → M) :
    ∑ n : Fin 100352, f (rowB n) (rowG n) (rowR n) = ∑ b : Fin 2, ∑ g : Fin 56, ∑ r : Fin 896, f b g r := by
  have e : ∑ b : Fin 2, ∑ g : Fin 56, ∑ r : Fin 896, f b g r = ∑ p : Fin 2 × Fin 56 × Fin 896, f p.1 p.2.1 p.2.2 := by
    rw [Fintype.sum_prod_type]
    exact Finset.sum_congr rfl fun b _ => (Fintype.sum_prod_type (fun q : Fin 56 × Fin 896 => f b q.1 q.2)).symm
  rw [e]
  refine Finset.sum_nbij' (fun n => (rowB n, rowG n, rowR n)) (fun p => row p.1 p.2.1 p.2.2) (fun _ _ => Finset.mem_univ _)
    (fun _ _ => Finset.mem_univ _) (fun n _ => Fin.ext ?_) (fun p _ => ?_) (fun _ _ => rfl)
  · show (n.val / 896 / 56 * 56 + n.val / 896 % 56) * 896 + n.val % 896 = n.val
    omega
  · obtain ⟨b, g, r⟩ := p
    have := b.isLt; have := g.isLt; have := r.isLt
    refine Prod.ext (Fin.ext ?_) (Prod.ext (Fin.ext ?_) (Fin.ext ?_))
    · show ((b.val * 56 + g.val) * 896 + r.val) / 896 / 56 = b.val; omega
    · show ((b.val * 56 + g.val) * 896 + r.val) / 896 % 56 = g.val; omega
    · show ((b.val * 56 + g.val) * 896 + r.val) % 896 = r.val; omega

/-! ## The variance -/

/-- The mean of the squared distances to the mean is the mean of the squares minus the square of the mean. -/
theorem var_eq {n : ℕ} (hn : (n : ℝ) ≠ 0) (z : Fin n → ℝ) :
    (∑ k, (z k - (∑ j, z j) * (1 / n)) * (z k - (∑ j, z j) * (1 / n))) * (1 / n)
      = (∑ k, z k * z k) * (1 / n) - (∑ j, z j) * (1 / n) * ((∑ j, z j) * (1 / n)) := by
  generalize hS : (∑ j, z j) = S
  have e : ∀ k, (z k - S * (1 / n)) * (z k - S * (1 / n)) = z k * z k - 2 * (S * (1 / n)) * z k + S * (1 / n) * (S * (1 / n)) := fun k => by ring
  rw [Finset.sum_congr rfl fun k _ => e k, Finset.sum_add_distrib, Finset.sum_sub_distrib, ← Finset.mul_sum, hS]
  rw [Finset.sum_const, Finset.card_univ, Fintype.card_fin, nsmul_eq_mul]
  field_simp
  ring

/-- The mean of the squares is at least the square of the mean. -/
theorem var_nonneg {n : ℕ} (hn : (n : ℝ) ≠ 0) (z : Fin n → ℝ) :
    0 ≤ (∑ k, z k * z k) * (1 / n) - (∑ j, z j) * (1 / n) * ((∑ j, z j) * (1 / n)) := by
  rw [← var_eq hn]
  exact mul_nonneg (Finset.sum_nonneg fun k _ => mul_self_nonneg _) (by positivity)

/-! ## Normalizing -/

/-- Scaling by the reciprocal root and shifting is subtracting the mean, dividing by the root, scaling and shifting. -/
theorem normalize {v : ℝ} (hv : 0 < v) (z μ g : ℝ) (b : EReal) :
    (z : EReal) * (Ideal.rsqrt v * g) + (b - (μ : EReal) * Ideal.rsqrt v * g)
      = Ideal.div ((z : EReal) - μ) (Ideal.sqrt v) * g + b := by
  have hs : Real.sqrt v ≠ 0 := (Real.sqrt_pos.2 hv).ne'
  rw [Ideal.rsqrt_coe, if_neg hv.le.not_gt, if_neg hv.ne', Ideal.sqrt_coe, if_neg hv.le.not_gt, Ideal.div_coe hs]
  rw [sub_eq_add_neg b, ← EReal.coe_mul, ← EReal.coe_mul, ← EReal.coe_mul, ← EReal.coe_mul, ← EReal.coe_neg, ← EReal.coe_sub,
    ← EReal.coe_mul, ← EReal.coe_mul, add_left_comm, add_comm b, ← EReal.coe_add]
  congr 2
  ring

/-- The number of rows, as the reference's divisor denotes it. -/
theorem count_val : (FloatOps.ofBits (F := Ideal) .f32 0x47C40000#32 : EReal) = ((100352 : ℝ) : EReal) := by
  show Ideal.ofBits .f32 0x47C40000#32 = _
  simp [Ideal.ofBits, Ideal.ieee, -EReal.coe_mul]
  norm_num

/-- What is added to the variance is positive. -/
theorem eps_val : ∃ e : ℝ, 0 < e ∧ (FloatOps.ofBits (F := Ideal) .f32 0x3727C5AC#32 : EReal) = (e : EReal) := by
  refine ⟨10995116 * (2 : ℝ) ^ (-40 : ℤ), by positivity, ?_⟩
  show Ideal.ofBits .f32 0x3727C5AC#32 = _
  simp [Ideal.ofBits, Ideal.ieee, -EReal.coe_mul]

end Cert.Gate

end
-- ==== Proof.GateRef.lean ====
/- The reference of the gate at an index: the mean and the variance of a column of the pre-activations, and the gated sum. -/
module

public import proofs.«01_k».proof.Proof.GateMath
public import proofs.«01_k».proof.Proof.RefRows
public import proofs.«01_k».proof.Proof.Gen.ReferenceGateIdeal.Read

@[expose] public section

set_option maxRecDepth 16384

noncomputable section

namespace Cert.ReferenceGateIdeal.Read

open Cert.ReferenceGateIdeal Cert.ReferenceGateIdeal.Gen Cert.Attn Cert.Gate
open Idealize.ShloMosaic
open Idealize.ShloMosaic.TcCoe Idealize.ShloMosaic.ValueIdx
open Cert.ReferenceIdeal.Read (idx4_ext)

/-- Two indices with the same coordinate are the same. -/
theorem idx1_ext {n0 : Nat} {x y : (⟨1, ![n0]⟩ : Shape).Idx} (h0 : (x 0).val = (y 0).val) : x = y :=
  funext fun a => Fin.ext (match a with | ⟨0, _⟩ => h0)
/-- The same for two coordinates. -/
theorem idx2_ext {n0 n1 : Nat} {x y : (⟨2, ![n0, n1]⟩ : Shape).Idx} (h0 : (x 0).val = (y 0).val) (h1 : (x 1).val = (y 1).val) : x = y :=
  funext fun a => Fin.ext (match a with | ⟨0, _⟩ => h0 | ⟨1, _⟩ => h1)

variable (x2 : (⟨S2x56x896x192, .bf16⟩ : BufTy).Contents (Elt Ideal))

/-- The pre-activation of channel `c` in row `n` of all rows. -/
def zAt (n : Fin 100352) (c : Fin 192) : EReal := x2 (ix4 (rowB n) (rowG n) (rowR n) c)

/-- The flat table of pre-activations. -/
theorem v6_at (n : Fin 100352) (c : Fin 192) : val_main_v6 (F := Ideal) x2 (ix2 n c) = zAt x2 n c := by
  have hn := n.isLt
  have hc := c.isLt
  unfold val_main_v6
  refine (shapeCast_apply _ _ _ (ix4 (rowB n) (rowG n) (rowR n) c) ?_).trans rfl
  rw [Shape.rowMajor_val_four, Shape.rowMajor_val_two]
  show ((n.val / 896 / 56 * 56 + n.val / 896 % 56) * 896 + n.val % 896) * 192 + c.val = n.val * 192 + c.val
  omega

variable (zr : S2x56x896x192.Idx → ℝ) (hz : ∀ i, x2 i = ((zr i : ℝ) : EReal))

/-- A column of the pre-activations, as real numbers. -/
def colAt (c : Fin 192) (n : Fin 100352) : ℝ := zr (ix4 (rowB n) (rowG n) (rowR n) c)
/-- The mean of a column. -/
def meanAt (c : Fin 192) : ℝ := (∑ n, colAt zr c n) * (1 / 100352)
/-- The variance of a column, as the mean of the squares minus the square of the mean. -/
def varAt (c : Fin 192) : ℝ := (∑ n, colAt zr c n * colAt zr c n) * (1 / 100352) - meanAt zr c * meanAt zr c

include hz

/-- A pre-activation, as a real number. -/
theorem zAt_eq (n : Fin 100352) (c : Fin 192) : zAt x2 n c = ((colAt zr c n : ℝ) : EReal) := hz _

/-- The sum of a column. -/
theorem v7_at (c : Fin 192) : val_main_v7 (F := Ideal) x2 (ix1 c) = ((∑ n, colAt zr c n : ℝ) : EReal) := by
  refine (val_main_v7_apply _ _).trans ?_
  have e0 : val_main_cst (F := Ideal) (Shape.Idx.first h_S_) = (0 : EReal) := Ideal.ofBits_zero_f32
  refine (congrArg₂ (· + ·) e0 (Finset.sum_congr rfl fun n _ => ?_)).trans ((zero_add _).trans (coe_sum (colAt zr c)))
  exact (congrArg (val_main_v6 (F := Ideal) x2) (idx2_ext rfl rfl)).trans ((v6_at x2 n c).trans (zAt_eq x2 zr hz n c))

/-- The mean of a column. -/
theorem v10_at (u : Fin 1) (c : Fin 192) : val_main_v10 (F := Ideal) x2 (ix2 u c) = ((meanAt zr c : ℝ) : EReal) := by
  have e8 : val_main_v8 (F := Ideal) x2 (ix2 u c) = ((∑ n, colAt zr c n : ℝ) : EReal) :=
    (val_main_v8_apply _ _).trans ((congrArg (val_main_v7 (F := Ideal) x2) (show idx_main_v8 (ix2 u c) = ix1 c from idx1_ext rfl)).trans (v7_at x2 zr hz c))
  have e9 : val_main_v9 (F := Ideal) (ix2 u c) = ((100352 : ℝ) : EReal) := (val_main_v9_apply _).trans count_val
  refine (val_main_v10_apply _ _).trans ?_
  rw [e8, e9, Ideal.hostDivf_def, Ideal.div_coe (by norm_num), ← EReal.coe_mul]
  rfl

/-- The mean again, as the variance takes it. -/
theorem call_v3_at (u : Fin 1) (c : Fin 192) : val_main_call0_v3 (F := Ideal) x2 (ix2 u c) = ((meanAt zr c : ℝ) : EReal) :=
  v10_at x2 zr hz u c

/-- The sum of the squared distances of a column to its mean. -/
theorem call_v9_at (c : Fin 192) : val_main_call0_v9 (F := Ideal) x2 (ix1 c)
    = ((∑ n, (colAt zr c n - meanAt zr c) * (colAt zr c n - meanAt zr c) : ℝ) : EReal) := by
  refine (val_main_call0_v9_apply _ _).trans ?_
  have e0 : val_main_call0_cst_2 (F := Ideal) (Shape.Idx.first h_S_) = (0 : EReal) := Ideal.ofBits_zero_f32
  refine (congrArg₂ (· + ·) e0 (Finset.sum_congr rfl fun n _ => ?_)).trans
    ((zero_add _).trans (coe_sum fun n => (colAt zr c n - meanAt zr c) * (colAt zr c n - meanAt zr c)))
  have e5 : val_main_call0_v5 (F := Ideal) x2 (idx_main_call0_v9 (ix1 c) n) = ((colAt zr c n - meanAt zr c : ℝ) : EReal) := by
    refine (val_main_call0_v5_apply _ _).trans ?_
    rw [EReal.coe_sub]
    refine congrArg₂ (· - ·) ?_ ?_
    · exact (congrArg (val_main_v6 (F := Ideal) x2) (idx2_ext rfl rfl)).trans ((v6_at x2 n c).trans (zAt_eq x2 zr hz n c))
    · exact (val_main_call0_v4_apply _ _).trans ((congrArg (val_main_call0_v3 (F := Ideal) x2) (show idx_main_call0_v4 (idx_main_call0_v9 (ix1 c) n) = ix2 0 c from idx2_ext rfl rfl)).trans (call_v3_at x2 zr hz 0 c))
  refine (val_main_call0_v6_apply _ _).trans ?_
  rw [e5, EReal.coe_mul]
  rfl

omit hz in
/-- The divisor of the variance is the number of rows. -/
theorem call_v8_at (i : S_.Idx) : val_main_call0_v8 (F := Ideal) i = ((100352 : ℝ) : EReal) := by
  refine (val_main_call0_v8_apply _).trans ?_
  have e1 : val_main_call0_cst_1 (F := Ideal) i = ((100352 : ℝ) : EReal) := count_val
  have e7 : val_main_call0_v7 (F := Ideal) i = ((0 : ℝ) : EReal) := by
    show (((0#32 : BitVec 32).toInt : ℝ) : EReal) = _
    norm_num
  rw [e1, e7]
  show ((100352 : ℝ) : EReal) - ((0 : ℝ) : EReal) = _
  rw [← EReal.coe_sub, sub_zero]

/-- The variance of a column. -/
theorem v11_at (u : Fin 1) (c : Fin 192) : val_main_v11 (F := Ideal) x2 (ix2 u c) = ((varAt zr c : ℝ) : EReal) := by
  have e10 : val_main_call0_v10 (F := Ideal) x2 (ix2 u c) = ((∑ n, (colAt zr c n - meanAt zr c) * (colAt zr c n - meanAt zr c) : ℝ) : EReal) :=
    (val_main_call0_v10_apply _ _).trans ((congrArg (val_main_call0_v9 (F := Ideal) x2) (show idx_main_call0_v10 (ix2 u c) = ix1 c from idx1_ext rfl)).trans (call_v9_at x2 zr hz c))
  have e11 : val_main_call0_v11 (F := Ideal) (ix2 u c) = ((100352 : ℝ) : EReal) := (val_main_call0_v11_apply _).trans (call_v8_at _)
  have e12 : val_main_call0_v12 (F := Ideal) x2 (ix2 u c) = ((varAt zr c : ℝ) : EReal) := by
    refine (val_main_call0_v12_apply _ _).trans ?_
    rw [e10, e11, Ideal.hostDivf_def, Ideal.div_coe (by norm_num), ← EReal.coe_mul]
    have := var_eq (n := 100352) (by norm_num) (colAt zr c)
    push_cast at this
    exact congrArg _ this
  have e13 : ∀ i, val_main_call0_v13 (F := Ideal) i = 1#1 := fun i => by
    refine (val_main_call0_v13_apply i).trans ?_
    have e3 : val_main_call0_cst_3 (F := Ideal) i = ((0 : ℝ) : EReal) := Ideal.ofBits_zero_f32
    rw [call_v8_at, e3]
    show BitVec.ofBool (decide (((0 : ℝ) : EReal) < ((100352 : ℝ) : EReal))) = 1#1
    rw [decide_eq_true (EReal.coe_lt_coe_iff.2 (by norm_num))]
    rfl
  have eb : broadcastInDim S1x192 ![] bcast_S_S1x192 (val_main_call0_v13 (F := Ideal)) (ix2 u c) = 1#1 :=
    (broadcastInDim_apply _ bcast_S_S1x192 _ _ (fun a => a.elim0) (fun a => a.elim0)).trans (e13 _)
  unfold val_main_v11
  show (if broadcastInDim S1x192 ![] bcast_S_S1x192 (val_main_call0_v13 (F := Ideal)) (ix2 u c) = 1#1 then _ else _) = _
  rw [if_pos eb]
  exact e12

/-- The normalized and scaled pre-activation, and the gate on it: row `n`, channel `c`. -/
theorem v30_at (x4 x5 : (⟨S192, .f32⟩ : BufTy).Contents (Elt Ideal)) (n : Fin 100352) (c : Fin 192) :
    val_main_v30 (F := Ideal) x2 x4 x5 (ix2 n c)
      = Ideal.logistic (Ideal.div (((colAt zr c n : ℝ) : EReal) - ((meanAt zr c : ℝ) : EReal))
          (Ideal.sqrt (((varAt zr c : ℝ) : EReal) + FloatOps.ofBits (F := Ideal) .f32 0x3727C5AC#32)) * x4 (ix1 c) + x5 (ix1 c)) := by
  have e1 : val_main_cst_2 (F := Ideal) (fun a => a.elim0) = (1 : EReal) := by
    show Ideal.ofBits .f32 0x3F800000#32 = 1
    simp [Ideal.ofBits, Ideal.ieee, -EReal.coe_mul]; norm_num
  have e27 : val_main_v27 (F := Ideal) (ix2 n c) = (1 : EReal) := (val_main_v27_apply _).trans e1
  have e29 : val_main_v29 (F := Ideal) (ix2 n c) = (1 : EReal) := (val_main_v29_apply _).trans e1
  have e13 : val_main_v13 (F := Ideal) x2 (ix2 n c) = ((colAt zr c n : ℝ) : EReal) - ((meanAt zr c : ℝ) : EReal) :=
    (val_main_v13_apply _ _).trans (congrArg₂ (· - ·) ((v6_at x2 n c).trans (zAt_eq x2 zr hz n c))
      ((val_main_v12_apply _ _).trans ((congrArg (val_main_v10 (F := Ideal) x2) (show idx_main_v12 (ix2 n c) = ix2 0 c from idx2_ext rfl rfl)).trans (v10_at x2 zr hz 0 c))))
  have e17 : val_main_v17 (F := Ideal) x2 (ix2 n c) = Ideal.sqrt (((varAt zr c : ℝ) : EReal) + FloatOps.ofBits (F := Ideal) .f32 0x3727C5AC#32) :=
    (val_main_v17_apply _ _).trans ((congrArg (val_main_v16 (F := Ideal) x2) (show idx_main_v17 (ix2 n c) = ix2 0 c from idx2_ext rfl rfl)).trans ((val_main_v16_apply _ _).trans
      (congrArg Ideal.sqrt (congrArg₂ (· + ·) (v11_at x2 zr hz 0 c) (val_main_v14_apply _)))))
  have e20 : val_main_v20 (F := Ideal) x4 (ix2 n c) = x4 (ix1 c) :=
    (val_main_v20_apply _ _).trans ((val_main_v19_apply _ _).trans (congrArg x4 (funext fun a => match a with | ⟨0, _⟩ => Fin.ext (by show 0 * 192 + c.val = c.val; omega))))
  have e23 : val_main_v23 (F := Ideal) x5 (ix2 n c) = x5 (ix1 c) :=
    (val_main_v23_apply _ _).trans ((val_main_v22_apply _ _).trans (congrArg x5 (funext fun a => match a with | ⟨0, _⟩ => Fin.ext (by show 0 * 192 + c.val = c.val; omega))))
  refine (val_main_v30_apply _ _ _ _).trans (congrArg₂ Ideal.div e29 ((val_main_v28_apply _ _ _ _).trans (congrArg₂ (· + ·) e27
    (congrArg (fun x : EReal => Ideal.exp (-x)) (congrArg₂ (· + ·) (congrArg₂ (· * ·) (congrArg₂ Ideal.div e13 e17) e20) e23)))))

/-- The reference's result: the input's row plus the gate times the projected attention's row. -/
theorem v33_at (x0 : (⟨S2x192x224x224, .f32⟩ : BufTy).Contents (Elt Ideal)) (x1 : (⟨S2x56x896x192, .bf16⟩ : BufTy).Contents (Elt Ideal))
    (x4 x5 : (⟨S192, .f32⟩ : BufTy).Contents (Elt Ideal)) (b : Fin 2) (n : Fin 50176) (c : Fin 192) (k : Fin 100352) (hk : k.val = b.val * 50176 + n.val) :
    val_main_v33 (F := Ideal) x0 x1 x2 x4 x5 (ix3 b n c)
      = val_main_v2 (F := Ideal) x0 (ix3 b n c) + Ideal.logistic (Ideal.div (((colAt zr c k : ℝ) : EReal) - ((meanAt zr c : ℝ) : EReal))
          (Ideal.sqrt (((varAt zr c : ℝ) : EReal) + FloatOps.ofBits (F := Ideal) .f32 0x3727C5AC#32)) * x4 (ix1 c) + x5 (ix1 c))
        * x1 (ix4 (rowB k) (rowG k) (rowR k) c) := by
  have hb := b.isLt
  have hn := n.isLt
  have hc := c.isLt
  have e31 : val_main_v31 (F := Ideal) x2 x4 x5 (ix3 b n c) = val_main_v30 (F := Ideal) x2 x4 x5 (ix2 k c) := by
    unfold val_main_v31
    refine shapeCast_apply _ _ _ (ix2 k c) ?_
    rw [Shape.rowMajor_val_two, Shape.rowMajor_val_three]
    show k.val * 192 + c.val = (b.val * 50176 + n.val) * 192 + c.val
    omega
  have e4 : val_main_v4 (F := Ideal) x1 (ix3 b n c) = x1 (ix4 (rowB k) (rowG k) (rowR k) c) := by
    unfold val_main_v4
    refine (shapeCast_apply _ _ _ (ix4 (rowB k) (rowG k) (rowR k) c) ?_).trans rfl
    rw [Shape.rowMajor_val_four, Shape.rowMajor_val_three]
    show ((k.val / 896 / 56 * 56 + k.val / 896 % 56) * 896 + k.val % 896) * 192 + c.val = (b.val * 50176 + n.val) * 192 + c.val
    omega
  exact (val_main_v33_apply _ _ _ _ _ _).trans (congrArg (_ + ·) ((val_main_v32_apply _ _ _ _ _).trans
    (congrArg₂ (· * ·) (e31.trans (v30_at x2 zr hz x4 x5 k c)) e4)))

end Cert.ReferenceGateIdeal.Read

end
-- ==== Proof.Gate.lean ====
/- The gate at the ideal values: what one grid point writes, what the result array holds, and that the plain batch
   normalization and gate compute the same. -/
module

public import proofs.«01_k».proof.Proof.GateRef
public import proofs.«01_k».proof.Proof.Gen.KernelGateIdeal.Value
public import proofs.«01_k».proof.Proof.Gen.Pre_sums_of
public import Idealize.ShloMosaic.Lib.Pipeline.ValueKit
public import proofs.«01_k».proof.Defs

@[expose] public section

set_option maxRecDepth 16384

noncomputable section

namespace Cert.KernelGateIdeal.Gen

open Cert.KernelGateIdeal Cert.Gate
open Idealize.ShloMosaic hiding ix1 ix2 ix3 ix4
open Idealize.ShloMosaic.TcCoe Idealize.ShloMosaic.ValueIdx Idealize.SL.Sem
open Cert.ReferenceIdeal.Read (idx4_ext)

/-! ## One grid point -/

/-- The groups' sums, added over all groups: row `k` of the eight, channel `c`. -/
def total (ps : Vec Ideal S2x56x8x192 .f32) (k : Fin 8) (c : Fin 192) : EReal := ∑ b : Fin 2, ∑ g : Fin 56, ps (ix4 b g k c)

/-- Adding up over the batch and the groups. -/
theorem total_at (ps : Vec Ideal S2x56x8x192 .f32) (k : Fin 8) (c : Fin 192) :
    multiReduction (F := Ideal) .add [0, 1] S8x192 ps 0x00000000#32 reduces_S2x56x8x192_S8x192 (.inl rfl) rfl (ix2 k c) = total ps k c := by
  show ∑ i ∈ Finset.univ.filter (fun i => reduces_S2x56x8x192_S8x192.drop i = ix2 k c), ps i = _
  have e : total ps k c = ∑ p : Fin 2 × Fin 56, ps (ix4 p.1 p.2 k c) := (Fintype.sum_prod_type (fun p : Fin 2 × Fin 56 => ps (ix4 p.1 p.2 k c))).symm
  have d0 : ∀ i, (reduces_S2x56x8x192_S8x192.drop i 0 : Nat) = i 2 := fun i => reduces_S2x56x8x192_S8x192.drop_apply_val_of_eq i 0 2
  have d1 : ∀ i, (reduces_S2x56x8x192_S8x192.drop i 1 : Nat) = i 3 := fun i => reduces_S2x56x8x192_S8x192.drop_apply_val_of_eq i 1 3
  rw [e]
  have back : ∀ i ∈ Finset.univ.filter (fun i => reduces_S2x56x8x192_S8x192.drop i = ix2 k c), ix4 (i 0) (i 1) k c = i := fun i hi => by
    have h := (Finset.mem_filter.1 hi).2
    refine idx4_ext rfl rfl ?_ ?_
    · exact (congrArg (fun j : S8x192.Idx => (j 0).val) h).symm.trans (d0 i)
    · exact (congrArg (fun j : S8x192.Idx => (j 1).val) h).symm.trans (d1 i)
  refine Finset.sum_nbij' (fun i => ((i 0, i 1) : Fin 2 × Fin 56)) (fun p => ix4 p.1 p.2 k c) (fun _ _ => Finset.mem_univ _) (fun p _ => ?_)
    (fun i hi => back i hi) (fun _ _ => rfl) (fun i hi => congrArg ps (back i hi).symm)
  refine Finset.mem_filter.2 ⟨Finset.mem_univ _, funext fun a => Fin.ext ?_⟩
  match a with
  | ⟨0, _⟩ => exact d0 _
  | ⟨1, _⟩ => exact d1 _

/-- The mean the kernel takes from the groups' sums. -/
def mu (ps : Vec Ideal S2x56x8x192 .f32) (c : Fin 192) : EReal := total ps 0 c * ((1 / 100352 : ℝ) : EReal)
/-- The reciprocal root of the variance it takes from them. -/
def inv (ps : Vec Ideal S2x56x8x192 .f32) (c : Fin 192) : EReal :=
  Ideal.rsqrt (total ps 1 c * ((1 / 100352 : ℝ) : EReal) - mu ps c * mu ps c + FloatOps.ofBits (F := Ideal) .f32 0x3727C5AC#32)

/-- The gated rows of a grid point. -/
theorem pay3_at (ps : Vec Ideal S2x56x8x192 .f32) (g b : Vec Ideal S1x192 .f32) (z y : Vec Ideal S1x1x896x192 .bf16) (r : Fin 896) (c : Fin 192) :
    k0_pay3 ps g b z y (ix2 r c) = Ideal.logistic ((z (ix4 0 0 r c) : EReal) * (inv ps c * g (ix2 0 c)) + (b (ix2 0 c) - mu ps c * inv ps c * g (ix2 0 c)))
      * y (ix4 0 0 r c) := by
  have hn : (Named.named (F := Ideal) (φ := .f32) κ "inv_n" 0x37272F05#32 : EReal) = ((1 / 100352 : ℝ) : EReal) :=
    IdealRules.named_const.ideal_named_scalar _ _ _ _ rfl
  have rows : ∀ x : Vec Ideal S1x1x896x192 .bf16, shapeCast S896x192 x shapeCasts_S1x1x896x192_S896x192 (ix2 r c) = x (ix4 0 0 r c) := fun x =>
    shapeCast_apply x _ _ (ix4 0 0 r c) (by
      rw [Shape.rowMajor_val_four, Shape.rowMajor_val_two]
      show ((0 * 1 + 0) * 896 + r.val) * 192 + c.val = r.val * 192 + c.val
      omega)
  have chan : ∀ x : FVec Ideal S1x192 .f32, broadcastTo S896x192 x broadcasts_S1x192_S896x192 (ix2 r c) = x (ix2 0 c) := fun x =>
    broadcastTo_apply x _ _ (ix2 0 c) fun a => match a with
      | ⟨0, _⟩ => rfl
      | ⟨1, _⟩ => rfl
  have same : ∀ x : Vec Ideal S1x192 .f32, shapeCast S1x192 x shapeCasts_S1x192_S1x192 (ix2 0 c) = x (ix2 0 c) := fun x => shapeCast_apply x _ _ _ rfl
  have s0 : extractStridedSlice S1x192 ![0, 0] (multiReduction (F := Ideal) .add [0, 1] S8x192 ps 0x00000000#32 reduces_S2x56x8x192_S8x192 (.inl rfl) rfl)
      slices_S8x192_o0_0_S1x192 (ix2 0 c) = total ps 0 c :=
    (extractStridedSlice_apply _ _ _ _ (ix2 0 c) fun a => match a with
      | ⟨0, _⟩ => rfl
      | ⟨1, _⟩ => (Nat.zero_add _).symm).trans (total_at ps 0 c)
  have s1 : extractStridedSlice S1x192 ![1, 0] (multiReduction (F := Ideal) .add [0, 1] S8x192 ps 0x00000000#32 reduces_S2x56x8x192_S8x192 (.inl rfl) rfl)
      slices_S8x192_o1_0_S1x192 (ix2 0 c) = total ps 1 c :=
    (extractStridedSlice_apply _ _ _ _ (ix2 1 c) fun a => match a with
      | ⟨0, _⟩ => rfl
      | ⟨1, _⟩ => (Nat.zero_add _).symm).trans (total_at ps 1 c)
  have em := congrArg₂ (· * ·) s0 hn
  have ei := congrArg Ideal.rsqrt (congrArg (· + FloatOps.ofBits (F := Ideal) .f32 0x3727C5AC#32) (congrArg₂ (· - ·) (congrArg₂ (· * ·) s1 hn) (congrArg₂ (· * ·) em em)))
  unfold k0_pay3
  refine congrArg₂ (· * ·) (congrArg Ideal.logistic (congrArg₂ (· + ·) (congrArg₂ (· * ·) (rows z) ((chan _).trans ?_)) ((chan _).trans ?_))) (rows y)
  · exact congrArg₂ (· * ·) ei (same g)
  · exact congrArg₂ (· - ·) (same b) (congrArg₂ (· * ·) (congrArg₂ (· * ·) em ei) (same g))

/-- What a grid point leaves: its rows of the input plus the gate times its rows of the projected attention. -/
theorem out6_at (w : Vec Ideal S1x896x192 .f32) (y z : Vec Ideal S1x1x896x192 .bf16) (ps : Vec Ideal S2x56x8x192 .f32) (g b : Vec Ideal S1x192 .f32) (j : S1x896x192.Idx) :
    out0_6 w y z ps g b j = w (ix3 0 (j 1) (j 2)) + Ideal.logistic ((z (ix4 0 0 (j 1) (j 2)) : EReal) * (inv ps (j 2) * g (ix2 0 (j 2)))
      + (b (ix2 0 (j 2)) - mu ps (j 2) * inv ps (j 2) * g (ix2 0 (j 2)))) * y (ix4 0 0 (j 1) (j 2)) := by
  have e3 : ∀ x : Vec Ideal S1x896x192 .f32, View.ld x r0_3 = x := fun X => funext fun x => congrArg X (funext fun a => Fin.ext (match a with
    | ⟨0, _⟩ => by show 0 + 1 * (x 0).val = (x 0).val; omega
    | ⟨1, _⟩ => by show 0 + 1 * (x 1).val = (x 1).val; omega
    | ⟨2, _⟩ => by show 0 + 1 * (x 2).val = (x 2).val; omega))
  have e2 : ∀ x : Vec Ideal S1x1x896x192 .bf16, View.ld x r0_2 = x := fun X => funext fun x => congrArg X (funext fun a => Fin.ext (match a with
    | ⟨0, _⟩ => by show 0 + 1 * (x 0).val = (x 0).val; omega
    | ⟨1, _⟩ => by show 0 + 1 * (x 1).val = (x 1).val; omega
    | ⟨2, _⟩ => by show 0 + 1 * (x 2).val = (x 2).val; omega
    | ⟨3, _⟩ => by show 0 + 1 * (x 3).val = (x 3).val; omega))
  have e1 : ∀ x : Vec Ideal S1x192 .f32, View.ld x r0_1 = x := fun X => funext fun x => congrArg X (funext fun a => Fin.ext (match a with
    | ⟨0, _⟩ => by show 0 + 1 * (x 0).val = (x 0).val; omega
    | ⟨1, _⟩ => by show 0 + 1 * (x 1).val = (x 1).val; omega))
  have e0 : View.ld ps r0_0 = ps := funext fun x => congrArg ps (funext fun a => Fin.ext (match a with
    | ⟨0, _⟩ => by show 0 + 1 * (x 0).val = (x 0).val; omega
    | ⟨1, _⟩ => by show 0 + 1 * (x 1).val = (x 1).val; omega
    | ⟨2, _⟩ => by show 0 + 1 * (x 2).val = (x 2).val; omega
    | ⟨3, _⟩ => by show 0 + 1 * (x 3).val = (x 3).val; omega))
  have hz3 : (![0, 0, 0] : Fin 3 → Nat) = fun _ => 0 := by funext a; fin_cases a <;> rfl
  have ec : out0_6 w y z ps g b = k0_pay1 (k0_pay2 w) (k0_pay3 ps g b z y) := by
    unfold out0_6
    rw [e0, e1, e1, e2, e2, e3]
    exact View.canon_unit_zero hz3 _ _
  have h0 : (j 0).val < 1 := (j 0).isLt
  rw [ec]
  unfold k0_pay1
  refine (shapeCast_apply _ shapeCasts_S896x192_S1x896x192 j (ix2 (j 1) (j 2)) ?_).trans (congrArg₂ (· + ·) ?_ (pay3_at ps g b z y (j 1) (j 2)))
  · rw [Shape.rowMajor_val_two, Shape.rowMajor_val_three]
    show (j 1).val * 192 + (j 2).val = ((j 0).val * 896 + (j 1).val) * 192 + (j 2).val
    omega
  · unfold k0_pay2
    refine shapeCast_apply w shapeCasts_S1x896x192_S896x192 _ (ix3 0 (j 1) (j 2)) ?_
    rw [Shape.rowMajor_val_two, Shape.rowMajor_val_three]
    show (0 * 896 + (j 1).val) * 192 + (j 2).val = (j 1).val * 192 + (j 2).val
    omega

/-! ## The result array -/

variable (m : (ℓ : Loc nD τ sig) → Buf (Elt Ideal) ℓ) (c : Dev nD)

/-- The input, the projected attention, the pre-activations, the groups' sums, the gain and the offset on one core. -/
abbrev p0 : Vec Ideal S2x192x224x224 .f32 := m ((c.tc : Thread nD τ).loc main_arg0)
abbrev p1 : Vec Ideal S2x56x896x192 .bf16 := m ((c.tc : Thread nD τ).loc main_arg1)
abbrev p2 : Vec Ideal S2x56x896x192 .bf16 := m ((c.tc : Thread nD τ).loc main_arg2)
abbrev p3 : Vec Ideal S2x56x8x192 .f32 := m ((c.tc : Thread nD τ).loc main_arg3)
abbrev p4 : Vec Ideal S192 .f32 := m ((c.tc : Thread nD τ).loc main_arg4)
abbrev p5 : Vec Ideal S192 .f32 := m ((c.tc : Thread nD τ).loc main_arg5)

/-- The input cut into windows, their rows one after the other, as the reference cuts it. -/
abbrev rows : Vec Ideal S2x50176x192 .f32 := Cert.ReferenceGateIdeal.Read.val_main_v2 (F := Ideal) (p0 m c)

/-- The batch element of a grid point. -/
def bOf (t : Fin cfg0.N) : Fin 2 := ⟨t.val / 56, by have h : t.val < 112 := t.isLt; omega⟩
/-- The group of windows of a grid point. -/
def gOf (t : Fin cfg0.N) : Fin 56 := ⟨t.val % 56, by omega⟩

/-- Every window's block index at every grid point. -/
theorem win_idx : ∀ t : Fin cfg0.N, win0_0.index t = ![t.val / 56, t.val % 56, 0] ∧ win0_1.index t = ![t.val / 56, t.val % 56, 0, 0]
    ∧ win0_2.index t = ![t.val / 56, t.val % 56, 0, 0] ∧ win0_3.index t = ![0, 0, 0, 0] ∧ win0_4.index t = ![0, 0] ∧ win0_5.index t = ![0, 0]
    ∧ win0_6.index t = ![t.val / 56, t.val % 56, 0] :=
  (by decide +kernel : ∀ t : Fin grid0.N, _)

/-- The rows the kernel is given. -/
theorem V_main_v2 : V m c main_v2 = rows m c := by
  show StableHlo.after hostOps0 _ (Proc.devRef .tc main_v2) = _
  after_results
  rfl

/-- The gain the kernel is given, as one row. -/
theorem V_main_v3 : V m c main_v3 = shapeCast S1x192 (p4 m c) shapeCasts_S192_S1x192 := by
  show StableHlo.after hostOps0 _ (Proc.devRef .tc main_v3) = _
  after_results
  rfl
/-- The offset the kernel is given, as one row. -/
theorem V_main_v4 : V m c main_v4 = shapeCast S1x192 (p5 m c) shapeCasts_S192_S1x192 := by
  show StableHlo.after hostOps0 _ (Proc.devRef .tc main_v4) = _
  after_results
  rfl

/-- Row `r` of group `g`, among all rows of a batch element. -/
def rowOf (g : Fin 56) (r : Fin 896) : Fin 50176 := ⟨896 * g.val + r.val, by have := g.isLt; have := r.isLt; omega⟩

/-- A grid point's rows of the input. -/
theorem iblk0_at (t : Fin cfg0.N) (r : Fin 896) (k : Fin 192) : iblk m c 0 t (ix3 0 r k) = rows m c (ix3 (bOf t) (rowOf (gOf t) r) k) := by
  have e : iblk m c 0 t (ix3 0 r k) = (V m c main_v2 : S2x50176x192.Idx → EReal) (ix3 (bOf t) (rowOf (gOf t) r) k) := by
    blk_ext [iblk, win_idx t, bOf, gOf, rowOf]
    show t.val % 56 * 896 + r.val = 896 * (t.val % 56) + r.val
    omega
  rw [e, V_main_v2]
/-- A grid point's rows of the projected attention. -/
theorem iblk1_at (t : Fin cfg0.N) (r : Fin 896) (k : Fin 192) : iblk m c 1 t (ix4 0 0 r k) = p1 m c (ix4 (bOf t) (gOf t) r k) := by
  have e : iblk m c 1 t (ix4 0 0 r k) = (V m c main_arg1 : S2x56x896x192.Idx → EReal) (ix4 (bOf t) (gOf t) r k) := by
    blk_ext [iblk, win_idx t, bOf, gOf]
  rw [e, V_main_arg1]
/-- A grid point's rows of the pre-activations. -/
theorem iblk2_at (t : Fin cfg0.N) (r : Fin 896) (k : Fin 192) : iblk m c 2 t (ix4 0 0 r k) = p2 m c (ix4 (bOf t) (gOf t) r k) := by
  have e : iblk m c 2 t (ix4 0 0 r k) = (V m c main_arg2 : S2x56x896x192.Idx → EReal) (ix4 (bOf t) (gOf t) r k) := by
    blk_ext [iblk, win_idx t, bOf, gOf]
  rw [e, V_main_arg2]
/-- Every grid point reads all the groups' sums. -/
theorem iblk3_eq (t : Fin cfg0.N) : iblk m c 3 t = p3 m c := funext fun x => by
  have e : iblk m c 3 t x = (V m c main_arg3 : S2x56x8x192.Idx → EReal) x := by
    blk_ext [iblk, win_idx t]
  rw [e, V_main_arg3]
/-- Every grid point reads the whole gain. -/
theorem iblk4_at (t : Fin cfg0.N) (k : Fin 192) : iblk m c 4 t (ix2 0 k) = p4 m c (ix1 k) := by
  have e : iblk m c 4 t (ix2 0 k) = (V m c main_v3 : S1x192.Idx → EReal) (ix2 0 k) := by
    blk_ext [iblk, win_idx t]
  rw [e, V_main_v3]
  refine shapeCast_apply _ _ _ (ix1 k) ?_
  rw [Shape.rowMajor_val_one, Shape.rowMajor_val_two]
  show k.val = 0 * 192 + k.val
  omega
/-- Every grid point reads the whole offset. -/
theorem iblk5_at (t : Fin cfg0.N) (k : Fin 192) : iblk m c 5 t (ix2 0 k) = p5 m c (ix1 k) := by
  have e : iblk m c 5 t (ix2 0 k) = (V m c main_v4 : S1x192.Idx → EReal) (ix2 0 k) := by
    blk_ext [iblk, win_idx t]
  rw [e, V_main_v4]
  refine shapeCast_apply _ _ _ (ix1 k) ?_
  rw [Shape.rowMajor_val_one, Shape.rowMajor_val_two]
  show k.val = 0 * 192 + k.val
  omega

/-- The gated rows, at batch element `b`, group `g`, row `r` of the group and channel `k`, as the kernel computes them. -/
def gated (b : Fin 2) (g : Fin 56) (r : Fin 896) (k : Fin 192) : EReal :=
  rows m c (ix3 b (rowOf g r) k) + Ideal.logistic ((p2 m c (ix4 b g r k) : EReal) * (inv (p3 m c) k * p4 m c (ix1 k))
    + (p5 m c (ix1 k) - mu (p3 m c) k * inv (p3 m c) k * p4 m c (ix1 k))) * p1 m c (ix4 b g r k)

/-- The result array: the row `n` of a batch element is row `n % 896` of group `n / 896`. -/
def GATED : Vec Ideal S2x50176x192 .f32 := fun i =>
  gated m c (i 0) ⟨(i 1).val / 896, by have h : (i 1).val < 50176 := (i 1).isLt; omega⟩ ⟨(i 1).val % 896, by omega⟩ (i 2)

/-- What a grid point leaves in its block, at an index. -/
theorem block6_at (t : Fin cfg0.N) (j : S1x896x192.Idx) :
    out0_6 (iblk m c 0 t) (iblk m c 1 t) (iblk m c 2 t) (iblk m c 3 t) (iblk m c 4 t) (iblk m c 5 t) j = gated m c (bOf t) (gOf t) (j 1) (j 2) := by
  have e3 := iblk3_eq m c t
  exact (out6_at _ _ _ _ _ _ j).trans (congrArg₂ (· + ·) (iblk0_at m c t (j 1) (j 2)) (congrArg₂ (· * ·) (congrArg Ideal.logistic
    (congrArg₂ (· + ·) (congrArg₂ (· * ·) (iblk2_at m c t (j 1) (j 2)) (congrArg₂ (· * ·) (congrArg (fun ps => inv ps (j 2)) e3) (iblk4_at m c t (j 2))))
      (congrArg₂ (· - ·) (iblk5_at m c t (j 2)) (congrArg₂ (· * ·) (congrArg (fun ps => mu ps (j 2) * inv ps (j 2)) e3) (iblk4_at m c t (j 2))))))
    (iblk1_at m c t (j 1) (j 2))))

/-- The result array holds the gated rows. -/
theorem arr6_eq : (dats m 0 c).arrAt 6 cfg0.N = GATED m c := by
  refine (dats m 0 c).arrAt_eq_of_covers 6 _ (by decide +kernel) fun t hf y => ?_
  blk_simp
  rw [after0_6]
  refine (block6_at m c t y).trans ?_
  have h1 : (y 1).val < 896 := (y 1).isLt
  have key : gated m c (bOf t) (gOf t) (y 1) (y 2) = GATED m c (ix3 (bOf t) (rowOf (gOf t) (y 1)) (y 2)) := by
    unfold GATED
    refine congrArg₂ (fun g r => gated m c (bOf t) g r (y 2)) (Fin.ext ?_) (Fin.ext ?_)
    · show t.val % 56 = (896 * (t.val % 56) + (y 1).val) / 896; omega
    · show (y 1).val = (896 * (t.val % 56) + (y 1).val) % 896; omega
  refine key.trans (congrArg (GATED m c) ?_)
  blk_ext [win_idx t, bOf, gOf, rowOf]

/-! ## The precondition -/

/-- A comparison for equality that came out true. -/
theorem eq_of_cmpf {x y : EReal} (h : FloatOps.cmpf (F := Ideal) (φ := .f32) .oeq x y = 1#1) : x = y := by
  have key : ∀ p : Bool, BitVec.ofBool p = 1#1 → p = true := by decide
  exact of_decide_eq_true (key _ h)

/-- The sum over a group's rows. -/
theorem group_sum (x : FVec Ideal Cert.Pre_sums_of.S2x56x896x192 .f32) (b : Fin 2) (g : Fin 56) (k : Fin 192) :
    Host.reduceAdd x (constant Cert.Pre_sums_of.S_ .f32 0x00000000#32) Cert.Pre_sums_of.Facts.reducesTo_S2x56x896x192_S2x56x192_d2 Cert.Pre_sums_of.Facts.h_S_ (ix3 b g k)
      = ∑ r : Fin 896, x (ix4 b g r k) := by
  simp only [Host.reduceAdd, Ideal.hostReduceAdd_def]
  rw [Ideal.hostReduceAdd_single Cert.Pre_sums_of.Facts.reducesTo_S2x56x896x192_S2x56x192_d2 (by decide)]
  have e0 : constant (F := Ideal) Cert.Pre_sums_of.S_ .f32 0x00000000#32 (Shape.Idx.first Cert.Pre_sums_of.Facts.h_S_) = (0 : EReal) := Ideal.ofBits_zero_f32
  refine (congrArg₂ (· + ·) e0 (Finset.sum_congr rfl fun r _ => congrArg x ?_)).trans (zero_add _)
  exact idx4_ext rfl rfl rfl rfl

/-- The precondition `sums_of` element by element: the pre-activations and the gain are real numbers, and the first two of the
    eight rows of sums hold each group's sum of the pre-activations and of their squares. -/
theorem of_sums_of (x0 x1 : _) (Z : Vec Ideal S2x56x896x192 .bf16) (ps : Vec Ideal S2x56x8x192 .f32) (ga be : Vec Ideal S192 .f32)
    (h : Cert.Pre_sums_of.fn (F := Ideal) x0 x1 Z ps ga be = fun _ => 1#1) :
    (∀ i, Cert.Attn.Fin' (Z i)) ∧ (∀ i, Cert.Attn.Fin' (ga i))
      ∧ (∀ b g k, ps (ix4 b g 0 k) = ∑ r : Fin 896, (Z (ix4 b g r k) : EReal))
      ∧ (∀ b g k, ps (ix4 b g 1 k) = ∑ r : Fin 896, (Z (ix4 b g r k) * Z (ix4 b g r k) : EReal)) := by
  have e := congrFun h (fun a => a.elim0)
  obtain ⟨e, e2⟩ := IntOp.andi_eq_one.1 e
  obtain ⟨e, e1⟩ := IntOp.andi_eq_one.1 e
  obtain ⟨ez, eg⟩ := IntOp.andi_eq_one.1 e
  have slice : ∀ (q : Fin 8) (hs : Cert.Pre_sums_of.S2x56x8x192.Slices ![0, 0, q.val, 0] Cert.Pre_sums_of.S2x56x1x192) (b : Fin 2) (g : Fin 56) (k : Fin 192),
      shapeCast Cert.Pre_sums_of.S2x56x192 (extractStridedSlice Cert.Pre_sums_of.S2x56x1x192 ![0, 0, q.val, 0] ps hs) Cert.Pre_sums_of.Facts.shapeCasts_S2x56x1x192_S2x56x192 (ix3 b g k)
        = ps (ix4 b g q k) := fun q hs b g k => by
    refine (shapeCast_apply _ _ _ (ix4 b g (0 : Fin 1) k) ?_).trans (extractStridedSlice_apply _ ps hs _ (ix4 b g q k) fun a => match a with
      | ⟨0, _⟩ => (Nat.zero_add _).symm
      | ⟨1, _⟩ => (Nat.zero_add _).symm
      | ⟨2, _⟩ => rfl
      | ⟨3, _⟩ => (Nat.zero_add _).symm)
    rw [Shape.rowMajor_val_three, Shape.rowMajor_val_four]
    show ((b.val * 56 + g.val) * 1 + 0) * 192 + k.val = (b.val * 56 + g.val) * 192 + k.val
    omega
  refine ⟨fun i => Cert.Attn.fin_of_cmpf (Host.reduce_andi_all _ _ _ _ _ ez i), fun i => Cert.Attn.fin_of_cmpf (Host.reduce_andi_all _ _ _ _ _ eg i),
    fun b g k => ?_, fun b g k => ?_⟩
  · exact (slice 0 _ b g k).symm.trans ((eq_of_cmpf (Host.reduce_andi_all _ _ _ _ _ e1 (ix3 b g k))).trans (group_sum _ b g k))
  · exact (slice 1 _ b g k).symm.trans ((eq_of_cmpf (Host.reduce_andi_all _ _ _ _ _ e2 (ix3 b g k))).trans (group_sum _ b g k))

/-! ## The plain gate's result -/

open Cert.ReferenceGateIdeal.Read in
/-- Under the precondition the plain normalization and gate give the gated rows of the kernel. -/
theorem ref_gated (h : Cert.Pre_KernelGateIdeal_sums_of m) :
    val_main_v33 (F := Ideal) (p0 m c) (p1 m c) (p2 m c) (p4 m c) (p5 m c) = GATED m c := funext fun i => by
  obtain ⟨fz, fg, s0, s1⟩ := of_sums_of _ _ _ _ _ _ (h c)
  choose zr hz using fz
  choose gr hg using fg
  have t0 : ∀ k, total (p3 m c) 0 k = ((∑ n, colAt zr k n : ℝ) : EReal) := fun k => by
    unfold total
    rw [Finset.sum_congr rfl fun b _ => Finset.sum_congr rfl fun g _ => s0 b g k, ← sum_rows fun b g r => (p2 m c (ix4 b g r k) : EReal),
      ← Cert.Attn.coe_sum]
    exact Finset.sum_congr rfl fun n _ => hz _
  have t1 : ∀ k, total (p3 m c) 1 k = ((∑ n, colAt zr k n * colAt zr k n : ℝ) : EReal) := fun k => by
    unfold total
    rw [Finset.sum_congr rfl fun b _ => Finset.sum_congr rfl fun g _ => s1 b g k, ← sum_rows fun b g r => (p2 m c (ix4 b g r k) * p2 m c (ix4 b g r k) : EReal),
      ← Cert.Attn.coe_sum]
    refine Finset.sum_congr rfl fun n _ => ?_
    rw [EReal.coe_mul]
    exact congrArg₂ (· * ·) (hz _) (hz _)
  have em : ∀ k, mu (p3 m c) k = ((meanAt zr k : ℝ) : EReal) := fun k => by
    unfold mu
    rw [t0, ← EReal.coe_mul]
    rfl
  obtain ⟨e, he, hv⟩ := eps_val
  have ei : ∀ k, inv (p3 m c) k = Ideal.rsqrt ((varAt zr k + e : ℝ) : EReal) := fun k => by
    unfold inv
    rw [t1, em, hv, ← EReal.coe_mul, ← EReal.coe_mul, ← EReal.coe_sub, ← EReal.coe_add]
    rfl
  have pos : ∀ k, 0 < varAt zr k + e := fun k => by
    have := var_nonneg (n := 100352) (by norm_num) (colAt zr k)
    push_cast at this
    exact add_pos_of_nonneg_of_pos this he
  have h0 : (i 0).val < 2 := (i 0).isLt
  have h1 : (i 1).val < 50176 := (i 1).isLt
  let k : Fin 100352 := ⟨(i 0).val * 50176 + (i 1).val, by omega⟩
  have eb : rowB k = i 0 := Fin.ext (by show ((i 0).val * 50176 + (i 1).val) / 896 / 56 = (i 0).val; omega)
  have eg : rowG k = ⟨(i 1).val / 896, by omega⟩ := Fin.ext (by show ((i 0).val * 50176 + (i 1).val) / 896 % 56 = (i 1).val / 896; omega)
  have er : rowR k = ⟨(i 1).val % 896, by omega⟩ := Fin.ext (by show ((i 0).val * 50176 + (i 1).val) % 896 = (i 1).val % 896; omega)
  have ii : i = ix3 (i 0) (i 1) (i 2) := funext fun a => match a with
    | ⟨0, _⟩ => rfl
    | ⟨1, _⟩ => rfl
    | ⟨2, _⟩ => rfl
  have er' : ix3 (i 0) (rowOf ⟨(i 1).val / 896, by omega⟩ ⟨(i 1).val % 896, by omega⟩) (i 2) = i := funext fun a => match a with
    | ⟨0, _⟩ => rfl
    | ⟨1, _⟩ => Fin.ext (by show 896 * ((i 1).val / 896) + (i 1).val % 896 = (i 1).val; omega)
    | ⟨2, _⟩ => rfl
  have idx : ix4 (rowB k) (rowG k) (rowR k) (i 2) = ix4 (i 0) ⟨(i 1).val / 896, by omega⟩ ⟨(i 1).val % 896, by omega⟩ (i 2) :=
    idx4_ext (congrArg Fin.val eb) (congrArg Fin.val eg) (congrArg Fin.val er) rfl
  have zk : (p2 m c (ix4 (i 0) ⟨(i 1).val / 896, by omega⟩ ⟨(i 1).val % 896, by omega⟩ (i 2)) : EReal) = ((colAt zr (i 2) k : ℝ) : EReal) :=
    (congrArg (p2 m c) idx.symm).trans (hz _)
  have norm : ∀ (d : Fin 192) (z : ℝ), Ideal.div ((z : EReal) - ((meanAt zr d : ℝ) : EReal))
      (Ideal.sqrt (((varAt zr d : ℝ) : EReal) + FloatOps.ofBits (F := Ideal) .f32 0x3727C5AC#32)) * p4 m c (ix1 d) + p5 m c (ix1 d)
      = (z : EReal) * (inv (p3 m c) d * p4 m c (ix1 d)) + (p5 m c (ix1 d) - mu (p3 m c) d * inv (p3 m c) d * p4 m c (ix1 d)) := fun d z => by
    rw [em, ei, show p4 m c (ix1 d) = ((gr (ix1 d) : ℝ) : EReal) from hg _, hv, ← EReal.coe_add]
    exact (normalize (pos d) _ _ _ _).symm
  refine (congrArg (val_main_v33 (F := Ideal) (p0 m c) (p1 m c) (p2 m c) (p4 m c) (p5 m c)) ii).trans
    ((v33_at (p2 m c) zr hz (p0 m c) (p1 m c) (p4 m c) (p5 m c) (i 0) (i 1) (i 2) k rfl).trans ?_)
  refine congrArg₂ (· + ·) (congrArg (rows m c) (ii.symm.trans er'.symm)) (congrArg₂ (· * ·) (congrArg Ideal.logistic ?_) (congrArg (p1 m c) idx))
  exact (norm (i 2) (colAt zr (i 2) k)).trans (congrArg (fun z : EReal => z * (inv (p3 m c) (i 2) * p4 m c (ix1 (i 2)))
    + (p5 m c (ix1 (i 2)) - mu (p3 m c) (i 2) * inv (p3 m c) (i 2) * p4 m c (ix1 (i 2)))) zk.symm)

/-- The kernel and the plain normalization and gate end with the same array, element by element equal as extended reals, wherever the
    precondition holds. -/
theorem algebraic : Cert.algebraic_KernelGateIdeal_ReferenceGateIdeal_pre_sums_of := by
  intro m g m' g' hpre hm
  refine ⟨fun c => GATED m c, ?_, ?_⟩
  · refine (θ_run _ _ _).mono (fun r hr c => ?_) (Cert.KernelGateIdeal.Value.run_blocks m g)
    obtain ⟨e5, e⟩ := hr c
    exact ⟨e5.trans (arr6_eq m c), e⟩
  · refine (θ_run _ _ _).mono (fun r hr c => ?_) (Cert.ReferenceGateIdeal.Value.run m' g')
    obtain ⟨e33, e⟩ := hr c
    obtain ⟨h0, h1, h2, h3, h4, h5⟩ := hm c
    refine ⟨e33.trans ((Cert.ReferenceGateIdeal.Read.val_main_v33_eq _ _ _ _ _).trans ?_), e⟩
    rw [h0, h1, h2, h4, h5]
    exact ref_gated m c hpre

/-- The reference's frame: it has no semaphore, so no counter that could be other than zero. -/
theorem frame_reference : Cert.quiescent_ReferenceGateIdeal := fun m ρ _ =>
  (θ_run _ _ _).mono (fun r h => ⟨fun c => (h c).2, funext fun g => match g with
    | ⟨_, .reg s⟩ => s.elim0
    | ⟨_, .dma s⟩ => s.elim0⟩) (Cert.ReferenceGateIdeal.Value.run m ρ)

/-- The same where the precondition holds. -/
theorem frame_reference_sums : Cert.quiescent_ReferenceGateIdeal_pre_sums_of := fun m ρ _ => frame_reference m ρ trivial

end Cert.KernelGateIdeal.Gen

end
-- ==== Proof.RouteMath.lean ====
/- Taking the greatest of a list again and again, with no program in sight: the positions taken, the lower one first where two are
   equal, are the first of the positions sorted by their scores. -/
module

public import Idealize.ShloMosaic.PureOps.Ideal
public import Idealize.ShloMosaic.Lib.SortPrefix
public import Idealize.ShloMosaic.Lib.SortNet.Extract
public import Mathlib.Data.Finset.Fold
public import Mathlib.Data.List.FinRange

@[expose] public section

namespace Cert.Route

open Idealize.ShloMosaic

variable {n : Nat}

/-- Position `p` comes before position `q`: its score is greater, or it is the lower of two with equal scores. -/
noncomputable def before (f : Fin n → EReal) (p q : Fin n) : Bool := decide (f q < f p) || (decide (f p = f q) && decide (p < q))

/-- Of two different positions one comes before the other. -/
theorem before_total (f : Fin n → EReal) : StrictTotalBefore (before f) :=
  StrictTotalBefore.of_key_then_position (fun a b : EReal => decide (b < a)) f (fun a => by simp)
    (fun a b c hab hbc => by
      rw [decide_eq_true_eq] at *
      exact hbc.trans hab)
    (fun a b => by
      rw [decide_eq_true_eq, decide_eq_true_eq]
      rcases lt_trichotomy a b with h | h | h
      · exact .inr (.inr h)
      · exact .inr (.inl h)
      · exact .inl h)

/-- A stable sort of ascending positions by the scores alone is their sort by the scores and then the positions. -/
theorem stable_list (f : Fin n → EReal) (l : List (Fin n)) (hl : l.Pairwise (· < ·)) :
    stableSort (fun p q => decide (f q < f p)) l = stableSort (before f) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    unfold before
    rw [decide_eq_false (not_lt.mpr hab.le), Bool.and_false, Bool.or_false]

/-- The same for the position that lands at each place. -/
theorem stable_eq (f : Fin n → EReal) : sortedFrom (fun p q : Fin n => decide (f q < f p)) = sortedFrom (before f) := by
  funext k
  unfold sortedFrom
  have e : sortPositions n (fun p q => decide (f q < f p)) = sortPositions n (before f) :=
    stable_list f (List.finRange n) (List.pairwise_lt_finRange n)
  rw [List.get_of_eq e]
  rfl

/-- Position `k` has the greatest score, and is the lowest of those that have it. -/
def Best (f : Fin n → EReal) (k : Fin n) : Prop := (∀ j, f j ≤ f k) ∧ ∀ j, f j = f k → k ≤ j

section rounds

variable (f : Fin n → EReal) (s : Nat → Fin n → EReal) (σ : Nat → Fin n) (h0 : ∀ j, s 0 j = f j)
  (hs : ∀ r j, s (r + 1) j = if j = σ r then ⊥ else s r j) (hb : ∀ r, Best (s r) (σ r)) (hf : ∀ j, f j ≠ ⊥)

include h0 hs in
/-- A round's scores are the first ones, but for the positions taken before. -/
theorem scores_at (r : Nat) (j : Fin n) : ((∃ i < r, σ i = j) → s r j = ⊥) ∧ ((∀ i < r, σ i ≠ j) → s r j = f j) := by
  induction r with
  | zero => exact ⟨fun ⟨i, hi, _⟩ => absurd hi (Nat.not_lt_zero i), fun _ => h0 j⟩
  | succ r ih =>
    rw [hs]
    refine ⟨fun ⟨i, hi, e⟩ => ?_, fun h => ?_⟩
    · by_cases hj : j = σ r
      · rw [if_pos hj]
      · rw [if_neg hj]
        refine ih.1 ⟨i, Nat.lt_of_le_of_ne (Nat.lt_succ_iff.mp hi) fun eir => hj (e ▸ eir ▸ rfl), e⟩
    · rw [if_neg fun e => h r (Nat.lt_succ_self r) e.symm]
      exact ih.2 fun i hi => h i (hi.trans (Nat.lt_succ_self r))

include h0 hs hb hf in
/-- While positions are left, a round takes one that was not taken before. -/
theorem fresh (r : Nat) (hr : r < n) (i : Nat) (hi : i < r) : σ i ≠ σ r := by
  intro e
  have hc : ((Finset.range r).image σ).card < (Finset.univ : Finset (Fin n)).card :=
    lt_of_le_of_lt Finset.card_image_le (by rw [Finset.card_range, Finset.card_univ, Fintype.card_fin]; exact hr)
  obtain ⟨j, _, hj⟩ := Finset.exists_mem_notMem_of_card_lt_card hc
  have hj' : ∀ i < r, σ i ≠ j := fun i hi e => hj (Finset.mem_image.mpr ⟨i, Finset.mem_range.mpr hi, e⟩)
  have h1 := (hb r).1 j
  rw [(scores_at f s σ h0 hs r j).2 hj', (scores_at f s σ h0 hs r (σ r)).1 ⟨i, hi, e⟩] at h1
  exact hf j (le_bot_iff.mp h1)

include h0 hs hb hf in
/-- No position left comes before the one that a round takes. -/
theorem not_before (r : Nat) (hr : r < n) (p : Fin n) (hp : ∀ i < r, σ i ≠ p) : before f p (σ r) = false := by
  have ep := (scores_at f s σ h0 hs r p).2 hp
  have er := (scores_at f s σ h0 hs r (σ r)).2 fun i hi => fresh f s σ h0 hs hb hf r hr i hi
  have h1 := (hb r).1 p
  have h2 := (hb r).2 p
  rw [ep, er] at h1 h2
  unfold before
  rw [decide_eq_false (not_lt.mpr h1), Bool.false_or, Bool.and_eq_false_iff]
  by_cases e : f p = f (σ r)
  · exact .inr (decide_eq_false (not_lt.mpr (h2 e)))
  · exact .inl (decide_eq_false e)

include h0 hs hb hf in
/-- The positions that the first `k` rounds take are the first `k` of the positions sorted by their scores. -/
theorem rounds_sorted (k : Nat) (hk : k ≤ n) (i : Fin k) : sortedFrom (fun p q : Fin n => decide (f q < f p)) (i.castLE hk) = σ i.val := by
  rw [stable_eq]
  have lt : ∀ j : Fin k, j.val < n := fun j => lt_of_lt_of_le j.isLt hk
  refine (before_total f).sortedFrom_eq_of_prefix hk (fun j : Fin k => σ j.val) (fun a b e => ?_) (fun a b hab => ?_) (fun a p hp => ?_) i
  · rcases lt_trichotomy a.val b.val with h | h | h
    · exact absurd e (fresh f s σ h0 hs hb hf b.val (lt b) a.val h)
    · exact Fin.ext h
    · exact absurd e.symm (fresh f s σ h0 hs hb hf a.val (lt a) b.val h)
  · exact not_before f s σ h0 hs hb hf a.val (lt a) (σ b.val) fun j hj => fresh f s σ h0 hs hb hf b.val (lt b) j (hj.trans hab)
  · exact not_before f s σ h0 hs hb hf a.val (lt a) p fun j hj => hp ⟨j, hj.trans a.isLt⟩

end rounds

/-- The greatest of finitely many scores is one of them. -/
theorem max_at [NeZero n] (f : Fin n → EReal) : ∃ k, (Finset.univ : Finset (Fin n)).fold max ⊥ f = f k ∧ ∀ j, f j ≤ f k := by
  obtain ⟨k, hk⟩ := Finite.exists_max f
  exact ⟨k, le_antisymm (Finset.fold_max_le _ |>.mpr ⟨bot_le, fun j _ => hk j⟩) (Finset.le_fold_max _ |>.mpr (.inr ⟨k, Finset.mem_univ k, le_rfl⟩)), hk⟩

/-- The least of the positions at which the greatest score lies, as words: every other position counts as 784. -/
theorem pick_word (f : Fin 784 → EReal) (M : EReal) (hM : ∃ k, M = f k ∧ ∀ j, f j ≤ f k) (g : Fin 784 → BitVec 32)
    (hg : ∀ j, g j = if f j = M then BitVec.ofNat 32 j.val else 784#32) :
    ∃ k, (Finset.univ : Finset (Fin 784)).fold IntOp.minsi 2147483647#32 g = BitVec.ofNat 32 k.val ∧ Best f k := by
  classical
  obtain ⟨k0, e0, h0⟩ := hM
  have hne : (Finset.univ.filter fun j => f j = M).Nonempty := ⟨k0, Finset.mem_filter.mpr ⟨Finset.mem_univ _, e0.symm⟩⟩
  let k := (Finset.univ.filter fun j => f j = M).min' hne
  have hk : f k = M := (Finset.mem_filter.mp (Finset.min'_mem _ hne)).2
  have hmin : ∀ j, f j = M → k ≤ j := fun j hj => Finset.min'_le _ j (Finset.mem_filter.mpr ⟨Finset.mem_univ _, hj⟩)
  have nat : ∀ j : Fin 784, (BitVec.ofNat 32 j.val).toInt = (j.val : ℤ) := fun j => by
    have := j.isLt
    rw [BitVec.toInt_ofNat', Int.bmod_def]
    omega
  have gi : ∀ j, (g j).toInt = if f j = M then (j.val : ℤ) else 784 := fun j => by
    rw [hg]
    split
    · exact nat j
    · decide
  refine ⟨k, BitVec.eq_of_toInt_eq ?_, fun j => by rw [hk, e0]; exact h0 j, fun j hj => hmin j (hj.trans hk)⟩
  rw [nat, ← Finset.fold_hom (op := IntOp.minsi) (op' := min) (m := BitVec.toInt) SortNet.toInt_minsi]
  refine le_antisymm (Finset.fold_min_le _ |>.mpr (.inr ⟨k, Finset.mem_univ k, ?_⟩)) (Finset.le_fold_min _ |>.mpr ⟨?_, fun j _ => ?_⟩)
  · rw [gi, if_pos hk]
  · have := k.isLt
    show (k.val : ℤ) ≤ 2147483647
    omega
  · rw [gi]
    split
    · rename_i h
      exact_mod_cast hmin j h
    · have := k.isLt
      omega

end Cert.Route
-- ==== Proof.Route.lean ====
/- The routing at the ideal values: what one grid point writes, row by row and place by place. -/
module

public import proofs.«01_k».proof.Proof.RouteMath
public import proofs.«01_k».proof.Proof.Gen.KernelRouteIdeal.Value
public import Idealize.ShloMosaic.Lib.Pipeline.ValueKit
public import Idealize.ShloMosaic.Lib.WordCmp
public import proofs.«01_k».proof.Defs

@[expose] public section

set_option maxRecDepth 16384

noncomputable section

namespace Cert.KernelRouteIdeal.Gen

open Cert.KernelRouteIdeal Cert.Route
open Idealize.ShloMosaic hiding ix1 ix2 ix3 ix4
open Idealize.ShloMosaic.TcCoe Idealize.ShloMosaic.ValueIdx Idealize.SL.Sem

/-! ## One round -/

/-- The positions, one for each row, of the row's greatest score, as words: the least of the positions that have it. -/
def pick (s : FVec Ideal S784x784 .f32) : IVec S784 32 :=
  multiReductionI .minsi [1] S784
    (select (cmpf .oeq s (broadcastTo S784x784 (shapeCast S784x1 (multiReduction .maximumf [1] S784 s 0xFF800000#32 reduces_S784x784_S784 (.inl rfl) rfl)
      shapeCasts_S784_S784x1) broadcasts_S784x1_S784x784)) (iota .tc S784x784 32 [1] iota_S784x784_d1_w32) (broadcast S784x784 784#32))
    2147483647#32 reduces_S784x784_S784 rfl

/-- The scores once each row's position `idx` is taken. -/
def take (s : FVec Ideal S784x784 .f32) (idx : IVec S784 32) : FVec Ideal S784x784 .f32 :=
  select (cmpi .eq (iota .tc S784x784 32 [1] iota_S784x784_d1_w32) (broadcastTo S784x784 (shapeCast S784x1 idx shapeCasts_S784_S784x1) broadcasts_S784x1_S784x784))
    (broadcast S784x784 (Named.named (F := Ideal) (φ := .f32) κ "taken" 0xFF61B1E6#32)) s

/-- The scores before round `r`. -/
def left (s : FVec Ideal S784x784 .f32) : Nat → FVec Ideal S784x784 .f32
  | 0 => s
  | r + 1 => take (left s r) (pick (left s r))

/-- A row's word, laid along the row. -/
theorem along_row {α : Type} (x : S784.Idx → α) (q j : Fin 784) :
    broadcastTo S784x784 (shapeCast S784x1 x shapeCasts_S784_S784x1) broadcasts_S784x1_S784x784 (ix2 q j) = x (ix1 q) := by
  refine (broadcastTo_apply _ _ _ (ix2 q 0) fun a => match a with
    | ⟨0, _⟩ => rfl
    | ⟨1, _⟩ => rfl).trans (shapeCast_apply x _ _ (ix1 q) ?_)
  rw [Shape.rowMajor_val_one, Shape.rowMajor_val_two]
  show q.val = q.val * 1 + 0
  omega

/-- The positions along a row, as words. -/
theorem pos_at (q j : Fin 784) : iota .tc S784x784 32 [1] iota_S784x784_d1_w32 (ix2 q j) = BitVec.ofNat 32 j.val := by
  rw [WordCmp.iota_at]
  show BitVec.ofNat 32 (0 * 784 + j.val) = _
  rw [Nat.zero_mul, Nat.zero_add]

/-- A round picks a position that has the row's greatest score, the lowest of those that have it. -/
theorem pick_at (s : FVec Ideal S784x784 .f32) (q : Fin 784) :
    ∃ k : Fin 784, pick s (ix1 q) = BitVec.ofNat 32 k.val ∧ Best (fun j : Fin 784 => (s (ix2 q j) : EReal)) k := by
  have hl : ∀ j : Fin 784, reduces_S784x784_S784.lift (ix1 q) j = ix2 q j := fun j => funext fun a => Fin.ext (match a with
    | ⟨0, _⟩ => rfl
    | ⟨1, _⟩ => rfl)
  have e0 : (FloatOps.ofBits (F := Ideal) .f32 0xFF800000#32 : EReal) = ⊥ := by
    show Ideal.ieee 8 23 0xFF800000#32 = ⊥
    unfold Ideal.ieee
    dsimp only
    rw [if_pos (by decide), if_pos (by decide), if_pos (by decide)]
  have hmax : multiReduction .maximumf [1] S784 s 0xFF800000#32 reduces_S784x784_S784 (.inl rfl) rfl (ix1 q)
      = (Finset.univ : Finset (Fin 784)).fold max (⊥ : EReal) (fun j => s (ix2 q j)) := by
    refine (Ideal.multiReduction_maximumf_single s 0xFF800000#32 reduces_S784x784_S784 (.inl rfl) rfl (ix1 q)).trans ?_
    rw [e0]
    exact congrArg (fun f : Fin 784 → EReal => (Finset.univ : Finset (Fin 784)).fold max (⊥ : EReal) f) (funext fun j => congrArg s (hl j))
  obtain ⟨k, hk, hb⟩ := pick_word (fun j : Fin 784 => (s (ix2 q j) : EReal)) _ (max_at _)
    (fun j => (select (cmpf .oeq s (broadcastTo S784x784 (shapeCast S784x1 (multiReduction .maximumf [1] S784 s 0xFF800000#32 reduces_S784x784_S784 (.inl rfl) rfl)
      shapeCasts_S784_S784x1) broadcasts_S784x1_S784x784)) (iota .tc S784x784 32 [1] iota_S784x784_d1_w32) (broadcast S784x784 784#32)) (ix2 q j)) (fun j => by
      show Scalar.select (Ideal.cmp .oeq (s (ix2 q j)) (broadcastTo S784x784 (shapeCast S784x1 _ shapeCasts_S784_S784x1) broadcasts_S784x1_S784x784 (ix2 q j)))
        (iota .tc S784x784 32 [1] iota_S784x784_d1_w32 (ix2 q j)) 784#32 = _
      rw [pos_at, along_row, hmax]
      unfold Scalar.select Ideal.cmp
      by_cases h : (s (ix2 q j) : EReal) = (Finset.univ : Finset (Fin 784)).fold max (⊥ : EReal) (fun j => s (ix2 q j))
      · rw [if_pos h]; simp [h]
      · rw [if_neg h]; simp [h])
  refine ⟨k, Eq.trans ?_ hk, hb⟩
  unfold pick
  refine (multiReductionI_eq_fold .minsi _ 2147483647#32 reduces_S784x784_S784 rfl (ix1 q)).trans ?_
  refine (reduces_S784x784_S784.fold_filter_drop_single IntOp.minsi _ _ (ix1 q)).trans ?_
  exact congrArg (fun f : Fin 784 → BitVec 32 => (Finset.univ : Finset (Fin 784)).fold IntOp.minsi 2147483647#32 f) (funext fun j => congrArg _ (hl j))

/-- A taken position scores minus infinity, every other one what it did. -/
theorem take_at (s : FVec Ideal S784x784 .f32) (idx : IVec S784 32) (q j k : Fin 784) (h : idx (ix1 q) = BitVec.ofNat 32 k.val) :
    (take s idx (ix2 q j) : EReal) = if j = k then ⊥ else s (ix2 q j) := by
  have hn : (Named.named (F := Ideal) (φ := .f32) κ "taken" 0xFF61B1E6#32 : EReal) = ⊥ := IdealRules.named_const.ideal_named_scalar _ _ _ _ rfl
  have hw : (BitVec.ofNat 32 j.val = BitVec.ofNat 32 k.val) ↔ j = k := by
    refine ⟨fun e => Fin.ext ?_, fun e => by rw [e]⟩
    have := congrArg BitVec.toNat e
    rw [BitVec.toNat_ofNat, BitVec.toNat_ofNat] at this
    have := j.isLt
    have := k.isLt
    omega
  show Scalar.select (IntOp.cmpi .eq (iota .tc S784x784 32 [1] iota_S784x784_d1_w32 (ix2 q j))
    (broadcastTo S784x784 (shapeCast S784x1 idx shapeCasts_S784_S784x1) broadcasts_S784x1_S784x784 (ix2 q j)))
    (Named.named (F := Ideal) (φ := .f32) κ "taken" 0xFF61B1E6#32 : EReal) (s (ix2 q j)) = _
  rw [pos_at, along_row, h, hn]
  unfold Scalar.select IntOp.cmpi
  by_cases e : j = k
  · rw [if_pos e, e]; simp
  · rw [if_neg e]
    have : (BitVec.ofNat 32 j.val == BitVec.ofNat 32 k.val) = false := beq_eq_false_iff_ne.mpr fun h => e (hw.1 h)
    rw [this]
    rfl

/-- The positions that the first rounds pick are the first positions of the row sorted by its scores. -/
theorem picks_sorted (s : FVec Ideal S784x784 .f32) (q : Fin 784) (hf : ∀ j : Fin 784, (s (ix2 q j) : EReal) ≠ ⊥) (r : Fin 4) :
    pick (left s r.val) (ix1 q)
      = BitVec.ofNat 32 (sortedFrom (fun p p' : Fin 784 => decide ((s (ix2 q p') : EReal) < s (ix2 q p))) (r.castLE (by omega))).val := by
  have key := rounds_sorted (fun j : Fin 784 => (s (ix2 q j) : EReal)) (fun r j => (left s r (ix2 q j) : EReal))
    (fun r => Classical.choose (pick_at (left s r) q)) (fun _ => rfl)
    (fun r j => take_at (left s r) _ q j _ (Classical.choose_spec (pick_at (left s r) q)).1)
    (fun r => (Classical.choose_spec (pick_at (left s r) q)).2) hf 4 (by omega) r
  rw [key]
  exact (Classical.choose_spec (pick_at (left s r.val) q)).1

/-! ## One grid point -/

/-- The scores of a grid point: the products of its rows of the one with its rows of the other. -/
theorem scores_eq (x p : Vec Ideal S1x784x192 .f32) (q j : Fin 784) :
    k0_pay2 x p (ix2 q j) = ∑ k : Fin 192, (x (ix3 0 q k) * p (ix3 0 j k) : EReal) := by
  unfold k0_pay2
  refine (Ideal.matmul_constant_zero_apply _ none _ _ _).trans ?_
  rw [← Equiv.sum_comp (contrEquiv1 dot_S784x192_S784x192_S784x784_1_1_0_0_n_n 192 rfl rfl).symm]
  refine Finset.sum_congr rfl fun k _ => ?_
  have hd := contrEquiv1_symm_val dot_S784x192_S784x192_S784x784_1_1_0_0_n_n 192 rfl rfl k
  generalize (contrEquiv1 dot_S784x192_S784x192_S784x784_1_1_0_0_n_n 192 rfl rfl).symm k = u at hd
  refine congrArg₂ (· * ·) ?_ ?_
  · refine shapeCast_apply x shapeCasts_S1x784x192_S784x192 _ (ix3 0 q k) ?_
    rw [Shape.rowMajor_val_three, Shape.rowMajor_val_two]
    show (0 * 784 + q.val) * 192 + k.val = q.val * 192 + (u ⟨0, by decide⟩).val
    rw [hd]; omega
  · refine shapeCast_apply p shapeCasts_S1x784x192_S784x192 _ (ix3 0 j k) ?_
    rw [Shape.rowMajor_val_three, Shape.rowMajor_val_two]
    show (0 * 784 + j.val) * 192 + k.val = j.val * 192 + (u ⟨0, by decide⟩).val
    rw [hd]; omega

/-- Four words for each row, side by side. -/
theorem four_at {α : Type} (w : Nat → S784.Idx → α) (H) (q : Fin 784) (r : Fin 4) :
    concatenate S784x4 1 [⟨S784x1, shapeCast S784x1 (w 0) shapeCasts_S784_S784x1⟩, ⟨S784x1, shapeCast S784x1 (w 1) shapeCasts_S784_S784x1⟩,
      ⟨S784x1, shapeCast S784x1 (w 2) shapeCasts_S784_S784x1⟩, ⟨S784x1, shapeCast S784x1 (w 3) shapeCasts_S784_S784x1⟩] H (ix2 q r) = w r.val (ix1 q) := by
  have col : ∀ n, shapeCast S784x1 (w n) shapeCasts_S784_S784x1 (ix2 q 0) = w n (ix1 q) := fun n => shapeCast_apply _ _ _ (ix1 q) (by
    rw [Shape.rowMajor_val_one, Shape.rowMajor_val_two]
    show q.val = q.val * 1 + 0
    omega)
  have off : ∀ (u : Fin 4) (b : Fin 2), b ≠ 1 → ((ix2 q (0 : Fin 1) : S784x1.Idx) b).val = ((ix2 q u : S784x4.Idx) b).val := fun u b hb => match b with
    | ⟨0, _⟩ => rfl
    | ⟨1, _⟩ => absurd rfl hb
  match r with
  | ⟨0, _⟩ => exact (concatenate_apply_piece 1 _ H _ 0 (by simp) S784x1 _ rfl rfl 0 rfl (ix2 q 0) (fun a ha => off 0 a ha) rfl).trans (col 0)
  | ⟨1, _⟩ => exact (concatenate_apply_piece 1 _ H _ 1 (by simp) S784x1 _ rfl rfl 1 rfl (ix2 q 0) (fun a ha => off 1 a ha) rfl).trans (col 1)
  | ⟨2, _⟩ => exact (concatenate_apply_piece 1 _ H _ 2 (by simp) S784x1 _ rfl rfl 2 rfl (ix2 q 0) (fun a ha => off 2 a ha) rfl).trans (col 2)
  | ⟨3, _⟩ => exact (concatenate_apply_piece 1 _ H _ 3 (by simp) S784x1 _ rfl rfl 3 rfl (ix2 q 0) (fun a ha => off 3 a ha) rfl).trans (col 3)

/-- The four words that a grid point leaves for each of its rows. -/
theorem out2_at (x p : Vec Ideal S1x784x192 .f32) (j : S1x784x4.Idx) : out0_2 x p j = pick (left (k0_pay2 x p) (j 2).val) (ix1 (j 1)) := by
  have e0 : ∀ x : Vec Ideal S1x784x192 .f32, View.ld x r0_0 = x := fun X => funext fun x => congrArg X (funext fun a => Fin.ext (match a with
    | ⟨0, _⟩ => by show 0 + 1 * (x 0).val = (x 0).val; omega
    | ⟨1, _⟩ => by show 0 + 1 * (x 1).val = (x 1).val; omega
    | ⟨2, _⟩ => by show 0 + 1 * (x 2).val = (x 2).val; omega))
  have hz3 : (![0, 0, 0] : Fin 3 → Nat) = fun _ => 0 := by funext a; fin_cases a <;> rfl
  have ec : out0_2 x p = k0_pay1 (iota .tc S784x784 32 [1] iota_S784x784_d1_w32) (k0_pay3 x p) (k0_pay5 x p) (k0_pay6 x p) (k0_pay7 x p) (k0_pay8 x p)
      (Named.named (F := Ideal) (φ := .f32) κ "taken" 0xFF61B1E6#32) := by
    unfold out0_2
    rw [e0, e0]
    exact View.canon_unit_zero hz3 _ _
  have h0 : (j 0).val < 1 := (j 0).isLt
  rw [ec]
  unfold k0_pay1
  refine (shapeCast_apply _ shapeCasts_S784x4_S1x784x4 j (ix2 (j 1) (j 2)) ?_).trans (four_at (fun r => pick (left (k0_pay2 x p) r)) _ (j 1) (j 2))
  rw [Shape.rowMajor_val_two, Shape.rowMajor_val_three]
  show (j 1).val * 4 + (j 2).val = ((j 0).val * 784 + (j 1).val) * 4 + (j 2).val
  omega

end Cert.KernelRouteIdeal.Gen

end
-- ==== Proof.RouteRef.lean ====
/- The reference of the routing at an index: the score of a pair of windows, and the windows a row's four words name. -/
module

public import proofs.«01_k».proof.Proof.Arith
public import proofs.«01_k».proof.Proof.Gen.ReferenceRouteIdeal.Read

@[expose] public section

set_option maxRecDepth 16384

noncomputable section

namespace Cert.ReferenceRouteIdeal.Read

open Cert.ReferenceRouteIdeal Cert.ReferenceRouteIdeal.Gen Cert.Attn
open Idealize.ShloMosaic
open Idealize.ShloMosaic.TcCoe Idealize.ShloMosaic.ValueIdx

/-- Replacing the last of three coordinates. -/
theorem along_last {n0 n1 n2 : Nat} (b : Fin n0) (q : Fin n1) (j k : Fin n2) :
    (ix3 b q j : (⟨3, ![n0, n1, n2]⟩ : Shape).Idx).along (2 : Fin 3) k = ix3 b q k := by
  unfold Shape.Idx.along
  funext a
  match a with
  | ⟨0, _⟩ => exact Function.update_of_ne (by decide : (0 : Fin 3) ≠ 2) _ _
  | ⟨1, _⟩ => exact Function.update_of_ne (by decide : (1 : Fin 3) ≠ 2) _ _
  | ⟨2, _⟩ => exact Function.update_self ..

/-- A sort of the rows by their scores, greater ones first, carries the position that lands at each place. -/
theorem sorted_at (y : S2x784x784.Idx → EReal) (b : Fin 2) (q j : Fin 784) :
    (Host.sort2 S2x784x784 2 (fun l r : EReal × BitVec 32 => FloatOps.cmpfTotal (F := Ideal) (φ := .f32) .gt l.1 r.1) y
        (fun i => if hd : 2 < S2x784x784.rank then iotaInDim S2x784x784 32 ⟨2, hd⟩ i else 0#32)).2 (ix3 b q j)
      = BitVec.ofNat 32 (sortedFrom (fun p p' : Fin 784 => decide (y (ix3 b q p') < y (ix3 b q p))) j).val := by
  unfold Host.sort2
  rw [dif_pos (by decide : 2 < S2x784x784.rank)]
  have key : ∀ c : Bool, (BitVec.ofBool c == 1#1) = c := by decide
  have eb : (fun k k' : Fin 784 => FloatOps.cmpfTotal (F := Ideal) (φ := .f32) .gt (y ((ix3 b q j : S2x784x784.Idx).along (2 : Fin 3) k))
      (y ((ix3 b q j : S2x784x784.Idx).along (2 : Fin 3) k')) == 1#1) = fun p p' : Fin 784 => decide (y (ix3 b q p') < y (ix3 b q p)) := by
    funext k k'
    rw [along_last, along_last]
    exact key _
  have step : ∀ k : Fin 784, iotaInDim S2x784x784 32 (2 : Fin 3) ((ix3 b q j : S2x784x784.Idx).along (2 : Fin 3) k) = BitVec.ofNat 32 k.val := fun k => by
    rw [along_last]
    rfl
  exact (step _).trans (congrArg (fun B : Fin 784 → Fin 784 → Bool => BitVec.ofNat 32 (sortedFrom B j).val) eb)

/-- The first four places of a row. -/
theorem first_at {α : Type} (x : S2x784x784.Idx → α) (b : Fin 2) (q : Fin 784) (r : Fin 4) :
    extractStridedSlice S2x784x4 (fun _ => 0) x sliceFits_S2x784x784_S2x784x4 (ix3 b q r) = x (ix3 b q (r.castLE (by omega : 4 ≤ 784))) :=
  extractStridedSlice_apply _ x sliceFits_S2x784x784_S2x784x4 (ix3 b q r) (ix3 b q (r.castLE (by omega : 4 ≤ 784))) fun a => match a with
    | ⟨0, _⟩ => (Nat.zero_add _).symm
    | ⟨1, _⟩ => (Nat.zero_add _).symm
    | ⟨2, _⟩ => (Nat.zero_add _).symm

/-- The four words of a row: the positions that a sort of the row by its scores, greater ones first, puts first. -/
theorem words_at (y : S2x784x784.Idx → EReal) (b : Fin 2) (q : Fin 784) (r : Fin 4) :
    (Host.topK S2x784x4 2 (FloatOps.cmpfTotal (F := Ideal) (φ := .f32) .gt) y sliceFits_S2x784x784_S2x784x4).2 (ix3 b q r)
      = BitVec.ofNat 32 (sortedFrom (fun p p' : Fin 784 => decide (y (ix3 b q p') < y (ix3 b q p))) (r.castLE (by omega))).val := by
  exact (first_at _ b q r).trans (sorted_at y b q _)

/-! ## The scores -/

/-- The number of rows of a window. -/
theorem rows_val : (FloatOps.ofBits (F := Ideal) .f32 0x42800000#32 : EReal) = ((64 : ℝ) : EReal) := by
  show Ideal.ofBits .f32 0x42800000#32 = _
  simp [Ideal.ofBits, Ideal.ieee, -EReal.coe_mul]
  norm_num

/-- What the products are divided by is positive. -/
theorem root_val : ∃ e : ℝ, 0 < e ∧ (FloatOps.ofBits (F := Ideal) .f32 0x415DB3D7#32 : EReal) = (e : EReal) := by
  refine ⟨14529495 * (2 : ℝ) ^ (-20 : ℤ), by positivity, ?_⟩
  show Ideal.ofBits .f32 0x415DB3D7#32 = _
  simp [Ideal.ofBits, Ideal.ieee, -EReal.coe_mul]

variable (x0 x1 : (⟨S2x56x14x192, .f32⟩ : BufTy).Contents (Elt Ideal)) (a p : S2x784x192.Idx → ℝ)
  (ha : ∀ i, (val_main_v0 (F := Ideal) x0 i : EReal) = (a i : EReal)) (hp : ∀ i, (val_main_v3 (F := Ideal) x1 i : EReal) = (p i : EReal))

include ha hp in
/-- The score of a pair of windows is the product of their sums, divided by one positive number. -/
theorem score_at : ∃ d : ℝ, 0 < d ∧ ∀ (b : Fin 2) (q j : Fin 784),
    (val_main_v8 (F := Ideal) x0 x1 (ix3 b q j) : EReal) = (((∑ k : Fin 192, a (ix3 b q k) * p (ix3 b j k)) / d : ℝ) : EReal) := by
  obtain ⟨e, he, hv⟩ := root_val
  refine ⟨64 * 64 * e, by positivity, fun b q j => ?_⟩
  have e2 : ∀ i, (val_main_v2 (F := Ideal) x0 i : EReal) = ((a i / 64 : ℝ) : EReal) := fun i => by
    rw [val_main_v2_apply, val_main_v1_apply, val_main_cst_apply, ha, rows_val, Ideal.hostDivf_def, div_real _ _ (by norm_num)]
  have e5 : ∀ i, (val_main_v5 (F := Ideal) x1 i : EReal) = ((p i / 64 : ℝ) : EReal) := fun i => by
    rw [val_main_v5_apply, val_main_v4_apply, val_main_cst_0_apply, hp, rows_val, Ideal.hostDivf_def, div_real _ _ (by norm_num)]
  have el : ∀ k, lidx_main_v6 (ix3 b q j) k = ix3 b q k := fun k => funext fun a => match a with
    | ⟨0, _⟩ => rfl
    | ⟨1, _⟩ => rfl
    | ⟨2, _⟩ => rfl
  have er : ∀ k, ridx_main_v6 (ix3 b q j) k = ix3 b j k := fun k => funext fun a => match a with
    | ⟨0, _⟩ => rfl
    | ⟨1, _⟩ => rfl
    | ⟨2, _⟩ => rfl
  have e6 : (val_main_v6 (F := Ideal) x0 x1 (ix3 b q j) : EReal) = ((∑ k : Fin 192, a (ix3 b q k) / 64 * (p (ix3 b j k) / 64) : ℝ) : EReal) := by
    rw [val_main_v6_apply, ← coe_sum]
    refine Finset.sum_congr rfl fun k _ => ?_
    rw [el, er, EReal.coe_mul]
    exact congrArg₂ (· * ·) (e2 _) (e5 _)
  rw [val_main_v8_apply, val_main_v7_apply, val_main_cst_1_apply, e6, hv, Ideal.hostDivf_def, div_real _ _ he.ne']
  refine congrArg (fun r : ℝ => (r : EReal)) ?_
  rw [Finset.sum_div, Finset.sum_div]
  refine Finset.sum_congr rfl fun k _ => ?_
  field_simp

end Cert.ReferenceRouteIdeal.Read

end
-- ==== Proof.RouteEnd.lean ====
/- The routing at the ideal values: what the result array holds, and that the plain routing by sorted scores computes the same. -/
module

public import proofs.«01_k».proof.Proof.Route
public import proofs.«01_k».proof.Proof.RouteRef
public import proofs.«01_k».proof.Proof.Gen.Pre_finite_sums
public import Idealize.ShloMosaic.Lib.ReduceAll

@[expose] public section

set_option maxRecDepth 16384

noncomputable section

namespace Cert.KernelRouteIdeal.Gen

open Cert.KernelRouteIdeal Cert.Route
open Idealize.ShloMosaic hiding ix1 ix2 ix3 ix4
open Idealize.ShloMosaic.TcCoe Idealize.ShloMosaic.ValueIdx Idealize.SL.Sem

variable (m : (ℓ : Loc nD τ sig) → Buf (Elt Ideal) ℓ) (c : Dev nD)

/-! ## The result array -/

/-- The window sums of the input and of the prompt on one core. -/
abbrev p0 : Vec Ideal S2x56x14x192 .f32 := m ((c.tc : Thread nD τ).loc main_arg0)
abbrev p1 : Vec Ideal S2x56x14x192 .f32 := m ((c.tc : Thread nD τ).loc main_arg1)

/-- The same, window after window, as the reference re-lays them. -/
abbrev sumsX : Vec Ideal S2x784x192 .f32 := Cert.ReferenceRouteIdeal.Read.val_main_v0 (F := Ideal) (p0 m c)
abbrev sumsP : Vec Ideal S2x784x192 .f32 := Cert.ReferenceRouteIdeal.Read.val_main_v3 (F := Ideal) (p1 m c)

/-- The batch element of a grid point. -/
def bOf (t : Fin cfg0.N) : Fin 2 := ⟨t.val, t.isLt⟩

/-- Every window's block index at every grid point. -/
theorem win_idx : ∀ t : Fin cfg0.N, win0_0.index t = ![t.val, 0, 0] ∧ win0_1.index t = ![t.val, 0, 0] ∧ win0_2.index t = ![t.val, 0, 0] :=
  (by decide +kernel : ∀ t : Fin grid0.N, _)

/-- The first table the kernel is given. -/
theorem V_main_v0 : V m c main_v0 = sumsX m c := by
  show StableHlo.after hostOps0 _ (Proc.devRef .tc main_v0) = _
  after_results
  rfl
/-- The second table the kernel is given. -/
theorem V_main_v1 : V m c main_v1 = sumsP m c := by
  show StableHlo.after hostOps0 _ (Proc.devRef .tc main_v1) = _
  after_results
  rfl

/-- A grid point reads its batch element of the first table. -/
theorem iblk0_at (t : Fin cfg0.N) (n : Fin 784) (k : Fin 192) : iblk m c 0 t (ix3 0 n k) = sumsX m c (ix3 (bOf t) n k) := by
  have e : iblk m c 0 t (ix3 0 n k) = (V m c main_v0 : S2x784x192.Idx → EReal) (ix3 (bOf t) n k) := by
    blk_ext [iblk, win_idx t, bOf]
  rw [e, V_main_v0]
/-- A grid point reads its batch element of the second table. -/
theorem iblk1_at (t : Fin cfg0.N) (n : Fin 784) (k : Fin 192) : iblk m c 1 t (ix3 0 n k) = sumsP m c (ix3 (bOf t) n k) := by
  have e : iblk m c 1 t (ix3 0 n k) = (V m c main_v1 : S2x784x192.Idx → EReal) (ix3 (bOf t) n k) := by
    blk_ext [iblk, win_idx t, bOf]
  rw [e, V_main_v1]

/-- The products of the windows' sums on one core. -/
def prod (b : Fin 2) : FVec Ideal S784x784 .f32 := fun i => (∑ k : Fin 192, (sumsX m c (ix3 b (i 0) k) * sumsP m c (ix3 b (i 1) k) : EReal) : EReal)

/-- The scores a grid point computes. -/
theorem scores_prod (t : Fin cfg0.N) : k0_pay2 (iblk m c 0 t) (iblk m c 1 t) = prod m c (bOf t) := by
  funext i
  have ii : i = ix2 (i 0) (i 1) := funext fun a => match a with
    | ⟨0, _⟩ => rfl
    | ⟨1, _⟩ => rfl
  refine (congrArg (k0_pay2 (iblk m c 0 t) (iblk m c 1 t)) ii).trans ((scores_eq _ _ (i 0) (i 1)).trans ?_)
  exact Finset.sum_congr rfl fun k _ => congrArg₂ (· * ·) (iblk0_at m c t (i 0) k) (iblk1_at m c t (i 1) k)

/-- The result array: for each window of the input the four that the rounds pick. -/
def ROUTED : IVec S2x784x4 32 := fun i => pick (left (prod m c (i 0)) (i 2).val) (ix1 (i 1))

/-- The result array holds the picks. -/
theorem arr2_eq : (dats m 0 c).arrAt 2 cfg0.N = ROUTED m c := by
  refine (dats m 0 c).arrAt_eq_of_covers 2 _ (by decide +kernel) fun t hf y => ?_
  blk_simp
  rw [after0_2]
  refine (out2_at _ _ y).trans ?_
  rw [scores_prod]
  have key : pick (left (prod m c (bOf t)) (y 2).val) (ix1 (y 1)) = ROUTED m c (ix3 (bOf t) (y 1) (y 2)) := rfl
  refine key.trans (congrArg (ROUTED m c) ?_)
  blk_ext [win_idx t, bOf]

/-! ## The precondition -/

/-- The precondition `finite_sums` element by element: all the sums are real numbers. -/
theorem of_finite_sums (x0 x1 : Vec Ideal S2x56x14x192 .f32) (h : Cert.Pre_finite_sums.fn (F := Ideal) x0 x1 = fun _ => 1#1) :
    (∀ i, Cert.Attn.Fin' (x0 i)) ∧ ∀ i, Cert.Attn.Fin' (x1 i) := by
  obtain ⟨e0, e1⟩ := IntOp.andi_eq_one.1 (congrFun h (fun a => a.elim0))
  exact ⟨fun i => Cert.Attn.fin_of_cmpf (Host.reduce_andi_all _ _ _ _ _ e0 i), fun i => Cert.Attn.fin_of_cmpf (Host.reduce_andi_all _ _ _ _ _ e1 i)⟩

/-! ## The reference -/

/-- The plain routing names the windows that the rounds pick, wherever the sums are real numbers. -/
theorem ref_routed (hpre : Cert.Pre_KernelRouteIdeal_finite_sums m) :
    Cert.ReferenceRouteIdeal.Read.val_main_indices (F := Ideal) (p0 m c) (p1 m c) = ROUTED m c := by
  obtain ⟨h0, h1⟩ := of_finite_sums _ _ (hpre c)
  choose a0 ha0 using h0
  choose a1 ha1 using h1
  let a : S2x784x192.Idx → ℝ := fun i => a0 (Cert.ReferenceRouteIdeal.Read.idx_main_v0 i)
  let p : S2x784x192.Idx → ℝ := fun i => a1 (Cert.ReferenceRouteIdeal.Read.idx_main_v3 i)
  have ea : ∀ i, (sumsX m c i : EReal) = (a i : EReal) := fun i => (Cert.ReferenceRouteIdeal.Read.val_main_v0_apply (F := Ideal) (p0 m c) i).trans (ha0 _)
  have ep : ∀ i, (sumsP m c i : EReal) = (p i : EReal) := fun i => (Cert.ReferenceRouteIdeal.Read.val_main_v3_apply (F := Ideal) (p1 m c) i).trans (ha1 _)
  obtain ⟨d, hd, hs⟩ := Cert.ReferenceRouteIdeal.Read.score_at (p0 m c) (p1 m c) a p ea ep
  have es : ∀ (b : Fin 2) (q j : Fin 784), (prod m c b (ix2 q j) : EReal) = ((∑ k : Fin 192, a (ix3 b q k) * p (ix3 b j k) : ℝ) : EReal) := fun b q j => by
    rw [← Cert.Attn.coe_sum]
    refine Finset.sum_congr rfl fun k _ => ?_
    rw [EReal.coe_mul]
    exact congrArg₂ (· * ·) (ea _) (ep _)
  have eb : ∀ (b : Fin 2) (q : Fin 784), (fun p' p'' : Fin 784 => decide ((Cert.ReferenceRouteIdeal.Read.val_main_v8 (F := Ideal) (p0 m c) (p1 m c) (ix3 b q p'') : EReal)
        < Cert.ReferenceRouteIdeal.Read.val_main_v8 (F := Ideal) (p0 m c) (p1 m c) (ix3 b q p')))
      = fun p' p'' : Fin 784 => decide ((prod m c b (ix2 q p'') : EReal) < prod m c b (ix2 q p')) := fun b q => by
    funext p' p''
    refine decide_eq_decide.mpr ?_
    rw [hs, hs, es, es, EReal.coe_lt_coe_iff, EReal.coe_lt_coe_iff, div_lt_div_iff_of_pos_right hd]
  have key : ∀ (b : Fin 2) (q : Fin 784) (r : Fin 4),
      Cert.ReferenceRouteIdeal.Read.val_main_indices (F := Ideal) (p0 m c) (p1 m c) (ix3 b q r) = ROUTED m c (ix3 b q r) := fun b q r => by
    refine (Cert.ReferenceRouteIdeal.Read.words_at (Cert.ReferenceRouteIdeal.Read.val_main_v8 (F := Ideal) (p0 m c) (p1 m c)) b q r).trans ?_
    rw [eb]
    exact (picks_sorted (prod m c b) q (fun j => by rw [es]; exact EReal.coe_ne_bot _) r).symm
  funext i
  have ii : i = ix3 (i 0) (i 1) (i 2) := funext fun a => match a with
    | ⟨0, _⟩ => rfl
    | ⟨1, _⟩ => rfl
    | ⟨2, _⟩ => rfl
  exact (congrArg (Cert.ReferenceRouteIdeal.Read.val_main_indices (F := Ideal) (p0 m c) (p1 m c)) ii).trans
    ((key (i 0) (i 1) (i 2)).trans (congrArg (ROUTED m c) ii.symm))

/-- The kernel and the plain routing end with the same array, word for word, wherever the precondition holds. -/
theorem algebraic : Cert.algebraic_KernelRouteIdeal_ReferenceRouteIdeal_pre_finite_sums := by
  intro m g m' g' hpre hm
  refine ⟨fun c => ROUTED m c, ?_, ?_⟩
  · refine (θ_run _ _ _).mono (fun r hr c => ?_) (Cert.KernelRouteIdeal.Value.run_blocks m g)
    obtain ⟨e2, e⟩ := hr c
    exact ⟨e2.trans (arr2_eq m c), e⟩
  · refine (θ_run _ _ _).mono (fun r hr c => ?_) (Cert.ReferenceRouteIdeal.Value.run m' g')
    obtain ⟨ei, e⟩ := hr c
    obtain ⟨h0, h1⟩ := hm c
    refine ⟨ei.trans ((Cert.ReferenceRouteIdeal.Read.val_main_indices_eq _ _).trans ?_), e⟩
    rw [h0, h1]
    exact ref_routed m c hpre

/-- The reference's frame: it has no semaphore, so no counter that could be other than zero. -/
theorem frame_reference : Cert.quiescent_ReferenceRouteIdeal := fun m ρ _ =>
  (θ_run _ _ _).mono (fun r h => ⟨fun c => (h c).2, funext fun g => match g with
    | ⟨_, .reg s⟩ => s.elim0
    | ⟨_, .dma s⟩ => s.elim0⟩) (Cert.ReferenceRouteIdeal.Value.run m ρ)

/-- The same where the precondition holds. -/
theorem frame_reference_finite : Cert.quiescent_ReferenceRouteIdeal_pre_finite_sums := fun m ρ _ => frame_reference m ρ trivial

end Cert.KernelRouteIdeal.Gen

end
-- ==== Proof.lean ====
module

public import proofs.«01_k».proof.Defs
public import proofs.«01_k».proof.Proof.Frames
public import proofs.«01_k».proof.Proof.Algebraic
public import proofs.«01_k».proof.Proof.ProjKV
public import proofs.«01_k».proof.Proof.ProjQ
public import proofs.«01_k».proof.Proof.Gate
public import proofs.«01_k».proof.Proof.RouteEnd
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelKV
public import proofs.«01_k».proof.Proof.Gen.KernelKV.Skeleton
public import proofs.«01_k».proof.Proof.Gen.KernelKV.Launch
public import proofs.«01_k».proof.Proof.Gen.KernelKV.Points
public import proofs.«01_k».proof.Proof.Gen.KernelKV.Frame
public import proofs.«01_k».proof.Proof.Gen.KernelKVIdeal
public import proofs.«01_k».proof.Proof.Gen.KernelKVIdeal.Skeleton
public import proofs.«01_k».proof.Proof.Gen.KernelKVIdeal.Launch
public import proofs.«01_k».proof.Proof.Gen.KernelKVIdeal.Points
public import proofs.«01_k».proof.Proof.Gen.KernelKVIdeal.Frame
public import proofs.«01_k».proof.Proof.Gen.KernelKVIdeal.Value
public import proofs.«01_k».proof.Proof.Gen.ReferenceKVIdeal
public import proofs.«01_k».proof.Proof.Gen.ReferenceKVIdeal.Run
public import proofs.«01_k».proof.Proof.Gen.ReferenceKVIdeal.Read
public import proofs.«01_k».proof.Proof.Gen.KernelQ
public import proofs.«01_k».proof.Proof.Gen.KernelQ.Skeleton
public import proofs.«01_k».proof.Proof.Gen.KernelQ.Launch
public import proofs.«01_k».proof.Proof.Gen.KernelQ.Points
public import proofs.«01_k».proof.Proof.Gen.KernelQ.Frame
public import proofs.«01_k».proof.Proof.Gen.KernelQIdeal
public import proofs.«01_k».proof.Proof.Gen.KernelQIdeal.Skeleton
public import proofs.«01_k».proof.Proof.Gen.KernelQIdeal.Launch
public import proofs.«01_k».proof.Proof.Gen.KernelQIdeal.Points
public import proofs.«01_k».proof.Proof.Gen.KernelQIdeal.Frame
public import proofs.«01_k».proof.Proof.Gen.KernelQIdeal.Value
public import proofs.«01_k».proof.Proof.Gen.ReferenceQIdeal
public import proofs.«01_k».proof.Proof.Gen.ReferenceQIdeal.Run
public import proofs.«01_k».proof.Proof.Gen.ReferenceQIdeal.Read
public import proofs.«01_k».proof.Proof.Gen.Pre_in_range
public import proofs.«01_k».proof.Proof.Gen.Pre_in_range_finite
public import proofs.«01_k».proof.Proof.Gen.KernelGate
public import proofs.«01_k».proof.Proof.Gen.KernelGate.Skeleton
public import proofs.«01_k».proof.Proof.Gen.KernelGate.Launch
public import proofs.«01_k».proof.Proof.Gen.KernelGate.Points
public import proofs.«01_k».proof.Proof.Gen.KernelGate.Frame
public import proofs.«01_k».proof.Proof.Gen.KernelGateIdeal
public import proofs.«01_k».proof.Proof.Gen.KernelGateIdeal.Skeleton
public import proofs.«01_k».proof.Proof.Gen.KernelGateIdeal.Launch
public import proofs.«01_k».proof.Proof.Gen.KernelGateIdeal.Points
public import proofs.«01_k».proof.Proof.Gen.KernelGateIdeal.Frame
public import proofs.«01_k».proof.Proof.Gen.KernelGateIdeal.Value
public import proofs.«01_k».proof.Proof.Gen.ReferenceGateIdeal
public import proofs.«01_k».proof.Proof.Gen.ReferenceGateIdeal.Run
public import proofs.«01_k».proof.Proof.Gen.ReferenceGateIdeal.Read
public import proofs.«01_k».proof.Proof.Gen.Pre_sums_of
public import proofs.«01_k».proof.Proof.Gen.KernelRoute
public import proofs.«01_k».proof.Proof.Gen.KernelRoute.Skeleton
public import proofs.«01_k».proof.Proof.Gen.KernelRoute.Launch
public import proofs.«01_k».proof.Proof.Gen.KernelRoute.Points
public import proofs.«01_k».proof.Proof.Gen.KernelRoute.Frame
public import proofs.«01_k».proof.Proof.Gen.KernelRouteIdeal
public import proofs.«01_k».proof.Proof.Gen.KernelRouteIdeal.Skeleton
public import proofs.«01_k».proof.Proof.Gen.KernelRouteIdeal.Launch
public import proofs.«01_k».proof.Proof.Gen.KernelRouteIdeal.Points
public import proofs.«01_k».proof.Proof.Gen.KernelRouteIdeal.Frame
public import proofs.«01_k».proof.Proof.Gen.KernelRouteIdeal.Value
public import proofs.«01_k».proof.Proof.Gen.ReferenceRouteIdeal
public import proofs.«01_k».proof.Proof.Gen.ReferenceRouteIdeal.Run
public import proofs.«01_k».proof.Proof.Gen.ReferenceRouteIdeal.Read
public import proofs.«01_k».proof.Proof.Gen.Pre_finite_sums
public import Idealize.ShloMosaic.Adequacy
public import Idealize.ShloMosaic.Init

@[expose] public section

noncomputable section

namespace Cert.Proof

open Idealize.ShloMosaic Idealize.SL.Sem Cert.Kernel

/-- Everything claimed. -/
theorem claim : Cert.Claim := ⟨Cert.Kernel.Gen.facts, Cert.KernelIdeal.Gen.facts, Cert.ReferenceIdeal.Gen.facts, Cert.KernelKV.Gen.facts, Cert.KernelKVIdeal.Gen.facts, Cert.ReferenceKVIdeal.Gen.facts,
  Cert.KernelQ.Gen.facts, Cert.KernelQIdeal.Gen.facts, Cert.ReferenceQIdeal.Gen.facts, Cert.KernelGate.Gen.facts, Cert.KernelGateIdeal.Gen.facts, Cert.ReferenceGateIdeal.Gen.facts,
  Cert.KernelRoute.Gen.facts, Cert.KernelRouteIdeal.Gen.facts, Cert.ReferenceRouteIdeal.Gen.facts,
  Cert.Pre_in_range.Gen.facts, Cert.Pre_in_range_finite.Gen.facts, Cert.Pre_sums_of.Gen.facts, Cert.Pre_finite_sums.Gen.facts,
  Cert.Attn.frame_kernel, Cert.Attn.frame_ideal, Cert.Attn.frame_ideal_finite, Cert.Attn.frame_reference, Cert.Attn.frame_reference_finite,
  fun m ρ _ => Cert.KernelKV.Gen.frame m ρ, fun m ρ _ => Cert.KernelKVIdeal.Gen.frame m ρ, Cert.KernelKVIdeal.Gen.frame_reference,
  fun m ρ _ => Cert.KernelQ.Gen.frame m ρ, fun m ρ _ => Cert.KernelQIdeal.Gen.frame m ρ, Cert.KernelQIdeal.Gen.frame_reference,
  fun m ρ _ => Cert.KernelGate.Gen.frame m ρ, fun m ρ _ => Cert.KernelGateIdeal.Gen.frame m ρ, fun m ρ _ => Cert.KernelGateIdeal.Gen.frame m ρ,
  Cert.KernelGateIdeal.Gen.frame_reference, Cert.KernelGateIdeal.Gen.frame_reference_sums,
  fun m ρ _ => Cert.KernelRoute.Gen.frame m ρ, fun m ρ _ => Cert.KernelRouteIdeal.Gen.frame m ρ, fun m ρ _ => Cert.KernelRouteIdeal.Gen.frame m ρ,
  Cert.KernelRouteIdeal.Gen.frame_reference, Cert.KernelRouteIdeal.Gen.frame_reference_finite,
  trivial, Cert.Attn.algebraic, trivial, Cert.KernelKVIdeal.Gen.algebraic, trivial, Cert.KernelQIdeal.Gen.algebraic,
  IdealRules.named_const.statement Cert.KernelGateIdeal.κ "inv_n" .f32 0x37272F05#32 ((1 / 100352 : ℝ) : EReal) rfl, Cert.KernelGateIdeal.Gen.algebraic,
  IdealRules.named_const.statement Cert.KernelRouteIdeal.κ "taken" .f32 0xFF61B1E6#32 (⊥ : EReal) rfl, Cert.KernelRouteIdeal.Gen.algebraic⟩

end Cert.Proof

end
